-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "exit" .f32 0xC2B00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "gelu_c2" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v3_0)) (v3 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v3_0) = v2 c
          ∧ r.2.mem ((c.tc : Thread Cert.Kernel3Ideal.nD Cert.Kernel3Ideal.τ).loc Cert.Kernel3Ideal.main_v3_1) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8192x6144 : Shape := ⟨2, ![8192, 6144]⟩
abbrev S16384x4096 : Shape := ⟨2, ![16384, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S256x384 : Shape := ⟨2, ![256, 384]⟩
abbrev S8192x2048 : Shape := ⟨2, ![8192, 2048]⟩
abbrev S128x1024 : Shape := ⟨2, ![128, 1024]⟩
abbrev S8192x1024 : Shape := ⟨2, ![8192, 1024]⟩
abbrev S128x4096 : Shape := ⟨2, ![128, 4096]⟩
abbrev S1024x128 : Shape := ⟨2, ![1024, 128]⟩
abbrev S128x256 : Shape := ⟨2, ![128, 256]⟩
abbrev S128x128 : Shape := ⟨2, ![128, 128]⟩
abbrev S1024x256 : Shape := ⟨2, ![1024, 256]⟩
abbrev S1024x384 : Shape := ⟨2, ![1024, 384]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S16384x4096, .f32⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S_, .bf16⟩
  | .hbm, ⟨11, _⟩ => ⟨S256x128, .bf16⟩
  | .hbm, ⟨12, _⟩ => ⟨S256x384, .bf16⟩
  | .hbm, ⟨13, _⟩ => ⟨S8192x2048, .f32⟩
  | .hbm, ⟨14, _⟩ => ⟨S16384x4096, .bf16⟩
  | .local _ .vmem, ⟨0, _⟩ => ⟨S128x1024, .bf16⟩
  | .local _ .vmem, ⟨1, _⟩ => ⟨S128x1024, .bf16⟩
  | .local _ .vmem, ⟨2, _⟩ => ⟨S8192x1024, .bf16⟩
  | .local _ .vmem, ⟨3, _⟩ => ⟨S8192x1024, .bf16⟩
  | .local _ .vmem, ⟨4, _⟩ => ⟨S256x384, .bf16⟩
  | .local _ .vmem, ⟨5, _⟩ => ⟨S128x4096, .f32⟩
  | .local _ .vmem, ⟨6, _⟩ => ⟨S128x4096, .f32⟩
  | .local _ .vmem, ⟨7, _⟩ => ⟨S128x1024, .f32⟩
  | .local _ .vmem, ⟨8, _⟩ => ⟨S128x1024, .f32⟩
  | .local _ .vmem, ⟨9, _⟩ => ⟨S128x4096, .bf16⟩
  | .local _ .vmem, ⟨10, _⟩ => ⟨S128x4096, .bf16⟩
  | .local _ .vmem, ⟨11, _⟩ => ⟨S1024x128, .f32⟩
  | .local _ .vmem, ⟨12, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  v5
def k0_off1 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v17 : Index := Scalar.indexCast v8
  let c0_8 : Index := 0#32
  ![v17.toNat, 0]
def k0_off2 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v25 : Index := Scalar.indexCast v8
  let c128_12 : Index := 128#32
  ![v25.toNat, 128]
def k0_off3 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v33 : Index := Scalar.indexCast v8
  let c256_17 : Index := 256#32
  ![v33.toNat, 256]
def k0_off4 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v41 : Index := Scalar.indexCast v8
  let c384_22 : Index := 384#32
  ![v41.toNat, 384]
def k0_off5 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v49 : Index := Scalar.indexCast v8
  let c512_27 : Index := 512#32
  ![v49.toNat, 512]
def k0_off6 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v57 : Index := Scalar.indexCast v8
  let c640_32 : Index := 640#32
  ![v57.toNat, 640]
def k0_off7 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v65 : Index := Scalar.indexCast v8
  let c768_37 : Index := 768#32
  ![v65.toNat, 768]
def k0_off8 (i : grid0.Coords) : Fin 2 → Nat :=
  let arg1 : BitVec 32 := BitVec.ofNat 32 (i 1).val
  let c1_i32 : BitVec 32 := 1#32
  let v3 : BitVec 32 := Scalar.subi arg1 c1_i32
  let c0_i32 : BitVec 32 := 0#32
  let v4 : BitVec 32 := Scalar.maxsi v3 c0_i32
  let c128_i32 : BitVec 32 := 128#32
  let v5 : BitVec 32 := Scalar.muli v4 c128_i32
  let v8 : BitVec 32 := v5
  let v73 : Index := Scalar.indexCast v8
  let c896_42 : Index := 896#32
  ![v73.toNat, 896]
def k0_mult2 (arg11 : BitVec 32) : BitVec 32 :=
  let c128_i32_121 : BitVec 32 := 128#32
  let v187 : BitVec 32 := Scalar.muli arg11 c128_i32_121
  v187

def k0_off9 (arg11 : BitVec 32) : Fin 2 → Nat :=
  let c128_i32_121 : BitVec 32 := 128#32
  let v187 : BitVec 32 := Scalar.muli arg11 c128_i32_121
  let v190 : BitVec 32 := v187
  let v192 : Index := Scalar.indexCast v190
  let c0_126 : Index := 0#32
  ![v192.toNat, 0]
def k0_off10 (arg11 : BitVec 32) : Fin 2 → Nat :=
  let c128_i32_121 : BitVec 32 := 128#32
  let v187 : BitVec 32 := Scalar.muli arg11 c128_i32_121
  let v190 : BitVec 32 := v187
  let v198 : Index := Scalar.indexCast v190
  let c128_131 : Index := 128#32
  ![v198.toNat, 128]
def k0_off11 (arg11 : BitVec 32) : Fin 2 → Nat :=
  let c128_i32_121 : BitVec 32 := 128#32
  let v187 : BitVec 32 := Scalar.muli arg11 c128_i32_121
  let v190 : BitVec 32 := v187
  let v204 : Index := Scalar.indexCast v190
  let c256_136 : Index := 256#32
  ![v204.toNat, 256]
def k0_off12 (arg11 : BitVec 32) : Fin 2 → Nat :=
  let c128_i32_121 : BitVec 32 := 128#32
  let v187 : BitVec 32 := Scalar.muli arg11 c128_i32_121
  let v190 : BitVec 32 := v187
  let v210 : Index := Scalar.indexCast v190
  let c384_141 : Index := 384#32
  ![v210.toNat, 384]
def k0_off13 (arg11 : BitVec 32) : Fin 2 → Nat :=
  let c128_i32_121 : BitVec 32 := 128#32
  let v187 : BitVec 32 := Scalar.muli arg11 c128_i32_121
  let v190 : BitVec 32 := v187
  let v216 : Index := Scalar.indexCast v190
  let c512_146 : Index := 512#32
  ![v216.toNat, 512]
def k0_off14 (arg11 : BitVec 32) : Fin 2 → Nat :=
  let c128_i32_121 : BitVec 32 := 128#32
  let v187 : BitVec 32 := Scalar.muli arg11 c128_i32_121
  let v190 : BitVec 32 := v187
  let v222 : Index := Scalar.indexCast v190
  let c640_151 : Index := 640#32
  ![v222.toNat, 640]
def k0_off15 (arg11 : BitVec 32) : Fin 2 → Nat :=
  let c128_i32_121 : BitVec 32 := 128#32
  let v187 : BitVec 32 := Scalar.muli arg11 c128_i32_121
  let v190 : BitVec 32 := v187
  let v228 : Index := Scalar.indexCast v190
  let c768_156 : Index := 768#32
  ![v228.toNat, 768]
def k0_off16 (arg11 : BitVec 32) : Fin 2 → Nat :=
  let c128_i32_121 : BitVec 32 := 128#32
  let v187 : BitVec 32 := Scalar.muli arg11 c128_i32_121
  let v190 : BitVec 32 := v187
  let v234 : Index := Scalar.indexCast v190
  let c896_161 : Index := 896#32
  ![v234.toNat, 896]

def k0_chk1 (arg11 : BitVec 32) : Prop :=
  (128 ∣ (k0_mult2 arg11).toNat) ∧
  (∀ a, (k0_off9 arg11) a + S128x128.size a ≤ S8192x1024.size a) ∧
  (∀ a, (k0_off10 arg11) a + S128x128.size a ≤ S8192x1024.size a) ∧
  (∀ a, (k0_off11 arg11) a + S128x128.size a ≤ S8192x1024.size a) ∧
  (∀ a, (k0_off12 arg11) a + S128x128.size a ≤ S8192x1024.size a) ∧
  (∀ a, (k0_off13 arg11) a + S128x128.size a ≤ S8192x1024.size a) ∧
  (∀ a, (k0_off14 arg11) a + S128x128.size a ≤ S8192x1024.size a) ∧
  (∀ a, (k0_off15 arg11) a + S128x128.size a ≤ S8192x1024.size a) ∧
  (∀ a, (k0_off16 arg11) a + S128x128.size a ≤ S8192x1024.size a)
theorem k0_mult2_dvd : ∀ (arg11 : BitVec 32) (k0_hw1 : k0_chk1 arg11), 128 ∣ (k0_mult2 arg11).toNat := fun arg11 k0_hw1 => k0_hw1.1
theorem k0_off9_inb : ∀ (arg11 : BitVec 32) (k0_hw1 : k0_chk1 arg11), ∀ a, (k0_off9 arg11) a + S128x128.size a ≤ S8192x1024.size a := fun arg11 k0_hw1 => k0_hw1.2.1
theorem k0_off10_inb : ∀ (arg11 : BitVec 32) (k0_hw1 : k0_chk1 arg11), ∀ a, (k0_off10 arg11) a + S128x128.size a ≤ S8192x1024.size a := fun arg11 k0_hw1 => k0_hw1.2.2.1
theorem k0_off11_inb : ∀ (arg11 : BitVec 32) (k0_hw1 : k0_chk1 arg11), ∀ a, (k0_off11 arg11) a + S128x128.size a ≤ S8192x1024.size a := fun arg11 k0_hw1 => k0_hw1.2.2.2.1
theorem k0_off12_inb : ∀ (arg11 : BitVec 32) (k0_hw1 : k0_chk1 arg11), ∀ a, (k0_off12 arg11) a + S128x128.size a ≤ S8192x1024.size a := fun arg11 k0_hw1 => k0_hw1.2.2.2.2.1
theorem k0_off13_inb : ∀ (arg11 : BitVec 32) (k0_hw1 : k0_chk1 arg11), ∀ a, (k0_off13 arg11) a + S128x128.size a ≤ S8192x1024.size a := fun arg11 k0_hw1 => k0_hw1.2.2.2.2.2.1
theorem k0_off14_inb : ∀ (arg11 : BitVec 32) (k0_hw1 : k0_chk1 arg11), ∀ a, (k0_off14 arg11) a + S128x128.size a ≤ S8192x1024.size a := fun arg11 k0_hw1 => k0_hw1.2.2.2.2.2.2.1
theorem k0_off15_inb : ∀ (arg11 : BitVec 32) (k0_hw1 : k0_chk1 arg11), ∀ a, (k0_off15 arg11) a + S128x128.size a ≤ S8192x1024.size a := fun arg11 k0_hw1 => k0_hw1.2.2.2.2.2.2.2.1
theorem k0_off16_inb : ∀ (arg11 : BitVec 32) (k0_hw1 : k0_chk1 arg11), ∀ a, (k0_off16 arg11) a + S128x128.size a ≤ S8192x1024.size a := fun arg11 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "exit" => some ⊥
  | "masked" => some ⊥
  | _ => none
-- ==== ReferenceIdeal.lean ====
abbrev S8192x6144 : Shape := ⟨2, ![8192, 6144]⟩
abbrev S16384x4096 : Shape := ⟨2, ![16384, 4096]⟩
abbrev S8192x2048 : Shape := ⟨2, ![8192, 2048]⟩
abbrev S8192x16x128 : Shape := ⟨3, ![8192, 16, 128]⟩
abbrev S16x8192x128 : Shape := ⟨3, ![16, 8192, 128]⟩
abbrev S8192 : Shape := ⟨1, ![8192]⟩
abbrev S16x8192x8192 : Shape := ⟨3, ![16, 8192, 8192]⟩
abbrev S_ : Shape := ⟨0, ![]⟩
abbrev S1x1x8192 : Shape := ⟨3, ![1, 1, 8192]⟩
abbrev S1x8192x1 : Shape := ⟨3, ![1, 8192, 1]⟩
abbrev S1x8192x8192 : Shape := ⟨3, ![1, 8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S16384x4096, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S16x8192x128, .f32⟩
  | .hbm, ⟨10, _⟩ => ⟨S8192x16x128, .f32⟩
  | .hbm, ⟨11, _⟩ => ⟨S16x8192x128, .f32⟩
  | .hbm, ⟨12, _⟩ => ⟨S8192, .i32⟩
  | .hbm, ⟨13, _⟩ => ⟨S16x8192x8192, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S1x1x8192, .i32⟩
  | .hbm, ⟨18, _⟩ => ⟨S1x8192x1, .i32⟩
  | .hbm, ⟨19, _⟩ => ⟨S1x8192x8192, .i32⟩
  | .hbm, ⟨20, _⟩ => ⟨S1x8192x8192, .i32⟩
  | .hbm, ⟨21, _⟩ => ⟨S1x8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S_, .f32⟩
  | .hbm, ⟨41, _⟩ => ⟨S16x8192x8192, .i1⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S_, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S_, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .i1⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S_, .f32⟩
  | .hbm, ⟨68, _⟩ => ⟨S16x8192x8192, .i1⟩
  | .hbm, ⟨69, _⟩ => ⟨S16x8192x8192, .f32⟩
  | .hbm, ⟨70, _⟩ => ⟨S16x8192x8192, .f32⟩
  | .hbm, ⟨71, _⟩ => ⟨S16x8192x128, .f32⟩
  | .hbm, ⟨72, _⟩ => ⟨S8192x16x128, .f32⟩
  | .hbm, ⟨73, _⟩ => ⟨S8192x2048, .f32⟩
  | .hbm, ⟨74, _⟩ => ⟨S16384x4096, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩

abbrev nD : Nat := 1
abbrev τ : Topo := Topo.v7x

variable {F : FTy → Type} [FloatOps F]
-- ==== Kernel2.lean ====
abbrev S8192x4096 : Shape := ⟨2, ![8192, 4096]⟩
abbrev S4096 : Shape := ⟨1, ![4096]⟩
abbrev S4096x10240 : Shape := ⟨2, ![4096, 10240]⟩
abbrev S128 : Shape := ⟨1, ![128]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1x128 : Shape := ⟨2, ![1, 128]⟩
abbrev S2x128 : Shape := ⟨2, ![2, 128]⟩
abbrev S2x1x128 : Shape := ⟨3, ![2, 1, 128]⟩
abbrev S8192x6144 : Shape := ⟨2, ![8192, 6144]⟩
abbrev S2048x4096 : Shape := ⟨2, ![2048, 4096]⟩
abbrev S4096x512 : Shape := ⟨2, ![4096, 512]⟩
abbrev S1x1x128 : Shape := ⟨3, ![1, 1, 128]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩
abbrev S1024x4096 : Shape := ⟨2, ![1024, 4096]⟩
abbrev S1024x512 : Shape := ⟨2, ![1024, 512]⟩

abbrev nBuf : Space → Nat
  | .hbm => 13
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x10240, .f32⟩
  | .hbm, ⟨3, _⟩ => ⟨S128, .f32⟩
  | .hbm, ⟨4, _⟩ => ⟨S128, .f32⟩
  | .hbm, ⟨5, _⟩ => ⟨S1x4096, .f32⟩
  | .hbm, ⟨6, _⟩ => ⟨S8192x4096, .bf16⟩
  | .hbm, ⟨7, _⟩ => ⟨S1x128, .f32⟩
  | .hbm, ⟨8, _⟩ => ⟨S1x128, .f32⟩
  | .hbm, ⟨9, _⟩ => ⟨S2x128, .f32⟩
  | .hbm, ⟨10, _⟩ => ⟨S2x1x128, .f32⟩
  | .hbm, ⟨11, _⟩ => ⟨S8192x6144, .bf16⟩
  | .hbm, ⟨12, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S2048x4096, .bf16⟩
  | .local _ .vmem, ⟨6, _⟩ => ⟨S2048x4096, .bf16⟩
  | .local _ .vmem, ⟨7, _⟩ => ⟨S4096x512, .f32⟩
  | .local _ .vmem, ⟨8, _⟩ => ⟨S4096x512, .f32⟩
  | .local _ .vmem, ⟨9, _⟩ => ⟨S1x1x128, .f32⟩
  | .local _ .vmem, ⟨10, _⟩ => ⟨S1x1x128, .f32⟩
  | .local _ .vmem, ⟨11, _⟩ => ⟨S2048x512, .bf16⟩
  | .local _ .vmem, ⟨12, _⟩ => ⟨S2048x512, .bf16⟩
  | .local _ .vmem, ⟨13, _⟩ => ⟨S1024x4096, .bf16⟩
  | .local _ .vmem, ⟨14, _⟩ => ⟨S1024x4096, .bf16⟩
  | .local _ .vmem, ⟨15, _⟩ => ⟨S4096x512, .f32⟩
  | .local _ .vmem, ⟨16, _⟩ => ⟨S4096x512, .f32⟩
  | .local _ .vmem, ⟨17, _⟩ => ⟨S1024x512, .f32⟩
  | .local _ .vmem, ⟨18, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 12], ![false, false]⟩

def k1_cond1 (i : grid1.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k1_cond2 (i : grid1.Coords) : BitVec 1 :=
  let arg1 : BitVec 32 := BitVec.ofNat 32 (i 1).val
  let c8_i32_3 : BitVec 32 := 8#32
  let v8 : BitVec 1 := Scalar.cmpi .sge arg1 c8_i32_3
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Kernel2Ideal.lean ====
variable {F : FTy → Type} [FloatOps F] [Named F]
def κ : String → Option EReal := fun
  | "gelu_c2" => some ((80338380498831 / 2251799813685248 : ℝ) : EReal)
  | _ => none
-- ==== Reference2Ideal.lean ====
abbrev S8192x4096 : Shape := ⟨2, ![8192, 4096]⟩
abbrev S4096 : Shape := ⟨1, ![4096]⟩
abbrev S4096x10240 : Shape := ⟨2, ![4096, 10240]⟩
abbrev S128 : Shape := ⟨1, ![128]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x10240 : Shape := ⟨2, ![8192, 10240]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192 : Shape := ⟨2, ![16, 8192]⟩
abbrev S16x8192x1 : Shape := ⟨3, ![16, 8192, 1]⟩
abbrev S1x1x128 : Shape := ⟨3, ![1, 1, 128]⟩
abbrev S8192x6144 : Shape := ⟨2, ![8192, 6144]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x10240, .f32⟩
  | .hbm, ⟨3, _⟩ => ⟨S128, .f32⟩
  | .hbm, ⟨4, _⟩ => ⟨S128, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x10240, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x4096, .f32⟩
  | .hbm, ⟨26, _⟩ => ⟨S8192x16x128, .f32⟩
  | .hbm, ⟨27, _⟩ => ⟨S16x8192x128, .f32⟩
  | .hbm, ⟨28, _⟩ => ⟨S16x8192x128, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S_, .f32⟩
  | .hbm, ⟨33, _⟩ => ⟨S16x8192x1, .f32⟩
  | .hbm, ⟨34, _⟩ => ⟨S16x8192x1, .f32⟩
  | .hbm, ⟨35, _⟩ => ⟨S_, .f32⟩
  | .hbm, ⟨36, _⟩ => ⟨S16x8192x1, .f32⟩
  | .hbm, ⟨37, _⟩ => ⟨S16x8192x1, .f32⟩
  | .hbm, ⟨38, _⟩ => ⟨S16x8192x1, .f32⟩
  | .hbm, ⟨39, _⟩ => ⟨S16x8192x128, .f32⟩
  | .hbm, ⟨40, _⟩ => ⟨S16x8192x128, .f32⟩
  | .hbm, ⟨41, _⟩ => ⟨S1x1x128, .f32⟩
  | .hbm, ⟨42, _⟩ => ⟨S16x8192x128, .f32⟩
  | .hbm, ⟨43, _⟩ => ⟨S16x8192x128, .f32⟩
  | .hbm, ⟨44, _⟩ => ⟨S8192x16x128, .f32⟩
  | .hbm, ⟨45, _⟩ => ⟨S8192x2048, .f32⟩
  | .hbm, ⟨46, _⟩ => ⟨S8192x16x128, .f32⟩
  | .hbm, ⟨47, _⟩ => ⟨S16x8192x128, .f32⟩
  | .hbm, ⟨48, _⟩ => ⟨S16x8192x128, .f32⟩
  | .hbm, ⟨49, _⟩ => ⟨S_, .f32⟩
  | .hbm, ⟨50, _⟩ => ⟨S16x8192, .f32⟩
  | .hbm, ⟨51, _⟩ => ⟨S16x8192x1, .f32⟩
  | .hbm, ⟨52, _⟩ => ⟨S_, .f32⟩
  | .hbm, ⟨53, _⟩ => ⟨S16x8192x1, .f32⟩
  | .hbm, ⟨54, _⟩ => ⟨S16x8192x1, .f32⟩
  | .hbm, ⟨55, _⟩ => ⟨S_, .f32⟩
  | .hbm, ⟨56, _⟩ => ⟨S16x8192x1, .f32⟩
  | .hbm, ⟨57, _⟩ => ⟨S16x8192x1, .f32⟩
  | .hbm, ⟨58, _⟩ => ⟨S16x8192x1, .f32⟩
  | .hbm, ⟨59, _⟩ => ⟨S16x8192x128, .f32⟩
  | .hbm, ⟨60, _⟩ => ⟨S16x8192x128, .f32⟩
  | .hbm, ⟨61, _⟩ => ⟨S1x1x128, .f32⟩
  | .hbm, ⟨62, _⟩ => ⟨S16x8192x128, .f32⟩
  | .hbm, ⟨63, _⟩ => ⟨S16x8192x128, .f32⟩
  | .hbm, ⟨64, _⟩ => ⟨S8192x16x128, .f32⟩
  | .hbm, ⟨65, _⟩ => ⟨S8192x2048, .f32⟩
  | .hbm, ⟨66, _⟩ => ⟨S8192x6144, .f32⟩
  | .hbm, ⟨67, _⟩ => ⟨S8192x6144, .bf16⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S_, .f32⟩
  | .hbm, ⟨75, _⟩ => ⟨S8192x4096, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S_, .f32⟩
  | .hbm, ⟨82, _⟩ => ⟨S8192x4096, .f32⟩
  | .hbm, ⟨83, _⟩ => ⟨S8192x4096, .f32⟩
  | .hbm, ⟨84, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S4096 : Shape := ⟨1, ![4096]⟩
abbrev S8x2x128x256 : Shape := ⟨4, ![8, 2, 128, 256]⟩
abbrev S16384x4096 : Shape := ⟨2, ![16384, 4096]⟩
abbrev S1024x4096 : Shape := ⟨2, ![1024, 4096]⟩
abbrev S4096x512 : Shape := ⟨2, ![4096, 512]⟩
abbrev S1024x512 : Shape := ⟨2, ![1024, 512]⟩
abbrev S1x4096 : Shape := ⟨2, ![1, 4096]⟩
abbrev S4096x8192 : Shape := ⟨2, ![4096, 8192]⟩
abbrev S512x4096 : Shape := ⟨2, ![512, 4096]⟩
abbrev S512 : Shape := ⟨1, ![512]⟩
abbrev S512x1 : Shape := ⟨2, ![512, 1]⟩
abbrev S8x2x128x8192 : Shape := ⟨4, ![8, 2, 128, 8192]⟩
abbrev S4096x1024 : Shape := ⟨2, ![4096, 1024]⟩
abbrev S1x2x128x256 : Shape := ⟨4, ![1, 2, 128, 256]⟩
abbrev S256x4096 : Shape := ⟨2, ![256, 4096]⟩
abbrev S1x2x128x1024 : Shape := ⟨4, ![1, 2, 128, 1024]⟩
abbrev S512x1024 : Shape := ⟨2, ![512, 1024]⟩
abbrev S1x1x128x256 : Shape := ⟨4, ![1, 1, 128, 256]⟩
abbrev S128x256 : Shape := ⟨2, ![128, 256]⟩
abbrev S256x1024 : Shape := ⟨2, ![256, 1024]⟩
abbrev S128x1024 : Shape := ⟨2, ![128, 1024]⟩
abbrev S1x1x128x1024 : Shape := ⟨4, ![1, 1, 128, 1024]⟩

abbrev nBuf : Space → Nat
  | .hbm => 12
  | .vmem => 25
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096, .f32⟩
  | .hbm, ⟨4, _⟩ => ⟨S4096x4096, .f32⟩
  | .hbm, ⟨5, _⟩ => ⟨S8x2x128x256, .f32⟩
  | .hbm, ⟨6, _⟩ => ⟨S16384x4096, .f32⟩
  | .hbm, ⟨7, _⟩ => ⟨S8192x4096, .f32⟩
  | .hbm, ⟨8, _⟩ => ⟨S1x4096, .f32⟩
  | .hbm, ⟨9, _⟩ => ⟨S4096x8192, .bf16⟩
  | .hbm, ⟨10, _⟩ => ⟨S8x2x128x8192, .f32⟩
  | .hbm, ⟨11, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x4096, .f32⟩
  | .local _ .vmem, ⟨9, _⟩ => ⟨S512x4096, .f32⟩
  | .local _ .vmem, ⟨10, _⟩ => ⟨S1x4096, .f32⟩
  | .local _ .vmem, ⟨11, _⟩ => ⟨S4096x512, .bf16⟩
  | .local _ .vmem, ⟨12, _⟩ => ⟨S4096x512, .bf16⟩
  | .local _ .vmem, ⟨13, _⟩ => ⟨S4096x1024, .bf16⟩
  | .local _ .vmem, ⟨14, _⟩ => ⟨S4096x1024, .bf16⟩
  | .local _ .vmem, ⟨15, _⟩ => ⟨S4096x512, .f32⟩
  | .local _ .vmem, ⟨16, _⟩ => ⟨S4096x512, .f32⟩
  | .local _ .vmem, ⟨17, _⟩ => ⟨S1x2x128x256, .f32⟩
  | .local _ .vmem, ⟨18, _⟩ => ⟨S1x2x128x256, .f32⟩
  | .local _ .vmem, ⟨19, _⟩ => ⟨S256x4096, .f32⟩
  | .local _ .vmem, ⟨20, _⟩ => ⟨S256x4096, .f32⟩
  | .local _ .vmem, ⟨21, _⟩ => ⟨S1x2x128x1024, .f32⟩
  | .local _ .vmem, ⟨22, _⟩ => ⟨S1x2x128x1024, .f32⟩
  | .local _ .vmem, ⟨23, _⟩ => ⟨S256x4096, .bf16⟩
  | .local _ .vmem, ⟨24, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x2x128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== Reference3Ideal.lean ====
abbrev S8192x4096 : Shape := ⟨2, ![8192, 4096]⟩
abbrev S4096x4096 : Shape := ⟨2, ![4096, 4096]⟩
abbrev S4096 : Shape := ⟨1, ![4096]⟩
abbrev S8x2x128x256 : Shape := ⟨4, ![8, 2, 128, 256]⟩
abbrev S16384x4096 : Shape := ⟨2, ![16384, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x8x2x256 : Shape := ⟨4, ![8192, 8, 2, 256]⟩
abbrev S8x2x128x8192 : Shape := ⟨4, ![8, 2, 128, 8192]⟩
abbrev S8192x8x2x128 : Shape := ⟨4, ![8192, 8, 2, 128]⟩
abbrev S4096x8192 : Shape := ⟨2, ![4096, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4096, .f32⟩
  | .hbm, ⟨4, _⟩ => ⟨S4096x4096, .f32⟩
  | .hbm, ⟨5, _⟩ => ⟨S8x2x128x256, .f32⟩
  | .hbm, ⟨6, _⟩ => ⟨S16384x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x8x2x256, .f32⟩
  | .hbm, ⟨28, _⟩ => ⟨S8x2x128x8192, .f32⟩
  | .hbm, ⟨29, _⟩ => ⟨S8192x8x2x128, .f32⟩
  | .hbm, ⟨30, _⟩ => ⟨S4096x8192, .f32⟩
  | .hbm, ⟨31, _⟩ => ⟨S4096x8192, .bf16⟩
  | .hbm, ⟨32, _⟩ => ⟨S8x2x128x8192, .f32⟩
  | .hbm, ⟨33, _⟩ => ⟨S16384x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel4.lean ====
abbrev S8192x2048 : Shape := ⟨2, ![8192, 2048]⟩
abbrev S8192x4096 : Shape := ⟨2, ![8192, 4096]⟩
abbrev S16x128x128 : Shape := ⟨3, ![16, 128, 128]⟩
abbrev S16x128 : Shape := ⟨2, ![16, 128]⟩
abbrev S2048 : Shape := ⟨1, ![2048]⟩
abbrev S16x128x1 : Shape := ⟨3, ![16, 128, 1]⟩
abbrev S1x2048 : Shape := ⟨2, ![1, 2048]⟩
abbrev S512x2048 : Shape := ⟨2, ![512, 2048]⟩
abbrev S512x4096 : Shape := ⟨2, ![512, 4096]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S16x128x128, .f32⟩
  | .hbm, ⟨3, _⟩ => ⟨S16x128, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S16x128x1, .f32⟩
  | .hbm, ⟨8, _⟩ => ⟨S16x128x128, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S512x4096, .f32⟩
  | .local _ .vmem, ⟨3, _⟩ => ⟨S512x4096, .f32⟩
  | .local _ .vmem, ⟨4, _⟩ => ⟨S16x128x128, .f32⟩
  | .local _ .vmem, ⟨5, _⟩ => ⟨S16x128x128, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x4096, .bf16⟩
  | .local _ .vmem, ⟨10, _⟩ => ⟨S512x4096, .bf16⟩
  | .local _ .vmem, ⟨11, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  v4
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v6 : Index := Scalar.indexCast v5
  let c0 : Index := 0#32
  ![v6.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v23 : Index := Scalar.indexCast v5
  let c0_5 : Index := 0#32
  ![v23.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v26 : Index := Scalar.indexCast v5
  let c2048 : Index := 2048#32
  ![v26.toNat, 2048]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v52 : Index := Scalar.indexCast v5
  let c0_20 : Index := 0#32
  ![v52.toNat, 0]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v62 : Index := Scalar.indexCast v5
  let c2176 : Index := 2176#32
  ![v62.toNat, 2176]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v88 : Index := Scalar.indexCast v5
  let c128_35 : Index := 128#32
  ![v88.toNat, 128]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v98 : Index := Scalar.indexCast v5
  let c2304 : Index := 2304#32
  ![v98.toNat, 2304]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v124 : Index := Scalar.indexCast v5
  let c256_50 : Index := 256#32
  ![v124.toNat, 256]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v134 : Index := Scalar.indexCast v5
  let c2432 : Index := 2432#32
  ![v134.toNat, 2432]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v160 : Index := Scalar.indexCast v5
  let c384_65 : Index := 384#32
  ![v160.toNat, 384]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v170 : Index := Scalar.indexCast v5
  let c2560 : Index := 2560#32
  ![v170.toNat, 2560]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v196 : Index := Scalar.indexCast v5
  let c512_80 : Index := 512#32
  ![v196.toNat, 512]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v206 : Index := Scalar.indexCast v5
  let c2688 : Index := 2688#32
  ![v206.toNat, 2688]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v232 : Index := Scalar.indexCast v5
  let c640_95 : Index := 640#32
  ![v232.toNat, 640]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v242 : Index := Scalar.indexCast v5
  let c2816 : Index := 2816#32
  ![v242.toNat, 2816]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v268 : Index := Scalar.indexCast v5
  let c768_110 : Index := 768#32
  ![v268.toNat, 768]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v278 : Index := Scalar.indexCast v5
  let c2944 : Index := 2944#32
  ![v278.toNat, 2944]
def k0_off18 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v304 : Index := Scalar.indexCast v5
  let c896_125 : Index := 896#32
  ![v304.toNat, 896]
def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v314 : Index := Scalar.indexCast v5
  let c3072 : Index := 3072#32
  ![v314.toNat, 3072]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v340 : Index := Scalar.indexCast v5
  let c1024_140 : Index := 1024#32
  ![v340.toNat, 1024]
def k0_off21 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v350 : Index := Scalar.indexCast v5
  let c3200 : Index := 3200#32
  ![v350.toNat, 3200]
def k0_off22 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v376 : Index := Scalar.indexCast v5
  let c1152_155 : Index := 1152#32
  ![v376.toNat, 1152]
def k0_off23 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v386 : Index := Scalar.indexCast v5
  let c3328 : Index := 3328#32
  ![v386.toNat, 3328]
def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v412 : Index := Scalar.indexCast v5
  let c1280_170 : Index := 1280#32
  ![v412.toNat, 1280]
def k0_off25 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v422 : Index := Scalar.indexCast v5
  let c3456 : Index := 3456#32
  ![v422.toNat, 3456]
def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v448 : Index := Scalar.indexCast v5
  let c1408_185 : Index := 1408#32
  ![v448.toNat, 1408]
def k0_off27 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v458 : Index := Scalar.indexCast v5
  let c3584 : Index := 3584#32
  ![v458.toNat, 3584]
def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v484 : Index := Scalar.indexCast v5
  let c1536_200 : Index := 1536#32
  ![v484.toNat, 1536]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v494 : Index := Scalar.indexCast v5
  let c3712 : Index := 3712#32
  ![v494.toNat, 3712]
def k0_off30 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v520 : Index := Scalar.indexCast v5
  let c1664_215 : Index := 1664#32
  ![v520.toNat, 1664]
def k0_off31 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v530 : Index := Scalar.indexCast v5
  let c3840 : Index := 3840#32
  ![v530.toNat, 3840]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v556 : Index := Scalar.indexCast v5
  let c1792_230 : Index := 1792#32
  ![v556.toNat, 1792]
def k0_off33 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v566 : Index := Scalar.indexCast v5
  let c3968 : Index := 3968#32
  ![v566.toNat, 3968]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v592 : Index := Scalar.indexCast v5
  let c1920_245 : Index := 1920#32
  ![v592.toNat, 1920]
def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : BitVec 32 := v4
  let v615 : Index := Scalar.indexCast v5
  let c2048_255 : Index := 2048#32
  ![v615.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x2048 : Shape := ⟨2, ![8192, 2048]⟩
abbrev S8192x4096 : Shape := ⟨2, ![8192, 4096]⟩
abbrev S16x128x128 : Shape := ⟨3, ![16, 128, 128]⟩
abbrev S16x128 : Shape := ⟨2, ![16, 128]⟩
abbrev S2048 : Shape := ⟨1, ![2048]⟩
abbrev S64x128x16x128 : Shape := ⟨4, ![64, 128, 16, 128]⟩
abbrev S_ : Shape := ⟨0, ![]⟩
abbrev S64x128x16 : Shape := ⟨3, ![64, 128, 16]⟩
abbrev S64x128x16x1 : Shape := ⟨4, ![64, 128, 16, 1]⟩
abbrev S1x1x16x128 : Shape := ⟨4, ![1, 1, 16, 128]⟩
abbrev S128x128 : Shape := ⟨2, ![128, 128]⟩
abbrev S16x64x128x128 : Shape := ⟨4, ![16, 64, 128, 128]⟩
abbrev S128x16 : Shape := ⟨2, ![128, 16]⟩
abbrev S128x16x1 : Shape := ⟨3, ![128, 16, 1]⟩
abbrev S1x128x16x1 : Shape := ⟨4, ![1, 128, 16, 1]⟩
abbrev S8192 : Shape := ⟨1, ![8192]⟩
abbrev S8192x1 : Shape := ⟨2, ![8192, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S16x128x128, .f32⟩
  | .hbm, ⟨3, _⟩ => ⟨S16x128, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S64x128x16x128, .f32⟩
  | .hbm, ⟨10, _⟩ => ⟨S16x128, .f32⟩
  | .hbm, ⟨11, _⟩ => ⟨S64x128x16x128, .f32⟩
  | .hbm, ⟨12, _⟩ => ⟨S_, .f32⟩
  | .hbm, ⟨13, _⟩ => ⟨S64x128x16, .f32⟩
  | .hbm, ⟨14, _⟩ => ⟨S64x128x16x1, .f32⟩
  | .hbm, ⟨15, _⟩ => ⟨S_, .f32⟩
  | .hbm, ⟨16, _⟩ => ⟨S64x128x16x1, .f32⟩
  | .hbm, ⟨17, _⟩ => ⟨S64x128x16x1, .f32⟩
  | .hbm, ⟨18, _⟩ => ⟨S_, .f32⟩
  | .hbm, ⟨19, _⟩ => ⟨S64x128x16x1, .f32⟩
  | .hbm, ⟨20, _⟩ => ⟨S64x128x16x1, .f32⟩
  | .hbm, ⟨21, _⟩ => ⟨S64x128x16x1, .f32⟩
  | .hbm, ⟨22, _⟩ => ⟨S64x128x16x128, .f32⟩
  | .hbm, ⟨23, _⟩ => ⟨S64x128x16x128, .f32⟩
  | .hbm, ⟨24, _⟩ => ⟨S1x1x16x128, .f32⟩
  | .hbm, ⟨25, _⟩ => ⟨S64x128x16x128, .f32⟩
  | .hbm, ⟨26, _⟩ => ⟨S64x128x16x128, .f32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S16x128x128, .i1⟩
  | .hbm, ⟨34, _⟩ => ⟨S_, .f32⟩
  | .hbm, ⟨35, _⟩ => ⟨S16x128x128, .f32⟩
  | .hbm, ⟨36, _⟩ => ⟨S16x128x128, .f32⟩
  | .hbm, ⟨37, _⟩ => ⟨S16x64x128x128, .f32⟩
  | .hbm, ⟨38, _⟩ => ⟨S64x128x16x128, .f32⟩
  | .hbm, ⟨39, _⟩ => ⟨S128x16, .f32⟩
  | .hbm, ⟨40, _⟩ => ⟨S128x16x1, .f32⟩
  | .hbm, ⟨41, _⟩ => ⟨S1x128x16x1, .f32⟩
  | .hbm, ⟨42, _⟩ => ⟨S64x128x16x128, .f32⟩
  | .hbm, ⟨43, _⟩ => ⟨S64x128x16x128, .f32⟩
  | .hbm, ⟨44, _⟩ => ⟨S64x128x16x128, .f32⟩
  | .hbm, ⟨45, _⟩ => ⟨S64x128x16x128, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x4096, .f32⟩
  | .hbm, ⟨80, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_cst : Ref sig .tc := ⟨.hbm, 34, rfl⟩
abbrev main_call0_v6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Proof.Attn.Loop.lean ====
/- One trip of the kernel's loop over earlier key blocks, and the loop itself, as functions of the buffers' contents.
   `tripA`, `tripCarry`, `accNext`, `carryNext` say what one trip computes from the query block, the key and value
   columns, the table, the accumulator and the carry; `loop` runs the trips from block `n - 1` down to block `0`, leaving
   early when the largest carry is not above the exit constant.  `spec_le` proves that the loop's function, entered
   with the buffers at given contents, returns with the accumulator at `loop` of them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop's calls descend along the number of trips still to run. -/
abbrev 𝒱₀ : Variants := Variants.nat

/-! ## The rectangles -/

/-- The columns of head 0 in a 128-row block. -/
abbrev rQ0 : Rect S128x1024 := Rect.unit (s := S128x1024) ![0, 0] S128x128.size inb_S128x1024_S128x128_0_0
/-- The columns of head 1 in a 128-row block. -/
abbrev rQ1 : Rect S128x1024 := Rect.unit (s := S128x1024) ![0, 128] S128x128.size inb_S128x1024_S128x128_0_128
/-- The columns of head 2 in a 128-row block. -/
abbrev rQ2 : Rect S128x1024 := Rect.unit (s := S128x1024) ![0, 256] S128x128.size inb_S128x1024_S128x128_0_256
/-- The columns of head 3 in a 128-row block. -/
abbrev rQ3 : Rect S128x1024 := Rect.unit (s := S128x1024) ![0, 384] S128x128.size inb_S128x1024_S128x128_0_384
/-- The columns of head 4 in a 128-row block. -/
abbrev rQ4 : Rect S128x1024 := Rect.unit (s := S128x1024) ![0, 512] S128x128.size inb_S128x1024_S128x128_0_512
/-- The columns of head 5 in a 128-row block. -/
abbrev rQ5 : Rect S128x1024 := Rect.unit (s := S128x1024) ![0, 640] S128x128.size inb_S128x1024_S128x128_0_640
/-- The columns of head 6 in a 128-row block. -/
abbrev rQ6 : Rect S128x1024 := Rect.unit (s := S128x1024) ![0, 768] S128x128.size inb_S128x1024_S128x128_0_768
/-- The columns of head 7 in a 128-row block. -/
abbrev rQ7 : Rect S128x1024 := Rect.unit (s := S128x1024) ![0, 896] S128x128.size inb_S128x1024_S128x128_0_896
/-- The rows of head 0 in the accumulator. -/
abbrev rA0 : Rect S1024x128 := Rect.unit (s := S1024x128) ![0, 0] S128x128.size inb_S1024x128_S128x128_0_0
/-- The rows of head 1 in the accumulator. -/
abbrev rA1 : Rect S1024x128 := Rect.unit (s := S1024x128) ![128, 0] S128x128.size inb_S1024x128_S128x128_128_0
/-- The rows of head 2 in the accumulator. -/
abbrev rA2 : Rect S1024x128 := Rect.unit (s := S1024x128) ![256, 0] S128x128.size inb_S1024x128_S128x128_256_0
/-- The rows of head 3 in the accumulator. -/
abbrev rA3 : Rect S1024x128 := Rect.unit (s := S1024x128) ![384, 0] S128x128.size inb_S1024x128_S128x128_384_0
/-- The rows of head 4 in the accumulator. -/
abbrev rA4 : Rect S1024x128 := Rect.unit (s := S1024x128) ![512, 0] S128x128.size inb_S1024x128_S128x128_512_0
/-- The rows of head 5 in the accumulator. -/
abbrev rA5 : Rect S1024x128 := Rect.unit (s := S1024x128) ![640, 0] S128x128.size inb_S1024x128_S128x128_640_0
/-- The rows of head 6 in the accumulator. -/
abbrev rA6 : Rect S1024x128 := Rect.unit (s := S1024x128) ![768, 0] S128x128.size inb_S1024x128_S128x128_768_0
/-- The rows of head 7 in the accumulator. -/
abbrev rA7 : Rect S1024x128 := Rect.unit (s := S1024x128) ![896, 0] S128x128.size inb_S1024x128_S128x128_896_0
/-- The whole carry. -/
abbrev rC : Rect S1024x128 := Rect.unit (s := S1024x128) ![0, 0] S1024x128.size inb_S1024x128_S1024x128_0_0
/-- The lower right part of the table, which a trip sums with. -/
abbrev rT : Rect S256x384 := Rect.unit (s := S256x384) ![128, 128] S128x256.size inb_S256x384_S128x256_128_128

/-! ## The loop's counter -/

/-- Every block number below 64 names rows inside the key and value columns. -/
theorem chk_of_lt : ∀ n < 64, k0_chk1 (BitVec.ofNat 32 n) := by decide +kernel

/-- The counter with `n` blocks left to visit: `n - 1`. -/
abbrev ctr (n : ℕ) : BitVec 32 := Scalar.subi (BitVec.ofNat 32 n) 1#32

/-- With a block left the counter is that block's number, -/
theorem ctr_succ : ∀ n < 64, ctr (n + 1) = BitVec.ofNat 32 n := by decide +kernel
/-- which is not negative; -/
theorem sge_block : ∀ n < 64, Scalar.cmpi .sge (BitVec.ofNat 32 n) 0#32 = 1#1 := by decide +kernel
/-- with none left it is negative. -/
theorem sge_ctr_zero : Scalar.cmpi .sge (ctr 0) 0#32 = 0#1 := by decide

/-- Head 0's keys (or values) of block `n`. -/
abbrev rK0 (n : ℕ) (hn : n < 64) : Rect S8192x1024 := Rect.unit (s := S8192x1024) (k0_off9 (BitVec.ofNat 32 n)) S128x128.size (k0_off9_inb (BitVec.ofNat 32 n) (chk_of_lt n hn))
/-- Head 1's keys (or values) of block `n`. -/
abbrev rK1 (n : ℕ) (hn : n < 64) : Rect S8192x1024 := Rect.unit (s := S8192x1024) (k0_off10 (BitVec.ofNat 32 n)) S128x128.size (k0_off10_inb (BitVec.ofNat 32 n) (chk_of_lt n hn))
/-- Head 2's keys (or values) of block `n`. -/
abbrev rK2 (n : ℕ) (hn : n < 64) : Rect S8192x1024 := Rect.unit (s := S8192x1024) (k0_off11 (BitVec.ofNat 32 n)) S128x128.size (k0_off11_inb (BitVec.ofNat 32 n) (chk_of_lt n hn))
/-- Head 3's keys (or values) of block `n`. -/
abbrev rK3 (n : ℕ) (hn : n < 64) : Rect S8192x1024 := Rect.unit (s := S8192x1024) (k0_off12 (BitVec.ofNat 32 n)) S128x128.size (k0_off12_inb (BitVec.ofNat 32 n) (chk_of_lt n hn))
/-- Head 4's keys (or values) of block `n`. -/
abbrev rK4 (n : ℕ) (hn : n < 64) : Rect S8192x1024 := Rect.unit (s := S8192x1024) (k0_off13 (BitVec.ofNat 32 n)) S128x128.size (k0_off13_inb (BitVec.ofNat 32 n) (chk_of_lt n hn))
/-- Head 5's keys (or values) of block `n`. -/
abbrev rK5 (n : ℕ) (hn : n < 64) : Rect S8192x1024 := Rect.unit (s := S8192x1024) (k0_off14 (BitVec.ofNat 32 n)) S128x128.size (k0_off14_inb (BitVec.ofNat 32 n) (chk_of_lt n hn))
/-- Head 6's keys (or values) of block `n`. -/
abbrev rK6 (n : ℕ) (hn : n < 64) : Rect S8192x1024 := Rect.unit (s := S8192x1024) (k0_off15 (BitVec.ofNat 32 n)) S128x128.size (k0_off15_inb (BitVec.ofNat 32 n) (chk_of_lt n hn))
/-- Head 7's keys (or values) of block `n`. -/
abbrev rK7 (n : ℕ) (hn : n < 64) : Rect S8192x1024 := Rect.unit (s := S8192x1024) (k0_off16 (BitVec.ofNat 32 n)) S128x128.size (k0_off16_inb (BitVec.ofNat 32 n) (chk_of_lt n hn))

/-! ## One trip -/

section Trip

variable (x0 : Vec F S128x1024 .bf16) (x1 : Vec F S8192x1024 .bf16) (x2 : Vec F S8192x1024 .bf16) (x3 : Vec F S256x384 .bf16)

/-- The scores of the eight heads' queries against block `n`'s keys. -/
def tripZ (n : ℕ) (hn : n < 64) : FVec F S1024x128 .f32 :=
  k0_pay35 (k0_pay31 (View.ld x0 rQ0) (View.ld x1 (rK0 n hn))) (k0_pay32 (View.ld x0 rQ1) (View.ld x1 (rK1 n hn))) (k0_pay33 (View.ld x0 rQ2) (View.ld x1 (rK2 n hn))) (k0_pay34 (View.ld x0 rQ3) (View.ld x1 (rK3 n hn))) (View.ld x0 rQ4) (View.ld x1 (rK4 n hn)) (View.ld x0 rQ5) (View.ld x1 (rK5 n hn)) (View.ld x0 rQ6) (View.ld x1 (rK6 n hn)) (View.ld x0 rQ7) (View.ld x1 (rK7 n hn))
/-- The high part of the logarithms of one minus the breaking chance, -/
def tripHi (n : ℕ) (hn : n < 64) : FVec F S1024x128 .bf16 :=
  k0_pay37 (k0_pay31 (View.ld x0 rQ0) (View.ld x1 (rK0 n hn))) (k0_pay32 (View.ld x0 rQ1) (View.ld x1 (rK1 n hn))) (k0_pay33 (View.ld x0 rQ2) (View.ld x1 (rK2 n hn))) (k0_pay34 (View.ld x0 rQ3) (View.ld x1 (rK3 n hn))) (View.ld x0 rQ4) (View.ld x1 (rK4 n hn)) (View.ld x0 rQ5) (View.ld x1 (rK5 n hn)) (View.ld x0 rQ6) (View.ld x1 (rK6 n hn)) (View.ld x0 rQ7) (View.ld x1 (rK7 n hn))
/-- and the low part. -/
def tripLo (n : ℕ) (hn : n < 64) : FVec F S1024x128 .bf16 :=
  k0_pay38 (k0_pay31 (View.ld x0 rQ0) (View.ld x1 (rK0 n hn))) (k0_pay32 (View.ld x0 rQ1) (View.ld x1 (rK1 n hn))) (k0_pay33 (View.ld x0 rQ2) (View.ld x1 (rK2 n hn))) (k0_pay34 (View.ld x0 rQ3) (View.ld x1 (rK3 n hn))) (View.ld x0 rQ4) (View.ld x1 (rK4 n hn)) (View.ld x0 rQ5) (View.ld x1 (rK5 n hn)) (View.ld x0 rQ6) (View.ld x1 (rK6 n hn)) (View.ld x0 rQ7) (View.ld x1 (rK7 n hn))
/-- The weights of block `n`'s keys under the carry. -/
def tripA (n : ℕ) (hn : n < 64) (carry : Vec F S1024x128 .f32) : FVec F S1024x128 .bf16 :=
  k0_pay40 (k0_pay30 (View.ld x3 rT)) (tripZ x0 x1 n hn) (tripHi x0 x1 n hn) (tripLo x0 x1 n hn) (constant S1024x256 .f32 0x00000000#32) (View.ld carry rC)
/-- The carry after block `n`. -/
def tripCarry (n : ℕ) (hn : n < 64) (carry : Vec F S1024x128 .f32) : FVec F S1024x128 .f32 :=
  k0_pay41 (k0_pay30 (View.ld x3 rT)) (tripHi x0 x1 n hn) (tripLo x0 x1 n hn) (constant S1024x256 .f32 0x00000000#32) (View.ld carry rC)

/-- The accumulator after block `n`: each head's rows stored over. -/
def accNext (n : ℕ) (hn : n < 64) (acc carry : Vec F S1024x128 .f32) : Vec F S1024x128 .f32 :=
  View.canon [⟨rA7, k0_pay2 (tripA x0 x1 x3 n hn carry) (View.ld x2 (rK7 n hn)) (View.ld acc rA7)⟩,
    ⟨rA6, k0_pay1 (k0_pay49 (tripA x0 x1 x3 n hn carry) (View.ld x2 (rK6 n hn)) (View.ld acc rA6))⟩,
    ⟨rA5, k0_pay48 (tripA x0 x1 x3 n hn carry) (View.ld x2 (rK5 n hn)) (View.ld acc rA5)⟩,
    ⟨rA4, k0_pay47 (tripA x0 x1 x3 n hn carry) (View.ld x2 (rK4 n hn)) (View.ld acc rA4)⟩,
    ⟨rA3, k0_pay46 (tripA x0 x1 x3 n hn carry) (View.ld x2 (rK3 n hn)) (View.ld acc rA3)⟩,
    ⟨rA2, k0_pay45 (k0_pay44 (k0_pay30 (View.ld x3 rT)) (tripZ x0 x1 n hn) (tripHi x0 x1 n hn) (tripLo x0 x1 n hn) (constant S1024x256 .f32 0x00000000#32) (View.ld carry rC) (View.ld x2 (rK2 n hn)) (View.ld acc rA2))⟩,
    ⟨rA1, k0_pay43 (k0_pay30 (View.ld x3 rT)) (tripZ x0 x1 n hn) (tripHi x0 x1 n hn) (tripLo x0 x1 n hn) (constant S1024x256 .f32 0x00000000#32) (View.ld carry rC) (View.ld x2 (rK1 n hn)) (View.ld acc rA1)⟩,
    ⟨rA0, k0_pay42 (k0_pay30 (View.ld x3 rT)) (tripZ x0 x1 n hn) (tripHi x0 x1 n hn) (tripLo x0 x1 n hn) (constant S1024x256 .f32 0x00000000#32) (View.ld carry rC) (View.ld x2 (rK0 n hn)) (View.ld acc rA0)⟩]

/-- The carry buffer after block `n`. -/
def carryNext (n : ℕ) (hn : n < 64) (carry : Vec F S1024x128 .f32) : Vec F S1024x128 .f32 :=
  View.canon [⟨rC, k0_pay3 (tripCarry x0 x1 x3 n hn carry)⟩]

/-- The loop's test on the largest carry. -/
def goes (top : F .f32) : Prop := Scalar.cmpf .ogt top (Named.named κ "exit" 0xC2B00000#32) = 1#1

instance (top : F .f32) : Decidable (goes top) := inferInstanceAs (Decidable (_ = _))

/-- The accumulator after the loop, with blocks `n - 1, …, 0` left to visit. -/
def loop : ℕ → F .f32 → Vec F S1024x128 .f32 → Vec F S1024x128 .f32 → Vec F S1024x128 .f32
  | 0, _, acc, _ => acc
  | n + 1, top, acc, carry =>
    if goes top then
      if hn : n < 64 then
        loop n (k0_pay4 (tripCarry x0 x1 x3 n hn carry)) (accNext x0 x1 x2 x3 n hn acc carry) (carryNext x0 x1 x3 n hn carry)
      else acc
    else acc

end Trip

/-- The eight heads' rows cover the accumulator. -/
theorem coverA (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (y : S1024x128.Idx) :
    ∃ pc ∈ ([⟨rA7, p0⟩, ⟨rA6, p1⟩, ⟨rA5, p2⟩, ⟨rA4, p3⟩, ⟨rA3, p4⟩, ⟨rA2, p5⟩, ⟨rA1, p6⟩, ⟨rA0, p7⟩] : List (View.Piece (Elt F) S1024x128 .f32)), y ∈ pc.1.set :=
  View.cover_of_tiled [⟨rA7, p0⟩, ⟨rA6, p1⟩, ⟨rA5, p2⟩, ⟨rA4, p3⟩, ⟨rA3, p4⟩, ⟨rA2, p5⟩, ⟨rA1, p6⟩, ⟨rA0, p7⟩] S128x128.size (by rfl) y

/-- The whole rectangle covers the carry. -/
theorem coverC (p0 : Vec F S1024x128 .f32) (y : S1024x128.Idx) :
    ∃ pc ∈ ([⟨rC, p0⟩] : List (View.Piece (Elt F) S1024x128 .f32)), y ∈ pc.1.set :=
  View.cover_of_tiled [⟨rC, p0⟩] S1024x128.size (by rfl) y

/-! ## The loop's function -/

section Label

variable (c : Dev nD) (i : grid0.Coords)
  (arg5 : Memref sig .tc .vmem S256x384 .bf16) (harg5 : arg5.IsWhole) (arg2 : Memref sig .tc .vmem S128x1024 .bf16) (harg2 : arg2.IsWhole)
  (arg3 : Memref sig .tc .vmem S8192x1024 .bf16) (harg3 : arg3.IsWhole) (arg10 : Memref sig .tc .vmem S1024x128 .f32) (harg10 : arg10.IsWhole)
  (arg4 : Memref sig .tc .vmem S8192x1024 .bf16) (harg4 : arg4.IsWhole) (arg9 : Memref sig .tc .vmem S1024x128 .f32) (harg9 : arg9.IsWhole)
  (x0 : Vec F S128x1024 .bf16) (x1 : Vec F S8192x1024 .bf16) (x2 : Vec F S8192x1024 .bf16) (x3 : Vec F S256x384 .bf16)

/-- The six buffers the loop reads and writes, the accumulator and the carry at given contents. -/
def held (acc carry : Vec F S1024x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg9 fullShare acc ∗ owns (c : Thread nD τ) arg10 fullShare carry)

/-- The loop with `n` blocks left: from the buffers at `acc` and `carry` it returns something, the accumulator at `loop`. -/
def spec (n : ℕ) (top : F .f32) (acc carry : Vec F S1024x128 .f32) : sWPT 𝕄 (BitVec 32 × F .f32) := do
  sWPT.consume (held c arg5 arg2 arg3 arg10 arg4 arg9 x0 x1 x2 x3 acc carry)
  let r ← sWPT.arbitrary
  sWPT.produce iprop(∃ d, held c arg5 arg2 arg3 arg10 arg4 arg9 x0 x1 x2 x3 (loop x0 x1 x2 x3 n top acc carry) d)
  pure r

theorem spec_apply (n : ℕ) (top : F .f32) (acc carry : Vec F S1024x128 .f32) (K : BitVec 32 × F .f32 → sProp 𝕄) :
    spec c arg5 arg2 arg3 arg10 arg4 arg9 x0 x1 x2 x3 n top acc carry K
      = iprop(held c arg5 arg2 arg3 arg10 arg4 arg9 x0 x1 x2 x3 acc carry
          ∗ ∀ r : BitVec 32 × F .f32, (∃ d, held c arg5 arg2 arg3 arg10 arg4 arg9 x0 x1 x2 x3 (loop x0 x1 x2 x3 n top acc carry) d) -∗ K r) := rfl

/-- When the test fails the loop returns at once. -/
theorem stop_le (E : Set ℕ) (n : ℕ) (top : F .f32) (acc carry : Vec F S1024x128 .f32) (j : BitVec 32)
    (hstop : ¬ Scalar.andi (Scalar.cmpi .sge j 0#32) (Scalar.cmpf .ogt top (Named.named κ "exit" 0xC2B00000#32)) = 1#1)
    (hl : loop x0 x1 x2 x3 n top acc carry = acc) (K : BitVec 32 × F .f32 → sProp 𝕄) :
    spec c arg5 arg2 arg3 arg10 arg4 arg9 x0 x1 x2 x3 n top acc carry K
      ⊢ wp frame (wpE (defs₀ (F := F)) 𝒱₀ (c : Thread nD τ) (some n)) E
          (defs₀ (F := F) .tc 1 ⟨i, arg5, harg5, arg2, harg2, arg3, harg3, arg10, harg10, arg4, harg4, arg9, harg9, j, top⟩) K := by
  rw [spec_apply, hl]
  show _ ⊢ wp frame (wpE (defs₀ (F := F)) 𝒱₀ (c : Thread nD τ) (some n)) E
    (cc0_while1 i arg5 harg5 arg2 harg2 arg3 harg3 arg10 harg10 arg4 harg4 arg9 harg9 j top) K
  simp only [cc0_while1_eq_skeleton]; unfold cc0_while1_skel
  simp only [hstop, ↓reduceIte, Prog.pure_eq_ret]
  iintro ⟨H, Hk⟩
  rw [wp_ret]; imodintro
  iapply Hk
  iexists carry
  iexact H

/-- The loop's function, entered with `n ≤ 64` blocks of keys still to visit, meets `spec`: by induction on `n`. -/
theorem spec_le (E : Set ℕ) : ∀ n, n ≤ 64 → ∀ (top : F .f32) (acc carry : Vec F S1024x128 .f32) (K : BitVec 32 × F .f32 → sProp 𝕄),
    spec c arg5 arg2 arg3 arg10 arg4 arg9 x0 x1 x2 x3 n top acc carry K
      ⊢ wp frame (wpE (defs₀ (F := F)) 𝒱₀ (c : Thread nD τ) (some n)) E
          (defs₀ (F := F) .tc 1 ⟨i, arg5, harg5, arg2, harg2, arg3, harg3, arg10, harg10, arg4, harg4, arg9, harg9, ctr n, top⟩) K := by
  intro n
  induction n with
  | zero =>
    intro _ top acc carry K
    refine stop_le c i arg5 harg5 arg2 harg2 arg3 harg3 arg10 harg10 arg4 harg4 arg9 harg9 x0 x1 x2 x3 E 0 top acc carry (ctr 0) ?_ rfl K
    rw [sge_ctr_zero]
    simp [Scalar.andi, IntOp.andi]
  | succ n ih =>
    intro hle top acc carry K
    have hn : n < 64 := by omega
    by_cases hg : goes top
    · have hcond : Scalar.andi (Scalar.cmpi .sge (BitVec.ofNat 32 n) 0#32) (Scalar.cmpf .ogt top (Named.named κ "exit" 0xC2B00000#32)) = 1#1 := by
        rw [sge_block n hn, show Scalar.cmpf .ogt top (Named.named κ "exit" 0xC2B00000#32) = 1#1 from hg]; rfl
      have hchk := chk_of_lt n hn
      rw [spec_apply, ctr_succ n hn,
        show loop x0 x1 x2 x3 (n + 1) top acc carry = loop x0 x1 x2 x3 n (k0_pay4 (tripCarry x0 x1 x3 n hn carry)) (accNext x0 x1 x2 x3 n hn acc carry) (carryNext x0 x1 x3 n hn carry) from by
          rw [loop, if_pos hg, dif_pos hn]]
      show _ ⊢ wp frame (wpE (defs₀ (F := F)) 𝒱₀ (c : Thread nD τ) (some (n + 1))) E
        (cc0_while1 i arg5 harg5 arg2 harg2 arg3 harg3 arg10 harg10 arg4 harg4 arg9 harg9 (BitVec.ofNat 32 n) top) K
      simp only [cc0_while1_eq_skeleton]; unfold cc0_while1_skel
      simp only [k0_part6_eq_skeleton, k0_part7_eq_skeleton, k0_part8_eq_skeleton, k0_part9_eq_skeleton]
      unfold held owns
      iintro ⟨⟨⟨%f0, %hf0, H0⟩, ⟨%f1, %hf1, H1⟩, ⟨%f2, %hf2, H2⟩, ⟨%f3, %hf3, H3⟩, ⟨%f9, %hf9, H9⟩, ⟨%f10, %hf10, H10⟩⟩, Hk⟩
      subst hf0 hf1 hf2 hf3 hf9 hf10
      sl_exec
      iapply (wp_call_spec 𝒱₀ (c : Thread nD τ) (some (n + 1)) E
        (spec c arg5 arg2 arg3 arg10 arg4 arg9 (arg2.view.read (Elt F) f0) (arg3.view.read (Elt F) f1) (arg4.view.read (Elt F) f2) (arg5.view.read (Elt F) f3) n
          (k0_pay4 (tripCarry (arg2.view.read (Elt F) f0) (arg3.view.read (Elt F) f1) (arg5.view.read (Elt F) f3) n hn (arg10.view.read (Elt F) f10)))
          (accNext (arg2.view.read (Elt F) f0) (arg3.view.read (Elt F) f1) (arg4.view.read (Elt F) f2) (arg5.view.read (Elt F) f3) n hn (arg9.view.read (Elt F) f9) (arg10.view.read (Elt F) f10))
          (carryNext (arg2.view.read (Elt F) f0) (arg3.view.read (Elt F) f1) (arg5.view.read (Elt F) f3) n hn (arg10.view.read (Elt F) f10)))
        n (fun u hu => by cases hu; exact Nat.lt_succ_self n) (ih (by omega) _ _ _))
      rw [spec_apply]; unfold held owns
      isplitl [H0 H1 H2 H3 H9 H10]
      · isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists f3; isplitr; · ipureintro; rfl
          iexact H3
        isplitl [H9]
        · iexists _; isplitr
          swap; · iexact H9
          ipureintro
          exact View.read_writes_eq_canon _ _ _ (coverA _ _ _ _ _ _ _ _)
        iexists _; isplitr
        swap; · iexact H10
        ipureintro
        exact View.read_writes_eq_canon _ _ _ (coverC _)
      iintro %r H
      rw [wp_ret]; imodintro
      iapply Hk
      iexact H
    · refine stop_le c i arg5 harg5 arg2 harg2 arg3 harg3 arg10 harg10 arg4 harg4 arg9 harg9 x0 x1 x2 x3 E (n + 1) top acc carry (ctr (n + 1)) ?_ ?_ K
      · rw [ctr_succ n hn, sge_block n hn]
        intro h
        apply hg
        unfold goes
        generalize Scalar.cmpf .ogt top (Named.named κ "exit" 0xC2B00000#32) = b at h ⊢
        revert h; revert b; decide
      · rw [loop, if_neg hg]

end Label

end Cert.Proof.Attn

end
-- ==== Proof.Attn.Body.lean ====
/- The kernel's body at one grid point, as functions of the windows' blocks: the first visit (`firstZ`, `firstA`,
   `firstCarry`, `accFirst`, `carryFirst`), the accumulator after the loop (`accLast`), and what the body leaves in the two
   output windows (`out5`, the attention's block; `out6`, the table's block in the narrow type).  `sound_kernel` is the
   body's triple. -/
module

public import proofs.«01_k».proof.Proof.Attn.Loop

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The rectangles of the first visit -/

/-- The whole table. -/
abbrev rTw : Rect S256x384 := Rect.unit (s := S256x384) ![0, 0] S256x384.size inb_S256x384_S256x384_0_0
/-- The whole block of the passenger table. -/
abbrev rW : Rect S128x4096 := Rect.unit (s := S128x4096) ![0, 0] S128x4096.size inb_S128x4096_S128x4096_0_0

/-- Head 0's keys (or values) of the first visit. -/
abbrev rF0 (i : grid0.Coords) : Rect S8192x1024 := Rect.unit (s := S8192x1024) (k0_off1 i) S256x128.size (k0_off1_inb i)
/-- Head 1's keys (or values) of the first visit. -/
abbrev rF1 (i : grid0.Coords) : Rect S8192x1024 := Rect.unit (s := S8192x1024) (k0_off2 i) S256x128.size (k0_off2_inb i)
/-- Head 2's keys (or values) of the first visit. -/
abbrev rF2 (i : grid0.Coords) : Rect S8192x1024 := Rect.unit (s := S8192x1024) (k0_off3 i) S256x128.size (k0_off3_inb i)
/-- Head 3's keys (or values) of the first visit. -/
abbrev rF3 (i : grid0.Coords) : Rect S8192x1024 := Rect.unit (s := S8192x1024) (k0_off4 i) S256x128.size (k0_off4_inb i)
/-- Head 4's keys (or values) of the first visit. -/
abbrev rF4 (i : grid0.Coords) : Rect S8192x1024 := Rect.unit (s := S8192x1024) (k0_off5 i) S256x128.size (k0_off5_inb i)
/-- Head 5's keys (or values) of the first visit. -/
abbrev rF5 (i : grid0.Coords) : Rect S8192x1024 := Rect.unit (s := S8192x1024) (k0_off6 i) S256x128.size (k0_off6_inb i)
/-- Head 6's keys (or values) of the first visit. -/
abbrev rF6 (i : grid0.Coords) : Rect S8192x1024 := Rect.unit (s := S8192x1024) (k0_off7 i) S256x128.size (k0_off7_inb i)
/-- Head 7's keys (or values) of the first visit. -/
abbrev rF7 (i : grid0.Coords) : Rect S8192x1024 := Rect.unit (s := S8192x1024) (k0_off8 i) S256x128.size (k0_off8_inb i)

/-! ## The first visit -/

section First

variable (i : grid0.Coords)
  (x0 : Vec F S128x1024 .bf16) (x1 : Vec F S8192x1024 .bf16) (x2 : Vec F S8192x1024 .bf16) (x3 : Vec F S256x384 .bf16) (x4 : Vec F S128x4096 .f32)

/-- The masked scores of the first visit. -/
def firstZ : FVec F S1024x256 .f32 :=
  k0_pay14 (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i))
/-- The weights of the first visit. -/
def firstA : FVec F S1024x256 .bf16 :=
  k0_pay16 (k0_pay6 (View.ld x3 rTw)) (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i))
/-- The carry after the first visit. -/
def firstCarry : FVec F S1024x128 .f32 :=
  k0_pay17 (k0_pay6 (View.ld x3 rTw)) (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i))

/-- The accumulator after the first visit. -/
def accFirst : Vec F S1024x128 .f32 :=
  View.canon [⟨rA7, k0_pay27 (firstA i x0 x1 x3) (View.ld x2 (rF7 i))⟩,
    ⟨rA6, k0_pay26 (firstA i x0 x1 x3) (View.ld x2 (rF6 i))⟩,
    ⟨rA5, k0_pay25 (k0_pay24 (firstA i x0 x1 x3) (View.ld x2 (rF5 i)))⟩,
    ⟨rA4, k0_pay23 (firstA i x0 x1 x3) (View.ld x2 (rF4 i))⟩,
    ⟨rA3, k0_pay22 (firstA i x0 x1 x3) (View.ld x2 (rF3 i))⟩,
    ⟨rA2, k0_pay21 (firstA i x0 x1 x3) (View.ld x2 (rF2 i))⟩,
    ⟨rA1, k0_pay20 (firstA i x0 x1 x3) (View.ld x2 (rF1 i))⟩,
    ⟨rA0, k0_pay19 (k0_pay18 (k0_pay6 (View.ld x3 rTw)) (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i)) (View.ld x2 (rF0 i)))⟩]

/-- The carry buffer after the first visit. -/
def carryFirst : Vec F S1024x128 .f32 :=
  View.canon [⟨rC, k0_pay28 (firstCarry i x0 x1 x3)⟩]

/-- The accumulator after the loop. -/
def accLast : Vec F S1024x128 .f32 :=
  loop x0 x1 x2 x3 ((i 1).val - 1) (k0_pay29 (firstCarry i x0 x1 x3)) (accFirst i x0 x1 x2 x3) (carryFirst i x0 x1 x3)

/-- What the body leaves in the attention's block: each head's rows of the accumulator, as columns. -/
def out5 : Vec F S128x1024 .f32 :=
  View.canon [⟨rQ7, View.ld (accLast i x0 x1 x2 x3) rA7⟩, ⟨rQ6, View.ld (accLast i x0 x1 x2 x3) rA6⟩, ⟨rQ5, View.ld (accLast i x0 x1 x2 x3) rA5⟩, ⟨rQ4, View.ld (accLast i x0 x1 x2 x3) rA4⟩, ⟨rQ3, View.ld (accLast i x0 x1 x2 x3) rA3⟩, ⟨rQ2, View.ld (accLast i x0 x1 x2 x3) rA2⟩, ⟨rQ1, View.ld (accLast i x0 x1 x2 x3) rA1⟩, ⟨rQ0, View.ld (accLast i x0 x1 x2 x3) rA0⟩]

end First

/-- What the body leaves in the passenger table's block: the block in the narrow type. -/
def out6 (x4 : Vec F S128x4096 .f32) : Vec F S128x4096 .bf16 :=
  View.canon [⟨rW, k0_pay5 (View.ld x4 rW)⟩]

/-- The eight heads' columns cover the attention's block. -/
theorem coverQ (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (y : S128x1024.Idx) :
    ∃ pc ∈ ([⟨rQ7, p0⟩, ⟨rQ6, p1⟩, ⟨rQ5, p2⟩, ⟨rQ4, p3⟩, ⟨rQ3, p4⟩, ⟨rQ2, p5⟩, ⟨rQ1, p6⟩, ⟨rQ0, p7⟩] : List (View.Piece (Elt F) S128x1024 .f32)), y ∈ pc.1.set :=
  View.cover_of_tiled [⟨rQ7, p0⟩, ⟨rQ6, p1⟩, ⟨rQ5, p2⟩, ⟨rQ4, p3⟩, ⟨rQ3, p4⟩, ⟨rQ2, p5⟩, ⟨rQ1, p6⟩, ⟨rQ0, p7⟩] S128x128.size (by rfl) y

/-- The whole rectangle covers the passenger table's block. -/
theorem coverW (p0 : Vec F S128x4096 .bf16) (y : S128x4096.Idx) :
    ∃ pc ∈ ([⟨rW, p0⟩] : List (View.Piece (Elt F) S128x4096 .bf16)), y ∈ pc.1.set :=
  View.cover_of_tiled [⟨rW, p0⟩] S128x4096.size (by rfl) y

/-- The counter the loop is entered with: one less than the first visit's block. -/
theorem entry_ctr : ∀ b < 64, Scalar.subi (Scalar.maxsi (Scalar.subi (BitVec.ofNat 32 b) 1#32) 0#32) 1#32 = ctr (b - 1) := by decide +kernel

/-! ## The body's triple -/

set_option maxHeartbeats 4000000 in
/-- The kernel's body, holding the windows' buffers and the two scratch buffers, leaves the inputs as they were and the
    outputs at `out5` and `out6` of the inputs' blocks. -/
theorem sound_kernel (c : Dev nD) (i : grid0.Coords) (arg2 : Memref sig .tc .vmem S128x1024 .bf16) (harg2 : arg2.IsWhole) (arg3 : Memref sig .tc .vmem S8192x1024 .bf16) (harg3 : arg3.IsWhole) (arg4 : Memref sig .tc .vmem S8192x1024 .bf16) (harg4 : arg4.IsWhole) (arg5 : Memref sig .tc .vmem S256x384 .bf16) (harg5 : arg5.IsWhole) (arg6 : Memref sig .tc .vmem S128x4096 .f32) (harg6 : arg6.IsWhole) (arg7 : Memref sig .tc .vmem S128x1024 .f32) (harg7 : arg7.IsWhole) (arg8 : Memref sig .tc .vmem S128x4096 .bf16) (harg8 : arg8.IsWhole) (arg9 : Memref sig .tc .vmem S1024x128 .f32) (harg9 : arg9.IsWhole) (arg10 : Memref sig .tc .vmem S1024x128 .f32) (harg10 : arg10.IsWhole)
    (x0 : Vec F S128x1024 .bf16) (x1 : Vec F S8192x1024 .bf16) (x2 : Vec F S8192x1024 .bf16) (x3 : Vec F S256x384 .bf16) (x4 : Vec F S128x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 i x0 x1 x2 x3) ∗ owns (c : Thread nD τ) arg8 fullShare (out6 x4)
          ∗ (∃ d, owns (c : Thread nD τ) arg9 fullShare d) ∗ (∃ d, owns (c : Thread nD τ) arg10 fullShare d)) -∗ K ⟨⟩))
      ⊢ wp frame (wpE (defs₀ (F := F)) 𝒱₀ c none) Set.univ (cc0_sb_attention i arg2 harg2 arg3 harg3 arg4 harg4 arg5 harg5 arg6 harg6 arg7 harg7 arg8 harg8 arg9 harg9 arg10 harg10) K := by
  have hb : (i 1).val < 64 := (i 1).isLt
  simp only [cc0_sb_attention_eq_skeleton]; unfold cc0_sb_attention_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
  subst hf0 hf1 hf2 hf3 hf4
  sl_exec
  have hT := spec_le c i arg5 harg5 arg2 harg2 arg3 harg3 arg10 harg10 arg4 harg4 arg9 harg9 (arg2.view.read (Elt F) f0) (arg3.view.read (Elt F) f1) (arg4.view.read (Elt F) f2) (arg5.view.read (Elt F) f3) Set.univ ((i 1).val - 1) (by omega)
    (k0_pay29 (firstCarry i (arg2.view.read (Elt F) f0) (arg3.view.read (Elt F) f1) (arg5.view.read (Elt F) f3)))
    (accFirst i (arg2.view.read (Elt F) f0) (arg3.view.read (Elt F) f1) (arg4.view.read (Elt F) f2) (arg5.view.read (Elt F) f3))
    (carryFirst i (arg2.view.read (Elt F) f0) (arg3.view.read (Elt F) f1) (arg5.view.read (Elt F) f3))
  rw [← entry_ctr (i 1).val hb] at hT
  iapply (wp_call_spec 𝒱₀ (c : Thread nD τ) none Set.univ _ ((i 1).val - 1) (fun u hu => nomatch hu) hT)
  rw [spec_apply]; unfold held owns
  isplitl [H0 H1 H2 H3 H9 H10]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H9]
    · iexists _; isplitr
      swap; · iexact H9
      ipureintro
      exact View.read_writes_eq_canon _ _ _ (coverA _ _ _ _ _ _ _ _)
    iexists _; isplitr
    swap; · iexact H10
    ipureintro
    exact View.read_writes_eq_canon _ _ _ (coverC _)
  iintro %r ⟨%dd, ⟨%g0, %hg0, H0⟩, ⟨%g1, %hg1, H1⟩, ⟨%g2, %hg2, H2⟩, ⟨%g3, %hg3, H3⟩, ⟨%g9, %hg9, H9⟩, ⟨%g10, -, H10⟩⟩
  sl_exec
  sl_step
  iapply Hk
  isplitl [H0]
  · iexists g0; isplitr; · ipureintro; exact hg0
    iexact H0
  isplitl [H1]
  · iexists g1; isplitr; · ipureintro; exact hg1
    iexact H1
  isplitl [H2]
  · iexists g2; isplitr; · ipureintro; exact hg2
    iexact H2
  isplitl [H3]
  · iexists g3; isplitr; · ipureintro; exact hg3
    iexact H3
  isplitl [H4]
  · iexists f4; isplitr; · ipureintro; rfl
    iexact H4
  isplitl [H7]
  · iexists _; isplitr
    swap; · iexact H7
    ipureintro
    unfold out5 accLast
    rw [← hg9]
    exact View.read_writes_eq_canon _ _ _ (coverQ _ _ _ _ _ _ _ _)
  isplitl [H8]
  · iexists _; isplitr
    swap; · iexact H8
    ipureintro
    exact View.read_writes_eq_canon _ _ _ (coverW _)
  isplitl [H9]
  · iexists _; iexists g9; isplitr; · ipureintro; rfl
    iexact H9
  iexists _; iexists g10; isplitr; · ipureintro; rfl
  iexact H10

end Cert.Proof.Attn

end
-- ==== Proof.Attn.Launch.lean ====
/- From the body's triple to the run of the whole program: the region's arrays at entry (`V`), the windows' blocks
   (`blkAt`), the pipeline's proof data (`dats`), the obligation at every grid point (`body_obligation`), the run
   (`run_main`), and what the two result arrays hold block by block (`block5`, `block6`). -/
module

public import proofs.«01_k».proof.Proof.Attn.Body
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The region's arrays -/

/-- A buffer as the region finds it: the launch contents after the host operations. -/
abbrev V (c : Dev nD) (b : Ref sig .tc) : Buf (Elt F) ((c : Thread nD τ).loc b) := StableHlo.after hostOps0 (fun b => m (c, b)) b

/-- No host operation leaves anything to be found fresh. -/
theorem hostOps0_fresh : (hostOps0 : List (HloOp τ sig (Elt F))).Forall fun op => op.fresh = ∅ := by
  simp only [List.Forall]; repeat' constructor

set_option maxHeartbeats 800000 in
/-- The program is the host operations followed by the region. -/
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The proof data -/

/-- Window `w`'s block at point `t`, read off its array as the region finds it. -/
def blkAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: an input's buffer is left at its block, an output's at what the body computes of the
    inputs' blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => (out5 (grid0.coords t) (blkAt m c 0 t) (blkAt m c 1 t) (blkAt m c 2 t) (blkAt m c 3 t))
    | ⟨6, _⟩ => (out6 (blkAt m c 4 t))
  Φ _ := Pipeline.ΦA spec0 c
  q w := Pipeline.shareOf spec0 w
  owed _ := 0

/-- The proof data's arrays are what the region finds. -/
theorem A_eq (c : Dev nD) (w : Fin (cfg0 (F := F)).W) : (dats m 0 c).A w = V m c (Pipeline.arrRef spec0 w) := by
  dsimp only [dats]

/-- Window 0's buffer is left at its block. -/
theorem after_0 (c : Dev nD) (t : Fin (cfg0 (F := F)).N) : (dats m 0 c).after 0 t = blkAt m c 0 t := by dsimp only [dats]; rfl
/-- Window 0's buffer is found at its block. -/
theorem before_0 (c : Dev nD) (t : Fin (cfg0 (F := F)).N) (d) : (dats m 0 c).before 0 t d = blkAt m c 0 t :=
  ((dats m 0 c).before_in_eq_fetched 0 rfl (fun _ => rfl) (fun _ _ _ => rfl) (fun t => by rw [after_0]; unfold Dat.blockOf blkAt; rw [A_eq]; try rfl) t d).trans
    (by unfold Dat.fetched Dat.blockOf blkAt; rw [A_eq]; try rfl)
/-- Window 1's buffer is left at its block. -/
theorem after_1 (c : Dev nD) (t : Fin (cfg0 (F := F)).N) : (dats m 0 c).after 1 t = blkAt m c 1 t := by dsimp only [dats]; rfl
/-- Window 1's buffer is found at its block. -/
theorem before_1 (c : Dev nD) (t : Fin (cfg0 (F := F)).N) (d) : (dats m 0 c).before 1 t d = blkAt m c 1 t :=
  ((dats m 0 c).before_in_eq_fetched 1 rfl (fun _ => rfl) (fun _ _ _ => rfl) (fun t => by rw [after_1]; unfold Dat.blockOf blkAt; rw [A_eq]; try rfl) t d).trans
    (by unfold Dat.fetched Dat.blockOf blkAt; rw [A_eq]; try rfl)
/-- Window 2's buffer is left at its block. -/
theorem after_2 (c : Dev nD) (t : Fin (cfg0 (F := F)).N) : (dats m 0 c).after 2 t = blkAt m c 2 t := by dsimp only [dats]; rfl
/-- Window 2's buffer is found at its block. -/
theorem before_2 (c : Dev nD) (t : Fin (cfg0 (F := F)).N) (d) : (dats m 0 c).before 2 t d = blkAt m c 2 t :=
  ((dats m 0 c).before_in_eq_fetched 2 rfl (fun _ => rfl) (fun _ _ _ => rfl) (fun t => by rw [after_2]; unfold Dat.blockOf blkAt; rw [A_eq]; try rfl) t d).trans
    (by unfold Dat.fetched Dat.blockOf blkAt; rw [A_eq]; try rfl)
/-- Window 3's buffer is left at its block. -/
theorem after_3 (c : Dev nD) (t : Fin (cfg0 (F := F)).N) : (dats m 0 c).after 3 t = blkAt m c 3 t := by dsimp only [dats]; rfl
/-- Window 3's buffer is found at its block. -/
theorem before_3 (c : Dev nD) (t : Fin (cfg0 (F := F)).N) (d) : (dats m 0 c).before 3 t d = blkAt m c 3 t :=
  ((dats m 0 c).before_in_eq_fetched 3 rfl (fun _ => rfl) (fun _ _ _ => rfl) (fun t => by rw [after_3]; unfold Dat.blockOf blkAt; rw [A_eq]; try rfl) t d).trans
    (by unfold Dat.fetched Dat.blockOf blkAt; rw [A_eq]; try rfl)
/-- Window 4's buffer is left at its block. -/
theorem after_4 (c : Dev nD) (t : Fin (cfg0 (F := F)).N) : (dats m 0 c).after 4 t = blkAt m c 4 t := by dsimp only [dats]; rfl
/-- Window 4's buffer is found at its block. -/
theorem before_4 (c : Dev nD) (t : Fin (cfg0 (F := F)).N) (d) : (dats m 0 c).before 4 t d = blkAt m c 4 t :=
  ((dats m 0 c).before_in_eq_fetched 4 rfl (fun _ => rfl) (fun _ _ _ => rfl) (fun t => by rw [after_4]; unfold Dat.blockOf blkAt; rw [A_eq]; try rfl) t d).trans
    (by unfold Dat.fetched Dat.blockOf blkAt; rw [A_eq]; try rfl)
/-- Window 5's buffer is left at the attention's block. -/
theorem after_5 (c : Dev nD) (t : Fin (cfg0 (F := F)).N) : (dats m 0 c).after 5 t = (out5 (grid0.coords t) (blkAt m c 0 t) (blkAt m c 1 t) (blkAt m c 2 t) (blkAt m c 3 t)) := by dsimp only [dats]; rfl
/-- Window 6's buffer is left at the passenger table's block. -/
theorem after_6 (c : Dev nD) (t : Fin (cfg0 (F := F)).N) : (dats m 0 c).after 6 t = (out6 (blkAt m c 4 t)) := by dsimp only [dats]; rfl

/-! ## The obligation at a grid point -/

/-- What the body is handed at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back at point `t`. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The region's invariant is the two scratch buffers, at any contents, and the generator register. -/
theorem inv_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole]

set_option maxHeartbeats 1000000 in
/-- The body at any point: the two scratch buffers come out of the region's invariant and return to it. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq,
    after_0, after_1, after_2, after_3, after_4, after_5, after_6]
  iintro ⟨⟨⟨H9, H10⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ (blkAt m c 0 t) (blkAt m c 1 t) (blkAt m c 2 t) (blkAt m c 3 t) (blkAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H9]; · iexact H9
  isplitl [H10]; · iexact H10
  iintro ⟨H0, H1, H2, H3, H4, H5, H6, H9, H10⟩
  isplitl [H9 H10 Hp]
  · isplitl [H9 H10]
    · isplitl [H9]; · iexact H9
      iexact H10
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body at that point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation on the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: every execution ends, with the arrays at what the proof data says and every semaphore counter at zero. -/
theorem run_all : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The run, read at the results and the arguments. -/
theorem run_main : θ_run defs (onTc (τ := τ) (main (F := F))) ⟨m, fun _ => 0, ρ⟩ fun r => (∀ c : Dev nD,
      r.2.mem ((c : Thread nD τ).loc main_v10_0) = (dats m 0 c).arrAt 5 (cfg0 (F := F)).N
      ∧ r.2.mem ((c : Thread nD τ).loc main_v10_1) = (dats m 0 c).arrAt 6 (cfg0 (F := F)).N
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => ⟨(h.1 c).1 5, (h.1 c).1 6,
      ((h.1 c).1 2).trans (((dats m 0 c).arrAt_in 2 rfl _).trans ((A_eq m c 2).trans (V_main_arg0 m c))),
      ((h.1 c).1 4).trans (((dats m 0 c).arrAt_in 4 rfl _).trans ((A_eq m c 4).trans (V_main_arg1 m c)))⟩, h.2⟩)
    (run_all m ρ)

/-! ## The result arrays, block by block -/

/-- Distinct points write distinct blocks of window 5. -/
theorem index_inj5 : ∀ t t' : Fin (cfg0 (F := F)).N, win0_5.index t = win0_5.index t' → t = t' :=
  (by decide +kernel : ∀ t t' : Fin grid0.N, win0_5.index t = win0_5.index t' → t = t')

/-- Block `t` of window 5's array at the end of the run is what the body left at point `t`. -/
theorem block5 (c : Dev nD) (t : Fin (cfg0 (F := F)).N) :
    (((cfg0 (F := F)).win 5).blk t).view.read (Elt F) ((dats m 0 c).arrAt 5 (cfg0 (F := F)).N) = ((cfg0 (F := F)).win 5).cut (grid0.coords t) (out5 (grid0.coords t) (blkAt m c 0 t) (blkAt m c 1 t) (blkAt m c 2 t) (blkAt m c 3 t)) := by
  refine ((dats m 0 c).read_blk_arrAt_eq_flushed 5 (fun t t' _ _ hne => ((cfg0 (F := F)).win 5).disjoint_blk fun h => hne (index_inj5 t t' h)) (cfg0 (F := F)).N t t.isLt (flush0_5 t)).trans ?_
  show ((cfg0 (F := F)).win 5).cut (grid0.coords t) ((dats m 0 c).after 5 t) = _
  rw [after_5]

/-- Distinct points write distinct blocks of window 6. -/
theorem index_inj6 : ∀ t t' : Fin (cfg0 (F := F)).N, win0_6.index t = win0_6.index t' → t = t' :=
  (by decide +kernel : ∀ t t' : Fin grid0.N, win0_6.index t = win0_6.index t' → t = t')

/-- Block `t` of window 6's array at the end of the run is what the body left at point `t`. -/
theorem block6 (c : Dev nD) (t : Fin (cfg0 (F := F)).N) :
    (((cfg0 (F := F)).win 6).blk t).view.read (Elt F) ((dats m 0 c).arrAt 6 (cfg0 (F := F)).N) = ((cfg0 (F := F)).win 6).cut (grid0.coords t) (out6 (blkAt m c 4 t)) := by
  refine ((dats m 0 c).read_blk_arrAt_eq_flushed 6 (fun t t' _ _ hne => ((cfg0 (F := F)).win 6).disjoint_blk fun h => hne (index_inj6 t t' h)) (cfg0 (F := F)).N t t.isLt (flush0_6 t)).trans ?_
  show ((cfg0 (F := F)).win 6).cut (grid0.coords t) ((dats m 0 c).after 6 t) = _
  rw [after_6]

end Cert.Proof.Attn

end
-- ==== Proof.Frames.lean ====
/- The frames: the kernel's run, its idealization's and the reference's, each read at the arguments and the semaphore
   counters. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Attn.Launch
public import proofs.«01_k».proof.Proof.AttnK.Launch
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel runs to the end, its arguments unchanged and every semaphore counter at zero. -/
theorem frame_kernel : Cert.quiescent_Kernel := fun m ρ _ =>
  (θ_run (Cert.Kernel.defs (F := Bits)) _ _).mono (fun _ h => ⟨fun c => (h.1 c).2.2, h.2⟩) (AttnK.run_main (F := Bits) m ρ)

/-- So does its idealization. -/
theorem frame_ideal : Cert.quiescent_KernelIdeal := fun m ρ _ =>
  (θ_run (Cert.KernelIdeal.defs (F := Ideal)) _ _).mono (fun _ h => ⟨fun c => (h.1 c).2.2, h.2⟩) (Attn.run_main (F := Ideal) m ρ)

/-- So does the reference, which has no semaphore. -/
theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- The constants the idealization names, each the value it is named. -/
theorem names : Cert.preserves_Kernel_KernelIdeal :=
  ⟨IdealRules.named_const.statement _ _ _ _ _ rfl, IdealRules.named_const.statement _ _ _ _ _ rfl⟩

end Cert.Proof

end
-- ==== Proof.Stick.Math.lean ====
/- The mathematics of stick breaking over the extended reals, free of any program: the logarithm of one minus the logistic
   of a score (`log1m`), the sum of those logarithms from a key on (`suf`), the weight of a key (`wgt`), and the facts the
   kernel's blocks and the reference's formula are both compared through. -/
module

public import Idealize.ShloMosaic.PureOps.Ideal

@[expose] public section

noncomputable section

namespace Cert.Proof.Stick

open Idealize.ShloMosaic
open scoped BigOperators

/-! ## The logarithm of one minus the logistic -/

/-- The logarithm of one minus the logistic of a score, as the kernel computes it. -/
def log1m (z : EReal) : EReal := 0 - (max z 0 + Ideal.log (1 + Ideal.exp (0 - max z (-z))))

/-- The softplus, as the reference computes it. -/
def softplus (y : EReal) : EReal := max y 0 + Ideal.log1p (Ideal.exp (-(max y (-y))))

/-- The kernel's logarithm is minus the reference's softplus. -/
theorem log1m_eq (z : EReal) : log1m z = -softplus z := by
  simp only [log1m, softplus, Ideal.log1p, zero_sub]

/-- The logarithm of one is zero. -/
theorem log_one : Ideal.log 1 = 0 := by
  rw [← EReal.coe_one, Ideal.log_coe, if_neg (by norm_num), Real.log_one, EReal.coe_zero]

/-- The greater of two real numbers is the same among the extended reals. -/
theorem coe_max (a b : ℝ) : ((max a b : ℝ) : EReal) = max (a : EReal) (b : EReal) := EReal.coe_strictMono.monotone.map_max

/-- The softplus of minus infinity is zero. -/
@[simp] theorem softplus_bot : softplus ⊥ = 0 := by
  simp [softplus, Ideal.log1p, log_one]

/-- The softplus of plus infinity is plus infinity. -/
@[simp] theorem softplus_top : softplus ⊤ = ⊤ := by
  simp [softplus, Ideal.log1p, log_one]

/-- At a score of minus infinity the logarithm is zero. -/
@[simp] theorem log1m_bot : log1m ⊥ = 0 := by rw [log1m_eq, softplus_bot, neg_zero]

/-- At a score of plus infinity the logarithm is minus infinity. -/
@[simp] theorem log1m_top : log1m ⊤ = ⊥ := by rw [log1m_eq, softplus_top, EReal.neg_top]

/-- The softplus of a real number is a real number. -/
theorem softplus_coe (r : ℝ) : softplus (r : EReal) = ((max r 0 + Real.log (1 + Real.exp (-(max r (-r)))) : ℝ) : EReal) := by
  have h : ¬ (1 + Real.exp (-(max r (-r))) ≤ 0) := by have := Real.exp_pos (-(max r (-r))); linarith
  have hm : max (r : EReal) (-(r : EReal)) = ((max r (-r) : ℝ) : EReal) := by
    rw [← EReal.coe_neg, coe_max]
  have h0 : max (r : EReal) 0 = ((max r 0 : ℝ) : EReal) := by rw [coe_max, EReal.coe_zero]
  rw [softplus, hm, h0, ← EReal.coe_neg, Ideal.exp_coe, Ideal.log1p, show (1 : EReal) = ((1 : ℝ) : EReal) from rfl,
    ← EReal.coe_add, Ideal.log_coe, if_neg h, ← EReal.coe_add]

/-- The logarithm is never plus infinity. -/
theorem log1m_ne_top (z : EReal) : log1m z ≠ ⊤ := by
  induction z with
  | bot => simp
  | top => simp
  | coe r => rw [log1m_eq, softplus_coe, ← EReal.coe_neg]; exact EReal.coe_ne_top _

/-- Splitting a value other than plus infinity into itself and what is left over loses nothing, against a weight of zero
    or one. -/
theorem split_mul {x T : EReal} (hx : x ≠ ⊤) (hT : T = 0 ∨ T = 1) : x * T + (x - x) * T = x * T := by
  rcases hT with rfl | rfl
  · simp
  · induction x with
    | bot => simp
    | top => exact absurd rfl hx
    | coe r => rw [mul_one, mul_one, ← EReal.coe_sub, sub_self, EReal.coe_zero, add_zero]

/-- For a real score the logistic's logarithm is the score plus the logarithm of one minus the logistic. -/
theorem neg_softplus_neg_coe (r : ℝ) : -softplus (-(r : EReal)) = (r : EReal) + log1m r := by
  rw [log1m_eq, ← EReal.coe_neg, softplus_coe, softplus_coe, ← EReal.coe_neg, ← EReal.coe_neg, ← EReal.coe_add,
    EReal.coe_eq_coe_iff, neg_neg, max_comm (-r) r]
  rcases le_total 0 r with h | h
  · rw [max_eq_right (by linarith : -r ≤ 0), max_eq_left h]; ring
  · rw [max_eq_left (by linarith : (0 : ℝ) ≤ -r), max_eq_right h]; ring

/-! ## A row's sums and weights -/

/-- A row's logarithms, zero from the row's own position on. -/
def lm (z : ℕ → EReal) (t j : ℕ) : EReal := if j < t then log1m (z j) else 0

/-- A row's scores, minus infinity from the row's own position on. -/
def zm (z : ℕ → EReal) (t j : ℕ) : EReal := if j < t then z j else ⊥

/-- The sum of a row's logarithms from key `s` on. -/
def suf (z : ℕ → EReal) (t s : ℕ) : EReal := ∑ j ∈ Finset.Ico s 8192, lm z t j

/-- The weight of key `s` in row `t`. -/
def wgt (z : ℕ → EReal) (t s : ℕ) : EReal := if s < t then Ideal.exp (z s + suf z t s) else 0

/-- The logarithm of a masked score is the masked logarithm. -/
theorem log1m_zm (z : ℕ → EReal) (t j : ℕ) : log1m (zm z t j) = lm z t j := by
  unfold zm lm; split
  · rfl
  · exact log1m_bot

/-- A row's logarithms are never plus infinity. -/
theorem lm_ne_top (z : ℕ → EReal) (t j : ℕ) : lm z t j ≠ ⊤ := by
  unfold lm; split
  · exact log1m_ne_top _
  · exact EReal.zero_ne_top

/-- The weight, from the masked score. -/
theorem exp_zm (z : ℕ → EReal) (t s : ℕ) : Ideal.exp (zm z t s + suf z t s) = wgt z t s := by
  unfold zm wgt; split
  · rfl
  · rw [EReal.bot_add]; rfl

/-- Keys from the row's own position on add nothing. -/
theorem suf_eq_Ico (z : ℕ → EReal) {t s e : ℕ} (he : t ≤ e) (h : e ≤ 8192) : suf z t s = ∑ j ∈ Finset.Ico s e, lm z t j := by
  unfold suf
  symm
  refine Finset.sum_subset (fun j hj => ?_) fun j hj hn => ?_
  · rw [Finset.mem_Ico] at hj ⊢; omega
  · rw [Finset.mem_Ico] at hj hn; unfold lm; rw [if_neg (by omega)]

/-- A row's sum from a key on is the sum up to a later key plus the sum from there on. -/
theorem suf_add (z : ℕ → EReal) (t : ℕ) {s e : ℕ} (h : s ≤ e) (he : e ≤ 8192) :
    (∑ j ∈ Finset.Ico s e, lm z t j) + suf z t e = suf z t s := Finset.sum_Ico_consecutive _ h he

/-- Once the sum is minus infinity, every earlier key's weight is zero. -/
theorem wgt_eq_zero (z : ℕ → EReal) (t : ℕ) {s e : ℕ} (h : s ≤ e) (he : e ≤ 8192) (hb : suf z t e = ⊥) : wgt z t s = 0 := by
  unfold wgt; split
  · rw [← suf_add z t h he, hb, EReal.add_bot, EReal.add_bot]; rfl
  · rfl

/-- The reference's weight: the logistic's logarithm plus the sum of the later logarithms, the key's own taken off again. -/
theorem reference_weight (z : ℕ → EReal) {t s : ℕ} (h : s < t) (ht : t ≤ 8192) :
    Ideal.exp (-softplus (-(z s)) + (suf z t s - lm z t s)) = wgt z t s := by
  have hs : suf z t s = lm z t s + ∑ j ∈ Finset.Ico (s + 1) 8192, lm z t j := Finset.sum_eq_sum_Ico_succ_bot (by omega) _
  have hl : lm z t s = log1m (z s) := if_pos h
  rw [wgt, if_pos h]
  congr 1
  rw [hs, hl]
  generalize (∑ j ∈ Finset.Ico (s + 1) 8192, lm z t j) = X
  induction z s with
  | bot => simp
  | top => simp [sub_eq_add_neg]
  | coe r =>
    rw [neg_softplus_neg_coe]
    have : log1m (r : EReal) = ((-(max r 0 + Real.log (1 + Real.exp (-(max r (-r))))) : ℝ) : EReal) := by
      rw [log1m_eq, softplus_coe, ← EReal.coe_neg]
    rw [this, add_comm _ X, EReal.add_sub_cancel_right, add_assoc, add_comm X]

/-! ## Sums over a block of keys -/

/-- The keys of a block from a column on, as a range of keys. -/
theorem sum_block (f : ℕ → EReal) (b n c : ℕ) :
    (∑ k : Fin n, if c ≤ k.val then f (b + k.val) else 0) = ∑ j ∈ Finset.Ico (b + c) (b + n), f j := by
  rw [← Finset.sum_range fun k => if c ≤ k then f (b + k) else 0, ← Finset.sum_filter, add_comm b c, add_comm b n,
    ← Finset.sum_Ico_add']
  refine Finset.sum_congr ?_ fun k _ => by rw [add_comm]
  ext k; simp only [Finset.mem_filter, Finset.mem_range, Finset.mem_Ico]; omega

/-- A whole block of keys, as a range of keys. -/
theorem sum_block_all (f : ℕ → EReal) (b n : ℕ) : (∑ k : Fin n, f (b + k.val)) = ∑ j ∈ Finset.Ico b (b + n), f j := by
  simpa using sum_block f b n 0

/-- The two products of a block's logarithms, in two parts, with a table of zeros and ones add up to the sum of the
    logarithms the table keeps. -/
theorem sum_split {n : ℕ} (x T : Fin n → EReal) (P : Fin n → Prop) [DecidablePred P] (hx : ∀ k, x k ≠ ⊤)
    (hT : ∀ k, T k = if P k then 1 else 0) :
    (∑ k, x k * T k) + (∑ k, (x k - x k) * T k) = ∑ k, if P k then x k else 0 := by
  rw [← Finset.sum_add_distrib]
  refine Finset.sum_congr rfl fun k _ => ?_
  rw [split_mul (hx k) (by rw [hT]; split <;> simp), hT]
  split <;> simp

end Cert.Proof.Stick

end
-- ==== Proof.Stick.Attend.lean ====
/- The mathematics both programs compute: stick-breaking attention of sixteen heads over 8192 places, at the extended reals. -/
module

public import proofs.«01_k».proof.Proof.Stick.Math
public import Idealize.ShloMosaic.Lib.Pointwise
public import Idealize.ShloMosaic.Lib.WordCmp

@[expose] public section

noncomputable section

namespace Cert.Proof.Stick

open Idealize.ShloMosaic
open scoped BigOperators

/-- Small words compare as the numbers they stand for. -/
theorem slt_small {a b : ℕ} (ha : a < 8192) (hb : b < 8192) :
    IntOp.cmpi .slt (BitVec.ofNat 32 a) (BitVec.ofNat 32 b) = if a < b then 1#1 else 0#1 := by
  rw [WordCmp.cmpi_slt_ofNat (by omega) (by omega)]
  by_cases h : a < b <;> simp [h]

/-- The scale of the scores, the number the 32-bit word stands for. -/
abbrev scale : EReal := Ideal.ofBits .f32 0x3DB504F3#32

/-- The shape of the projections: the queries, the keys and the values side by side. -/
abbrev ProjShape : Shape := ⟨2, ![8192, 6144]⟩

/-- The projections, at row `s` (any number) and column `c`. -/
def rowAt (X : ProjShape.Idx → EReal) (s : ℕ) (c : Fin 6144) : EReal := if hs : s < 8192 then X (ix2 ⟨s, hs⟩ c) else 0

/-- Column `d` of head `H` of the sixteen, among the queries (`p = 0`), the keys (`p = 1`) or the values (`p = 2`). -/
def colOf (p : Fin 3) (H : Fin 16) (d : Fin 128) : Fin 6144 := ⟨p.val * 2048 + H.val * 128 + d.val, by omega⟩

/-- The score of query `t` against key `s`, in head `H`. -/
def headScore (X : ProjShape.Idx → EReal) (H : Fin 16) (t s : ℕ) : EReal :=
  (∑ d : Fin 128, rowAt X t (colOf 0 H d) * rowAt X s (colOf 1 H d)) * scale

/-- The attention of head `H` at query `t`, column `d`: the values, each weighted by the chance that the stick breaks at its
    key and at no later one before the query. -/
def attend (X : ProjShape.Idx → EReal) (H : Fin 16) (t : ℕ) (d : Fin 128) : EReal :=
  ∑ s ∈ Finset.Ico 0 8192, wgt (headScore X H t) t s * rowAt X s (colOf 2 H d)

/-- The head a column of the result belongs to. -/
def headOf (j : Fin 2048) : Fin 16 := ⟨j.val / 128, by omega⟩

/-- The column within its head. -/
def laneOf (j : Fin 2048) : Fin 128 := ⟨j.val % 128, by omega⟩

/-- The attention as an array: row `t`, and the heads' columns side by side. -/
def attention (X : ProjShape.Idx → EReal) : (⟨2, ![8192, 2048]⟩ : Shape).Idx → EReal := fun y => attend X (headOf (y 1)) (y 0).val (laneOf (y 1))

end Cert.Proof.Stick

end
-- ==== Proof.Stick.Reads.lean ====
/- The kernel's vector operations at the extended reals, read at an index: the loads of a head's columns and of a block of
   keys, the eight heads stacked one below another, the scores of one head, and the sums against the table. -/
module

public import proofs.«01_k».proof.Proof.Attn.Body
public import proofs.«01_k».proof.Proof.Stick.Attend
public import Idealize.ShloMosaic.Lib.Pointwise
public import Idealize.ShloMosaic.Lib.Pipeline.ValueKit.Tiles

@[expose] public section

noncomputable section

namespace Cert.Proof.Stick

open Cert.KernelIdeal Cert.KernelIdeal.Gen Cert.Proof.Attn
open Idealize.ShloMosaic
open scoped BigOperators

/-- Row (or column) `r` of head `h`, of the eight heads of a group. -/
def at8 (h : Fin 8) (r : Fin 128) : Fin 1024 := ⟨h.val * 128 + r.val, by omega⟩

/-- Every row is a row of some head. -/
theorem exists_at8 (ρ : Fin 1024) : ∃ h r, ρ = at8 h r :=
  ⟨⟨ρ.val / 128, by omega⟩, ⟨ρ.val % 128, by omega⟩, Fin.ext (by show ρ.val = ρ.val / 128 * 128 + ρ.val % 128; omega)⟩

/-! ## Loads -/

/-- A load of 128 columns of a query block. -/
theorem ld_cols {e : EltTy} (x : S128x1024.Idx → Elt Ideal e) (h : Fin 8) (off : Fin 2 → ℕ) (inb : ∀ a, off a + S128x128.size a ≤ S128x1024.size a)
    (h0 : off 0 = 0) (h1 : off 1 = h.val * 128) (r d : Fin 128) :
    View.ld (Val := Elt Ideal) (e' := e) x (Rect.unit (s := S128x1024) off S128x128.size inb) (ix2 r d) = x (ix2 r (at8 h d)) :=
  View.ld_unit_apply_of _ _ _ _ _ _ fun a => by
    match a with
    | ⟨0, _⟩ => show r.val = off 0 + r.val; omega
    | ⟨1, _⟩ => show h.val * 128 + d.val = off 1 + d.val; omega

/-- A load of 128 rows of an accumulator. -/
theorem ld_rows {e : EltTy} (x : S1024x128.Idx → Elt Ideal e) (h : Fin 8) (off : Fin 2 → ℕ) (inb : ∀ a, off a + S128x128.size a ≤ S1024x128.size a)
    (h0 : off 0 = h.val * 128) (h1 : off 1 = 0) (r d : Fin 128) :
    View.ld (Val := Elt Ideal) (e' := e) x (Rect.unit (s := S1024x128) off S128x128.size inb) (ix2 r d) = x (ix2 (at8 h r) d) :=
  View.ld_unit_apply_of _ _ _ _ _ _ fun a => by
    match a with
    | ⟨0, _⟩ => show h.val * 128 + r.val = off 0 + r.val; omega
    | ⟨1, _⟩ => show d.val = off 1 + d.val; omega

/-- The array of keys (or values) of a group of heads, at any key number. -/
def keyAt (x : S8192x1024.Idx → EReal) (h : Fin 8) (s : ℕ) (d : Fin 128) : EReal :=
  if hs : s < 8192 then x (ix2 ⟨s, hs⟩ (at8 h d)) else 0

/-- A load of a head's columns of 256 keys. -/
theorem ld_keys256 (x : S8192x1024.Idx → Elt Ideal .bf16) (h : Fin 8) (b : ℕ) (off : Fin 2 → ℕ) (inb : ∀ a, off a + S256x128.size a ≤ S8192x1024.size a)
    (h0 : off 0 = b) (h1 : off 1 = h.val * 128) (k : Fin 256) (d : Fin 128) :
    View.ld (Val := Elt Ideal) (e' := .bf16) x (Rect.unit (s := S8192x1024) off S256x128.size inb) (ix2 k d) = keyAt x h (b + k.val) d := by
  have hb : off 0 + 256 ≤ 8192 := inb 0
  rw [keyAt, dif_pos (by omega)]
  exact View.ld_unit_apply_of _ _ _ _ _ _ fun a => by
    match a with
    | ⟨0, _⟩ => show b + k.val = off 0 + k.val; omega
    | ⟨1, _⟩ => show h.val * 128 + d.val = off 1 + d.val; omega

/-- A load of a head's columns of 128 keys. -/
theorem ld_keys128 (x : S8192x1024.Idx → Elt Ideal .bf16) (h : Fin 8) (b : ℕ) (off : Fin 2 → ℕ) (inb : ∀ a, off a + S128x128.size a ≤ S8192x1024.size a)
    (h0 : off 0 = b) (h1 : off 1 = h.val * 128) (k : Fin 128) (d : Fin 128) :
    View.ld (Val := Elt Ideal) (e' := .bf16) x (Rect.unit (s := S8192x1024) off S128x128.size inb) (ix2 k d) = keyAt x h (b + k.val) d := by
  have hb : off 0 + 128 ≤ 8192 := inb 0
  rw [keyAt, dif_pos (by omega)]
  exact View.ld_unit_apply_of _ _ _ _ _ _ fun a => by
    match a with
    | ⟨0, _⟩ => show b + k.val = off 0 + k.val; omega
    | ⟨1, _⟩ => show h.val * 128 + d.val = off 1 + d.val; omega

/-! ## Eight heads stacked -/

/-- Eight heads' blocks one below another, read at a row of a head. -/
theorem concat8 {c : ℕ} {α : Type} (a0 a1 a2 a3 a4 a5 a6 a7 : (⟨2, ![128, c]⟩ : Shape).Idx → α)
    (hc : Shape.Concatenates [⟨2, ![128, c]⟩, ⟨2, ![128, c]⟩, ⟨2, ![128, c]⟩, ⟨2, ![128, c]⟩, ⟨2, ![128, c]⟩, ⟨2, ![128, c]⟩, ⟨2, ![128, c]⟩, ⟨2, ![128, c]⟩] (⟨2, ![1024, c]⟩ : Shape) 0)
    (G : Fin 8 → Fin 128 → Fin c → α)
    (h0 : ∀ r k, a0 (ix2 r k) = G 0 r k) (h1 : ∀ r k, a1 (ix2 r k) = G 1 r k) (h2 : ∀ r k, a2 (ix2 r k) = G 2 r k)
    (h3 : ∀ r k, a3 (ix2 r k) = G 3 r k) (h4 : ∀ r k, a4 (ix2 r k) = G 4 r k) (h5 : ∀ r k, a5 (ix2 r k) = G 5 r k)
    (h6 : ∀ r k, a6 (ix2 r k) = G 6 r k) (h7 : ∀ r k, a7 (ix2 r k) = G 7 r k) (h : Fin 8) (r : Fin 128) (k : Fin c) :
    concatenate (⟨2, ![1024, c]⟩ : Shape) 0 [⟨_, a0⟩, ⟨_, a1⟩, ⟨_, a2⟩, ⟨_, a3⟩, ⟨_, a4⟩, ⟨_, a5⟩, ⟨_, a6⟩, ⟨_, a7⟩] hc (ix2 (at8 h r) k) = G h r k := by
  have key : ∀ (n : ℕ) (hn : n < 8) (x : (⟨2, ![128, c]⟩ : Shape).Idx → α)
      (hx : ([⟨_, a0⟩, ⟨_, a1⟩, ⟨_, a2⟩, ⟨_, a3⟩, ⟨_, a4⟩, ⟨_, a5⟩, ⟨_, a6⟩, ⟨_, a7⟩] : List ((s : Shape) × (s.Idx → α)))[n]'hn = ⟨⟨2, ![128, c]⟩, x⟩)
      (hp : (((([⟨_, a0⟩, ⟨_, a1⟩, ⟨_, a2⟩, ⟨_, a3⟩, ⟨_, a4⟩, ⟨_, a5⟩, ⟨_, a6⟩, ⟨_, a7⟩] : List ((s : Shape) × (s.Idx → α))).take n).map (·.1)).map
        fun s => if h : s.rank = (⟨2, ![1024, c]⟩ : Shape).rank then s.size ((0 : Fin (⟨2, ![1024, c]⟩ : Shape).rank).cast h.symm) else 0).sum = n * 128),
      h.val = n → concatenate (⟨2, ![1024, c]⟩ : Shape) 0 [⟨_, a0⟩, ⟨_, a1⟩, ⟨_, a2⟩, ⟨_, a3⟩, ⟨_, a4⟩, ⟨_, a5⟩, ⟨_, a6⟩, ⟨_, a7⟩] hc (ix2 (at8 h r) k) = x (ix2 r k) := by
    intro n hn x hx hp hh
    refine concatenate_apply_piece (t := (⟨2, ![1024, c]⟩ : Shape)) 0 [⟨_, a0⟩, ⟨_, a1⟩, ⟨_, a2⟩, ⟨_, a3⟩, ⟨_, a4⟩, ⟨_, a5⟩, ⟨_, a6⟩, ⟨_, a7⟩] hc _ n hn _ x hx rfl (n * 128) hp _ ?_ ?_
    · intro b hb
      match b with
      | ⟨0, _⟩ => exact absurd rfl hb
      | ⟨1, _⟩ => rfl
    · show n * 128 + r.val = h.val * 128 + r.val
      rw [hh]
  match h with
  | ⟨0, _⟩ => exact (key 0 (by decide) a0 rfl rfl rfl).trans (h0 r k)
  | ⟨1, _⟩ => exact (key 1 (by decide) a1 rfl rfl rfl).trans (h1 r k)
  | ⟨2, _⟩ => exact (key 2 (by decide) a2 rfl rfl rfl).trans (h2 r k)
  | ⟨3, _⟩ => exact (key 3 (by decide) a3 rfl rfl rfl).trans (h3 r k)
  | ⟨4, _⟩ => exact (key 4 (by decide) a4 rfl rfl rfl).trans (h4 r k)
  | ⟨5, _⟩ => exact (key 5 (by decide) a5 rfl rfl rfl).trans (h5 r k)
  | ⟨6, _⟩ => exact (key 6 (by decide) a6 rfl rfl rfl).trans (h6 r k)
  | ⟨7, _⟩ => exact (key 7 (by decide) a7 rfl rfl rfl).trans (h7 r k)

/-- Eight heads' rows stored into an accumulator, read at a row of a head. -/
theorem canonA (p0 p1 p2 p3 p4 p5 p6 p7 : S128x128.Idx → EReal) (G : Fin 8 → Fin 128 → Fin 128 → EReal)
    (h0 : ∀ r k, p0 (ix2 r k) = G 0 r k) (h1 : ∀ r k, p1 (ix2 r k) = G 1 r k) (h2 : ∀ r k, p2 (ix2 r k) = G 2 r k)
    (h3 : ∀ r k, p3 (ix2 r k) = G 3 r k) (h4 : ∀ r k, p4 (ix2 r k) = G 4 r k) (h5 : ∀ r k, p5 (ix2 r k) = G 5 r k)
    (h6 : ∀ r k, p6 (ix2 r k) = G 6 r k) (h7 : ∀ r k, p7 (ix2 r k) = G 7 r k) (h : Fin 8) (r : Fin 128) (k : Fin 128) :
    View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S1024x128 .f32)) (ix2 (at8 h r) k) = G h r k := by
  have tile : ∀ (n : Fin 8) (p : S128x128.Idx → EReal), (∀ r k, p (ix2 r k) = G n r k) →
      View.TileAt (Val := Elt Ideal) (e := .f32) (S := S1024x128) (ix2 (at8 h r) k) ![n.val * 128, 0] S128x128.size p (G h r k) := by
    intro n p hp x hx
    have e0 : h.val * 128 + r.val = n.val * 128 + (x 0).val := hx 0
    have e1 : k.val = 0 + (x 1).val := hx 1
    have l0 : (x 0).val < 128 := (x 0).isLt
    have hn : n = h := Fin.ext (by omega)
    subst hn
    have hx' : x = ix2 r k := Shape.idx_ext₂ (by show (x 0).val = r.val; omega) (by show (x 1).val = k.val; omega)
    rw [hx']; exact hp r k
  refine View.canon_eq_of_allAt _ _ _ (coverA _ _ _ _ _ _ _ _ _) ?_
  exact View.allAt_cons_unit _ _ _ _ _ (tile 7 p7 h7) (View.allAt_cons_unit _ _ _ _ _ (tile 6 p6 h6)
    (View.allAt_cons_unit _ _ _ _ _ (tile 5 p5 h5) (View.allAt_cons_unit _ _ _ _ _ (tile 4 p4 h4)
    (View.allAt_cons_unit _ _ _ _ _ (tile 3 p3 h3) (View.allAt_cons_unit _ _ _ _ _ (tile 2 p2 h2)
    (View.allAt_cons_unit _ _ _ _ _ (tile 1 p1 h1) (View.allAt_cons_unit _ _ _ _ _ (tile 0 p0 h0) (View.allAt_nil _ _))))))))

/-- Eight heads' columns stored into the result block, read at a column of a head. -/
theorem canonQ (p0 p1 p2 p3 p4 p5 p6 p7 : S128x128.Idx → EReal) (G : Fin 8 → Fin 128 → Fin 128 → EReal)
    (h0 : ∀ r k, p0 (ix2 r k) = G 0 r k) (h1 : ∀ r k, p1 (ix2 r k) = G 1 r k) (h2 : ∀ r k, p2 (ix2 r k) = G 2 r k)
    (h3 : ∀ r k, p3 (ix2 r k) = G 3 r k) (h4 : ∀ r k, p4 (ix2 r k) = G 4 r k) (h5 : ∀ r k, p5 (ix2 r k) = G 5 r k)
    (h6 : ∀ r k, p6 (ix2 r k) = G 6 r k) (h7 : ∀ r k, p7 (ix2 r k) = G 7 r k) (h : Fin 8) (r : Fin 128) (k : Fin 128) :
    View.canon ([⟨rQ7, p7⟩, ⟨rQ6, p6⟩, ⟨rQ5, p5⟩, ⟨rQ4, p4⟩, ⟨rQ3, p3⟩, ⟨rQ2, p2⟩, ⟨rQ1, p1⟩, ⟨rQ0, p0⟩] : List (View.Piece (Elt Ideal) S128x1024 .f32)) (ix2 r (at8 h k)) = G h r k := by
  have tile : ∀ (n : Fin 8) (p : S128x128.Idx → EReal), (∀ r k, p (ix2 r k) = G n r k) →
      View.TileAt (Val := Elt Ideal) (e := .f32) (S := S128x1024) (ix2 r (at8 h k)) ![0, n.val * 128] S128x128.size p (G h r k) := by
    intro n p hp x hx
    have e0 : r.val = 0 + (x 0).val := hx 0
    have e1 : h.val * 128 + k.val = n.val * 128 + (x 1).val := hx 1
    have l1 : (x 1).val < 128 := (x 1).isLt
    have hn : n = h := Fin.ext (by omega)
    subst hn
    have hx' : x = ix2 r k := Shape.idx_ext₂ (by show (x 0).val = r.val; omega) (by show (x 1).val = k.val; omega)
    rw [hx']; exact hp r k
  refine View.canon_eq_of_allAt _ _ _ (coverQ _ _ _ _ _ _ _ _ _) ?_
  exact View.allAt_cons_unit _ _ _ _ _ (tile 7 p7 h7) (View.allAt_cons_unit _ _ _ _ _ (tile 6 p6 h6)
    (View.allAt_cons_unit _ _ _ _ _ (tile 5 p5 h5) (View.allAt_cons_unit _ _ _ _ _ (tile 4 p4 h4)
    (View.allAt_cons_unit _ _ _ _ _ (tile 3 p3 h3) (View.allAt_cons_unit _ _ _ _ _ (tile 2 p2 h2)
    (View.allAt_cons_unit _ _ _ _ _ (tile 1 p1 h1) (View.allAt_cons_unit _ _ _ _ _ (tile 0 p0 h0) (View.allAt_nil _ _))))))))

/-! ## The operations -/

/-- The masked score of the kernel is minus infinity. -/
theorem masked_eq : (Named.named κ "masked" 0xF149F2CA#32 : Ideal .f32) = ⊥ := rfl

/-- The loop's bound is minus infinity. -/
theorem exit_eq : (Named.named κ "exit" 0xC2B00000#32 : Ideal .f32) = ⊥ := rfl

/-- One head's masked scores of the first visit. -/
def maskedHead (mask : IVec S128x256 1) (q : FVec Ideal S128x128 .bf16) (k : FVec Ideal S256x128 .bf16) : FVec Ideal S128x256 .f32 :=
  select mask (mulf (matmul dot_S128x128_S256x128_S128x256_1_1_0_0_n_n none q k (constant S128x256 .f32 0x00000000#32))
    (broadcast S128x256 (Scalar.ofBits .f32 0x3DB504F3#32))) (broadcast S128x256 (Named.named κ "masked" 0xF149F2CA#32))

/-- A head's masked score at a row and a key. -/
theorem maskedHead_apply (mask : IVec S128x256 1) (q : FVec Ideal S128x128 .bf16) (k : FVec Ideal S256x128 .bf16) (r : Fin 128) (c : Fin 256) :
    maskedHead mask q k (ix2 r c) = Scalar.select (mask (ix2 r c)) ((∑ d : Fin 128, q (ix2 r d) * k (ix2 c d)) * scale) ⊥ := by
  pointwise [maskedHead]
  rfl

/-- One head's scores of a later visit. -/
def head (q : FVec Ideal S128x128 .bf16) (k : FVec Ideal S128x128 .bf16) : FVec Ideal S128x128 .f32 :=
  mulf (matmul dot_S128x128_S128x128_S128x128_1_1_0_0_n_n none q k (constant S128x128 .f32 0x00000000#32))
    (broadcast S128x128 (Scalar.ofBits .f32 0x3DB504F3#32))

/-- A head's score at a row and a key. -/
theorem head_apply (q : FVec Ideal S128x128 .bf16) (k : FVec Ideal S128x128 .bf16) (r c : Fin 128) :
    head q k (ix2 r c) = (∑ d : Fin 128, q (ix2 r d) * k (ix2 c d)) * scale := by
  pointwise [head]

end Cert.Proof.Stick

end
-- ==== Proof.Stick.Visit.lean ====
/- What one visit of a block of keys computes, at the extended reals: the scores, the sums of logarithms from the last key
   of the block downwards, the weights and the carry, for the first visit (the diagonal, 256 keys) and a later one. -/
module

public import proofs.«01_k».proof.Proof.Stick.Reads

@[expose] public section

noncomputable section

namespace Cert.Proof.Stick

open Cert.KernelIdeal Cert.KernelIdeal.Gen Cert.Proof.Attn
open Idealize.ShloMosaic
open scoped BigOperators

variable (x0 : Vec Ideal S128x1024 .bf16) (x1 : Vec Ideal S8192x1024 .bf16) (x3 : Vec Ideal S256x384 .bf16) (i : grid0.Coords)

/-- The block of queries the point visits. -/
abbrev qblk (i : grid0.Coords) : ℕ := (i 1).val

/-- The first key of the point's first visit. -/
abbrev base (i : grid0.Coords) : ℕ := ((i 1).val - 1) * 128

/-- The place of the query in row `r` of the block. -/
abbrev place (i : grid0.Coords) (r : Fin 128) : ℕ := (i 1).val * 128 + r.val

/-- The score of row `r` of the block against key `s`, in head `h` of the group. -/
def score (h : Fin 8) (r : Fin 128) (s : ℕ) : EReal := (∑ d : Fin 128, x0 (ix2 r (at8 h d)) * keyAt x1 h s d) * scale

/-- The table: ones on and below the diagonal of the first 256 columns, and in the other columns. -/
def IsTable : Prop := ∀ (s : Fin 256) (c : Fin 384), x3 (ix2 s c) = if 256 ≤ c.val ∨ c.val ≤ s.val then 1 else 0

/-- A point's block of queries is one of 64. -/
theorem qblk_lt : qblk i < 64 := (i 1).isLt

/-! ## Offsets -/

/-- The first key of the first visit, as the kernel computes it. -/
theorem base_word : ∀ b < 64, (Scalar.indexCast (Scalar.muli (Scalar.maxsi (Scalar.subi (BitVec.ofNat 32 b) 1#32) 0#32) 128#32)).toNat = (b - 1) * 128 := by
  decide +kernel

/-- The first key of a block, as the kernel computes it. -/
theorem block_word : ∀ n < 64, (Scalar.indexCast (Scalar.muli (BitVec.ofNat 32 n) 128#32)).toNat = n * 128 := by decide +kernel

/-- Where head 0's keys of the first visit start. -/
theorem offF0 : k0_off1 i 0 = base i := base_word _ (qblk_lt i)

/-- Where head 0's keys of block `n` start. -/
theorem offK0 {n : ℕ} (hn : n < 64) : k0_off9 (BitVec.ofNat 32 n) 0 = n * 128 := block_word n hn

/-- Where head 1's keys of the first visit start. -/
theorem offF1 : k0_off2 i 0 = base i := base_word _ (qblk_lt i)

/-- Where head 1's keys of block `n` start. -/
theorem offK1 {n : ℕ} (hn : n < 64) : k0_off10 (BitVec.ofNat 32 n) 0 = n * 128 := block_word n hn

/-- Where head 2's keys of the first visit start. -/
theorem offF2 : k0_off3 i 0 = base i := base_word _ (qblk_lt i)

/-- Where head 2's keys of block `n` start. -/
theorem offK2 {n : ℕ} (hn : n < 64) : k0_off11 (BitVec.ofNat 32 n) 0 = n * 128 := block_word n hn

/-- Where head 3's keys of the first visit start. -/
theorem offF3 : k0_off4 i 0 = base i := base_word _ (qblk_lt i)

/-- Where head 3's keys of block `n` start. -/
theorem offK3 {n : ℕ} (hn : n < 64) : k0_off12 (BitVec.ofNat 32 n) 0 = n * 128 := block_word n hn

/-- Where head 4's keys of the first visit start. -/
theorem offF4 : k0_off5 i 0 = base i := base_word _ (qblk_lt i)

/-- Where head 4's keys of block `n` start. -/
theorem offK4 {n : ℕ} (hn : n < 64) : k0_off13 (BitVec.ofNat 32 n) 0 = n * 128 := block_word n hn

/-- Where head 5's keys of the first visit start. -/
theorem offF5 : k0_off6 i 0 = base i := base_word _ (qblk_lt i)

/-- Where head 5's keys of block `n` start. -/
theorem offK5 {n : ℕ} (hn : n < 64) : k0_off14 (BitVec.ofNat 32 n) 0 = n * 128 := block_word n hn

/-- Where head 6's keys of the first visit start. -/
theorem offF6 : k0_off7 i 0 = base i := base_word _ (qblk_lt i)

/-- Where head 6's keys of block `n` start. -/
theorem offK6 {n : ℕ} (hn : n < 64) : k0_off15 (BitVec.ofNat 32 n) 0 = n * 128 := block_word n hn

/-- Where head 7's keys of the first visit start. -/
theorem offF7 : k0_off8 i 0 = base i := base_word _ (qblk_lt i)

/-- Where head 7's keys of block `n` start. -/
theorem offK7 {n : ℕ} (hn : n < 64) : k0_off16 (BitVec.ofNat 32 n) 0 = n * 128 := block_word n hn

/-! ## The first visit -/

/-- The difference of the first query and the first key of the first visit. -/
theorem gap_word : ∀ b < 64, Scalar.subi (Scalar.muli (BitVec.ofNat 32 b) 128#32) (Scalar.muli (Scalar.maxsi (Scalar.subi (BitVec.ofNat 32 b) 1#32) 0#32) 128#32)
    = BitVec.ofNat 32 (b * 128 - (b - 1) * 128) := by decide +kernel

/-- The mask keeps the keys before the query. -/
theorem mask_apply (r : Fin 128) (c : Fin 256) : k0_pay7 i (ix2 r c) = if base i + c.val < place i r then 1#1 else 0#1 := by
  have e : k0_pay7 i (ix2 r c) = IntOp.cmpi .slt (BitVec.ofNat 32 c.val) (BitVec.ofNat 32 r.val + Scalar.subi (Scalar.muli (BitVec.ofNat 32 (i 1).val) 128#32)
      (Scalar.muli (Scalar.maxsi (Scalar.subi (BitVec.ofNat 32 (i 1).val) 1#32) 0#32) 128#32)) := by
    pointwise [k0_pay7]
    rfl
  have hb := qblk_lt i
  rw [e, gap_word _ hb, ← BitVec.ofNat_add, slt_small (by omega) (by omega)]
  refine if_congr ?_ rfl rfl
  show c.val < r.val + (qblk i * 128 - (qblk i - 1) * 128) ↔ (qblk i - 1) * 128 + c.val < qblk i * 128 + r.val
  omega

/-- One head's masked scores of the first visit. -/
theorem maskedHead_score (h : Fin 8) (q : FVec Ideal S128x128 .bf16) (k : FVec Ideal S256x128 .bf16)
    (hq : ∀ r d : Fin 128, q (ix2 r d) = x0 (ix2 r (at8 h d))) (hk : ∀ (c : Fin 256) (d : Fin 128), k (ix2 c d) = keyAt x1 h (base i + c.val) d)
    (r : Fin 128) (c : Fin 256) :
    maskedHead (k0_pay7 i) q k (ix2 r c) = zm (score x0 x1 h r) (place i r) (base i + c.val) := by
  rw [maskedHead_apply, mask_apply, zm, score]
  simp only [hq, hk]
  by_cases hl : base i + c.val < place i r
  · rw [if_pos hl, if_pos hl]; exact if_pos rfl
  · rw [if_neg hl, if_neg hl]; exact if_neg (by decide)

/-- The scores of the first visit. -/
theorem firstZ_apply (h : Fin 8) (r : Fin 128) (c : Fin 256) :
    firstZ i x0 x1 (ix2 (at8 h r) c) = zm (score x0 x1 h r) (place i r) (base i + c.val) := by
  refine concat8 _ _ _ _ _ _ _ _ concatenates_S128x256_S128x256_S128x256_S128x256_S128x256_S128x256_S128x256_S128x256_S1024x256_d0 (fun h r c => zm (score x0 x1 h r) (place i r) (base i + c.val))
    (maskedHead_score x0 x1 i 0 (View.ld x0 rQ0) (View.ld x1 (rF0 i)) (ld_cols x0 0 _ _ rfl rfl) (ld_keys256 x1 0 _ _ _ (offF0 i) rfl))
    (maskedHead_score x0 x1 i 1 (View.ld x0 rQ1) (View.ld x1 (rF1 i)) (ld_cols x0 1 _ _ rfl rfl) (ld_keys256 x1 1 _ _ _ (offF1 i) rfl))
    (maskedHead_score x0 x1 i 2 (View.ld x0 rQ2) (View.ld x1 (rF2 i)) (ld_cols x0 2 _ _ rfl rfl) (ld_keys256 x1 2 _ _ _ (offF2 i) rfl))
    (maskedHead_score x0 x1 i 3 (View.ld x0 rQ3) (View.ld x1 (rF3 i)) (ld_cols x0 3 _ _ rfl rfl) (ld_keys256 x1 3 _ _ _ (offF3 i) rfl))
    (maskedHead_score x0 x1 i 4 (View.ld x0 rQ4) (View.ld x1 (rF4 i)) (ld_cols x0 4 _ _ rfl rfl) (ld_keys256 x1 4 _ _ _ (offF4 i) rfl))
    (maskedHead_score x0 x1 i 5 (View.ld x0 rQ5) (View.ld x1 (rF5 i)) (ld_cols x0 5 _ _ rfl rfl) (ld_keys256 x1 5 _ _ _ (offF5 i) rfl))
    (maskedHead_score x0 x1 i 6 (View.ld x0 rQ6) (View.ld x1 (rF6 i)) (ld_cols x0 6 _ _ rfl rfl) (ld_keys256 x1 6 _ _ _ (offF6 i) rfl))
    (maskedHead_score x0 x1 i 7 (View.ld x0 rQ7) (View.ld x1 (rF7 i)) (ld_cols x0 7 _ _ rfl rfl) (ld_keys256 x1 7 _ _ _ (offF7 i) rfl))
    h r c

/-- The sums of the first visit, from the scores and the table. -/
theorem pay15_apply (v7 : FVec Ideal S256x384 .bf16) (v15 : IVec S128x256 1) (v23 v31 v39 v47 v55 v63 : FVec Ideal S128x256 .f32) (v64 : Vec Ideal S128x128 .bf16)
    (v66 : Vec Ideal S256x128 .bf16) (c38 : FVec Ideal S128x256 .f32) (v72 : Vec Ideal S128x128 .bf16) (v74 : Vec Ideal S256x128 .bf16) (ρ : Fin 1024) (c : Fin 384)
    (z : FVec Ideal S1024x256 .f32) (hz : k0_pay14 v15 v23 v31 v39 v47 v55 v63 v64 v66 c38 v72 v74 = z) :
    k0_pay15 v7 v15 v23 v31 v39 v47 v55 v63 v64 v66 c38 v72 v74 (ix2 ρ c)
      = (∑ k : Fin 256, log1m (z (ix2 ρ k)) * v7 (ix2 k c)) + ∑ k : Fin 256, (log1m (z (ix2 ρ k)) - log1m (z (ix2 ρ k))) * v7 (ix2 k c) := by
  subst hz
  pointwise [k0_pay15]
  rfl

/-- The sums of the logarithms against a table of zeros and ones, at a head's row. -/
theorem sums_of_table {n : ℕ} (L : Fin n → EReal) (T : Fin n → EReal) (P : Fin n → Prop) [DecidablePred P] (z : ℕ → EReal) (t b : ℕ)
    (hL : ∀ k, L k = zm z t (b + k.val)) (hT : ∀ k, T k = if P k then 1 else 0) :
    (∑ k, log1m (L k) * T k) + (∑ k, (log1m (L k) - log1m (L k)) * T k) = ∑ k, if P k then lm z t (b + k.val) else 0 := by
  rw [sum_split (fun k => log1m (L k)) T P (fun k => log1m_ne_top _) hT]
  refine Finset.sum_congr rfl fun k _ => ?_
  rw [hL, log1m_zm]

/-- The table as the first visit reads it. -/
theorem tableF (hT : IsTable x3) (s : Fin 256) (c : Fin 384) : k0_pay6 (View.ld (Val := Elt Ideal) (e' := .bf16) x3 rTw) (ix2 s c) = if 256 ≤ c.val ∨ c.val ≤ s.val then 1 else 0 := by
  have e : View.ld (Val := Elt Ideal) (e' := .bf16) x3 rTw (ix2 s c) = x3 (ix2 s c) := View.ld_unit_apply_of _ _ _ _ _ _ fun a => by
    match a with
    | ⟨0, _⟩ => show s.val = 0 + s.val; omega
    | ⟨1, _⟩ => show c.val = 0 + c.val; omega
  rw [k0_pay6, shapeCast_self, e, hT]

/-- The end of the first visit's keys. -/
theorem first_end (i : grid0.Coords) (r : Fin 128) : place i r ≤ base i + 256 ∧ base i + 256 ≤ 8192 := by
  have hb : (i 1).val < 64 := qblk_lt i
  show (i 1).val * 128 + r.val ≤ ((i 1).val - 1) * 128 + 256 ∧ ((i 1).val - 1) * 128 + 256 ≤ 8192
  omega

/-- The weights of the first visit. -/
theorem firstA_apply (hT : IsTable x3) (h : Fin 8) (r : Fin 128) (c : Fin 256) :
    firstA i x0 x1 x3 (ix2 (at8 h r) c) = wgt (score x0 x1 h r) (place i r) (base i + c.val) := by
  have e : firstA i x0 x1 x3 (ix2 (at8 h r) c) = Ideal.exp (firstZ i x0 x1 (ix2 (at8 h r) c)
      + k0_pay15 (k0_pay6 (View.ld x3 rTw)) (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i))
        (ix2 (at8 h r) ⟨c.val, by omega⟩)) := by
    rw [firstA, firstZ]
    pointwise [k0_pay16]
  rw [e, pay15_apply _ _ _ _ _ _ _ _ _ _ _ _ _ _ _ _ rfl, ← firstZ]
  rw [sums_of_table _ _ (fun k => c.val ≤ k.val) (score x0 x1 h r) (place i r) (base i) (fun k => firstZ_apply x0 x1 i h r k)
    (fun k => (tableF x3 hT k _).trans (if_congr (by simp) rfl rfl)), sum_block, firstZ_apply,
    ← suf_eq_Ico _ (first_end i r).1 (first_end i r).2, exp_zm]

/-- The carry after the first visit. -/
theorem firstCarry_apply (hT : IsTable x3) (h : Fin 8) (r l : Fin 128) :
    firstCarry i x0 x1 x3 (ix2 (at8 h r) l) = suf (score x0 x1 h r) (place i r) (base i) := by
  have e : firstCarry i x0 x1 x3 (ix2 (at8 h r) l) =
      k0_pay15 (k0_pay6 (View.ld x3 rTw)) (k0_pay7 i) (k0_pay8 i (View.ld x0 rQ0) (View.ld x1 (rF0 i))) (k0_pay9 i (View.ld x0 rQ1) (View.ld x1 (rF1 i))) (k0_pay10 (k0_pay7 i) (View.ld x0 rQ2) (View.ld x1 (rF2 i))) (k0_pay11 (k0_pay7 i) (View.ld x0 rQ3) (View.ld x1 (rF3 i))) (k0_pay12 (k0_pay7 i) (View.ld x0 rQ4) (View.ld x1 (rF4 i))) (k0_pay13 (k0_pay7 i) (View.ld x0 rQ5) (View.ld x1 (rF5 i))) (View.ld x0 rQ6) (View.ld x1 (rF6 i)) (constant S128x256 .f32 0x00000000#32) (View.ld x0 rQ7) (View.ld x1 (rF7 i))
        (ix2 (at8 h r) ⟨256 + l.val, by omega⟩) := by
    rw [firstCarry]
    pointwise [k0_pay17]
  rw [e, pay15_apply _ _ _ _ _ _ _ _ _ _ _ _ _ _ _ _ rfl, ← firstZ]
  rw [sums_of_table _ _ (fun k => 0 ≤ k.val) (score x0 x1 h r) (place i r) (base i) (fun k => firstZ_apply x0 x1 i h r k)
    (fun k => (tableF x3 hT k _).trans (if_congr (by simp) rfl rfl)), sum_block, Nat.add_zero,
    ← suf_eq_Ico _ (first_end i r).1 (first_end i r).2]

/-! ## A later visit -/

/-- One head's scores of a later visit. -/
theorem head_score (h : Fin 8) (n : ℕ) (q : FVec Ideal S128x128 .bf16) (k : FVec Ideal S128x128 .bf16)
    (hq : ∀ r d : Fin 128, q (ix2 r d) = x0 (ix2 r (at8 h d))) (hk : ∀ c d : Fin 128, k (ix2 c d) = keyAt x1 h (n * 128 + c.val) d)
    (r c : Fin 128) : head q k (ix2 r c) = score x0 x1 h r (n * 128 + c.val) := by
  rw [head_apply, score]
  simp only [hq, hk]

/-- The scores of block `n`'s keys. -/
theorem tripZ_apply (n : ℕ) (hn : n < 64) (h : Fin 8) (r c : Fin 128) :
    tripZ x0 x1 n hn (ix2 (at8 h r) c) = score x0 x1 h r (n * 128 + c.val) := by
  refine concat8 _ _ _ _ _ _ _ _ concatenates_S128x128_S128x128_S128x128_S128x128_S128x128_S128x128_S128x128_S128x128_S1024x128_d0 (fun h r c => score x0 x1 h r (n * 128 + c.val))
    (head_score x0 x1 0 n (View.ld x0 rQ0) (View.ld x1 (rK0 n hn)) (ld_cols x0 0 _ _ rfl rfl) (ld_keys128 x1 0 _ _ _ (offK0 hn) rfl))
    (head_score x0 x1 1 n (View.ld x0 rQ1) (View.ld x1 (rK1 n hn)) (ld_cols x0 1 _ _ rfl rfl) (ld_keys128 x1 1 _ _ _ (offK1 hn) rfl))
    (head_score x0 x1 2 n (View.ld x0 rQ2) (View.ld x1 (rK2 n hn)) (ld_cols x0 2 _ _ rfl rfl) (ld_keys128 x1 2 _ _ _ (offK2 hn) rfl))
    (head_score x0 x1 3 n (View.ld x0 rQ3) (View.ld x1 (rK3 n hn)) (ld_cols x0 3 _ _ rfl rfl) (ld_keys128 x1 3 _ _ _ (offK3 hn) rfl))
    (head_score x0 x1 4 n (View.ld x0 rQ4) (View.ld x1 (rK4 n hn)) (ld_cols x0 4 _ _ rfl rfl) (ld_keys128 x1 4 _ _ _ (offK4 hn) rfl))
    (head_score x0 x1 5 n (View.ld x0 rQ5) (View.ld x1 (rK5 n hn)) (ld_cols x0 5 _ _ rfl rfl) (ld_keys128 x1 5 _ _ _ (offK5 hn) rfl))
    (head_score x0 x1 6 n (View.ld x0 rQ6) (View.ld x1 (rK6 n hn)) (ld_cols x0 6 _ _ rfl rfl) (ld_keys128 x1 6 _ _ _ (offK6 hn) rfl))
    (head_score x0 x1 7 n (View.ld x0 rQ7) (View.ld x1 (rK7 n hn)) (ld_cols x0 7 _ _ rfl rfl) (ld_keys128 x1 7 _ _ _ (offK7 hn) rfl))
    h r c

/-- The logarithms' high part of a later visit. -/
theorem tripHi_apply (n : ℕ) (hn : n < 64) (ρ : Fin 1024) (c : Fin 128) : tripHi x0 x1 n hn (ix2 ρ c) = log1m (tripZ x0 x1 n hn (ix2 ρ c)) := by
  rw [tripHi, tripZ]
  pointwise [k0_pay37, k0_pay36]
  rfl

/-- The logarithms' low part of a later visit. -/
theorem tripLo_apply (n : ℕ) (hn : n < 64) (ρ : Fin 1024) (c : Fin 128) :
    tripLo x0 x1 n hn (ix2 ρ c) = log1m (tripZ x0 x1 n hn (ix2 ρ c)) - log1m (tripZ x0 x1 n hn (ix2 ρ c)) := by
  rw [tripLo, tripZ]
  pointwise [k0_pay38, k0_pay37, k0_pay36]
  rfl

/-- The table as a later visit reads it. -/
theorem tableT (hT : IsTable x3) (s : Fin 128) (c : Fin 256) : k0_pay30 (View.ld (Val := Elt Ideal) (e' := .bf16) x3 rT) (ix2 s c) = if 128 ≤ c.val ∨ c.val ≤ s.val then 1 else 0 := by
  have e : View.ld (Val := Elt Ideal) (e' := .bf16) x3 rT (ix2 s c) = x3 (ix2 ⟨128 + s.val, by omega⟩ ⟨128 + c.val, by omega⟩) := View.ld_unit_apply_of _ _ _ _ _ _ fun a => by
    match a with
    | ⟨0, _⟩ => rfl
    | ⟨1, _⟩ => rfl
  rw [k0_pay30, shapeCast_self, e, hT]
  refine if_congr ?_ rfl rfl
  show 256 ≤ 128 + c.val ∨ 128 + c.val ≤ 128 + s.val ↔ _
  omega

/-- The weights of a later visit, from its parts. -/
theorem pay40_apply (T : FVec Ideal S128x256 .bf16) (z : FVec Ideal S1024x128 .f32) (hi lo : FVec Ideal S1024x128 .bf16) (carry : Vec Ideal S1024x128 .f32) (ρ : Fin 1024) (c : Fin 128) :
    k0_pay40 T z hi lo (constant S1024x256 .f32 0x00000000#32) carry (ix2 ρ c)
      = Ideal.exp (z (ix2 ρ c) + ((∑ k : Fin 128, hi (ix2 ρ k) * T (ix2 k ⟨c.val, by omega⟩)) + ∑ k : Fin 128, lo (ix2 ρ k) * T (ix2 k ⟨c.val, by omega⟩)) + carry (ix2 ρ c)) := by
  pointwise [k0_pay40, k0_pay39]

/-- The carry after a later visit, from its parts. -/
theorem pay41_apply (T : FVec Ideal S128x256 .bf16) (hi lo : FVec Ideal S1024x128 .bf16) (carry : Vec Ideal S1024x128 .f32) (ρ : Fin 1024) (c : Fin 128) :
    k0_pay41 T hi lo (constant S1024x256 .f32 0x00000000#32) carry (ix2 ρ c)
      = carry (ix2 ρ c) + ((∑ k : Fin 128, hi (ix2 ρ k) * T (ix2 k ⟨128 + c.val, by omega⟩)) + ∑ k : Fin 128, lo (ix2 ρ k) * T (ix2 k ⟨128 + c.val, by omega⟩)) := by
  pointwise [k0_pay41, k0_pay39]

/-- A load of a whole carry is the carry. -/
theorem ld_rC (x : Vec Ideal S1024x128 .f32) : View.ld (Val := Elt Ideal) (e' := .f32) x rC = x := View.ld_unit_zero (S := S1024x128) (by funext a; fin_cases a <;> rfl) _ x

/-- The keys of a block before the query's own are all kept. -/
theorem kept (z : ℕ → EReal) {t n : ℕ} (hn : (n + 1) * 128 ≤ t) (c : Fin 128) : z (n * 128 + c.val) = zm z t (n * 128 + c.val) :=
  (if_pos (by omega)).symm

/-- The weights of block `n`'s keys, under the carry of the keys after the block. -/
theorem tripA_apply (hT : IsTable x3) (n : ℕ) (hn : n < 64) (carry : Vec Ideal S1024x128 .f32) (h : Fin 8) (r c : Fin 128) (t : ℕ) (ht : (n + 1) * 128 ≤ t)
    (hc : carry (ix2 (at8 h r) c) = suf (score x0 x1 h r) t ((n + 1) * 128)) :
    tripA x0 x1 x3 n hn carry (ix2 (at8 h r) c) = wgt (score x0 x1 h r) t (n * 128 + c.val) := by
  rw [tripA, pay40_apply, ld_rC, hc]
  simp only [tripHi_apply, tripLo_apply]
  rw [sums_of_table _ _ (fun k => c.val ≤ k.val) (score x0 x1 h r) t (n * 128) (fun k => (tripZ_apply x0 x1 n hn h r k).trans (kept _ ht k))
    (fun k => (tableT x3 hT k _).trans (if_congr (by simp) rfl rfl)), sum_block, tripZ_apply, kept (score x0 x1 h r) ht c, add_assoc,
    show n * 128 + 128 = (n + 1) * 128 by ring, suf_add _ _ (by omega) (by omega), exp_zm]

/-- The carry after block `n`. -/
theorem tripCarry_apply (hT : IsTable x3) (n : ℕ) (hn : n < 64) (carry : Vec Ideal S1024x128 .f32) (h : Fin 8) (r c : Fin 128) (t : ℕ) (ht : (n + 1) * 128 ≤ t)
    (hc : carry (ix2 (at8 h r) c) = suf (score x0 x1 h r) t ((n + 1) * 128)) :
    tripCarry x0 x1 x3 n hn carry (ix2 (at8 h r) c) = suf (score x0 x1 h r) t (n * 128) := by
  rw [tripCarry, pay41_apply, ld_rC, hc]
  simp only [tripHi_apply, tripLo_apply]
  rw [sums_of_table _ _ (fun k => 0 ≤ k.val) (score x0 x1 h r) t (n * 128) (fun k => (tripZ_apply x0 x1 n hn h r k).trans (kept _ ht k))
    (fun k => (tableT x3 hT k _).trans (if_congr (by simp) rfl rfl)), sum_block, add_comm (suf _ _ _),
    show n * 128 + 128 = (n + 1) * 128 by ring, suf_add _ _ (by omega) (by omega), Nat.add_zero]

end Cert.Proof.Stick

end
-- ==== Proof.Stick.Accum.lean ====
/- What the accumulator holds: the weighted sum of the values, over the keys visited. It gains a block of keys at each visit;
   a loop that stops early, every carry being minus infinity, has left out only keys of weight zero. -/
module

public import proofs.«01_k».proof.Proof.Stick.Visit

@[expose] public section

noncomputable section

namespace Cert.Proof.Stick

open Cert.KernelIdeal Cert.KernelIdeal.Gen Cert.Proof.Attn
open Idealize.ShloMosaic
open scoped BigOperators

variable (x0 : Vec Ideal S128x1024 .bf16) (x1 x2 : Vec Ideal S8192x1024 .bf16) (x3 : Vec Ideal S256x384 .bf16) (i : grid0.Coords)

/-- The weighted sum of the values of the keys from `b` on, for row `r` of the block, in head `h` of the group. -/
def part (h : Fin 8) (r d : Fin 128) (b : ℕ) : EReal :=
  ∑ s ∈ Finset.Ico b 8192, wgt (score x0 x1 h r) (place i r) s * keyAt x2 h s d

/-! ## A head's product -/

/-- A head's rows of a block of weights of the first visit. -/
theorem rows256 (A : FVec Ideal S1024x256 .bf16) (h : Fin 8) (off : Fin 2 → ℕ) (hs : Shape.Slices S1024x256 off S128x256) (h0 : off 0 = h.val * 128) (h1 : off 1 = 0)
    (r : Fin 128) (k : Fin 256) : extractStridedSlice S128x256 off A hs (ix2 r k) = A (ix2 (at8 h r) k) := by
  refine congrArg A (Shape.idx_ext₂ ?_ ?_)
  · show off 0 + r.val = h.val * 128 + r.val; omega
  · show off 1 + k.val = k.val; omega

/-- A head's rows of a block of weights of a later visit. -/
theorem rows128 (A : FVec Ideal S1024x128 .bf16) (h : Fin 8) (off : Fin 2 → ℕ) (hs : Shape.Slices S1024x128 off S128x128) (h0 : off 0 = h.val * 128) (h1 : off 1 = 0)
    (r k : Fin 128) : extractStridedSlice S128x128 off A hs (ix2 r k) = A (ix2 (at8 h r) k) := by
  refine congrArg A (Shape.idx_ext₂ ?_ ?_)
  · show off 0 + r.val = h.val * 128 + r.val; omega
  · show off 1 + k.val = k.val; omega

/-- A product of a head's weights and values over 256 keys. -/
theorem prod256 (a : FVec Ideal S128x256 .bf16) (v : FVec Ideal S256x128 .bf16) (r d : Fin 128) :
    matmul dot_S128x256_S256x128_S128x128_1_0_0_1_n_n none a v (constant S128x128 .f32 0x00000000#32) (ix2 r d) = ∑ k : Fin 256, a (ix2 r k) * v (ix2 k d) := by
  pointwise

/-- A product of a head's weights and values over 128 keys. -/
theorem prod128 (a v : FVec Ideal S128x128 .bf16) (r d : Fin 128) :
    matmul dot_S128x128_S128x128_S128x128_1_0_0_1_n_n none a v (constant S128x128 .f32 0x00000000#32) (ix2 r d) = ∑ k : Fin 128, a (ix2 r k) * v (ix2 k d) := by
  pointwise

/-- From the query's place on, the weights are zero. -/
theorem wgt_after (z : ℕ → EReal) {t s : ℕ} (h : t ≤ s) : wgt z t s = 0 := if_neg (by omega)

/-- The first visit's product is the weighted sum of the values from its first key on. -/
theorem first_part (h : Fin 8) (r d : Fin 128) :
    (∑ k : Fin 256, wgt (score x0 x1 h r) (place i r) (base i + k.val) * keyAt x2 h (base i + k.val) d) = part x0 x1 x2 i h r d (base i) := by
  rw [sum_block_all fun s => wgt (score x0 x1 h r) (place i r) s * keyAt x2 h s d, part]
  refine Finset.sum_subset (fun j hj => ?_) fun j hj hn => ?_
  · have := (first_end i r).2
    rw [Finset.mem_Ico] at hj ⊢; omega
  · have := (first_end i r).1
    rw [Finset.mem_Ico] at hj hn
    show wgt (score x0 x1 h r) (place i r) j * keyAt x2 h j d = 0
    rw [wgt_after _ (by omega), zero_mul]

/-- A later visit's product adds the values of its keys. -/
theorem next_part (n : ℕ) (hn : n < 64) (h : Fin 8) (r d : Fin 128) :
    part x0 x1 x2 i h r d ((n + 1) * 128) + (∑ k : Fin 128, wgt (score x0 x1 h r) (place i r) (n * 128 + k.val) * keyAt x2 h (n * 128 + k.val) d) = part x0 x1 x2 i h r d (n * 128) := by
  rw [sum_block_all fun s => wgt (score x0 x1 h r) (place i r) s * keyAt x2 h s d, add_comm, show n * 128 + 128 = (n + 1) * 128 by ring]
  exact Finset.sum_Ico_consecutive _ (by omega) (by omega)

/-- One head's rows of the accumulator after the first visit. -/
theorem head_first (hT : IsTable x3) (h : Fin 8) (off : Fin 2 → ℕ) (hs : Shape.Slices S1024x256 off S128x256) (h0 : off 0 = h.val * 128) (h1 : off 1 = 0)
    (v : FVec Ideal S256x128 .bf16) (hv : ∀ (k : Fin 256) (d : Fin 128), v (ix2 k d) = keyAt x2 h (base i + k.val) d) (hc) (r d : Fin 128) :
    shapeCast S128x128 (matmul dot_S128x256_S256x128_S128x128_1_0_0_1_n_n none (extractStridedSlice S128x256 off (firstA i x0 x1 x3) hs) v
      (constant S128x128 .f32 0x00000000#32)) hc (ix2 r d) = part x0 x1 x2 i h r d (base i) := by
  rw [shapeCast_self, prod256, ← first_part]
  exact Finset.sum_congr rfl fun k _ => by rw [rows256 _ h _ _ h0 h1, firstA_apply x0 x1 x3 i hT, hv]

/-- One head's rows of the accumulator after a later visit. -/
theorem head_next (hT : IsTable x3) (n : ℕ) (hn : n < 64) (acc carry : Vec Ideal S1024x128 .f32) (hi : n + 1 ≤ (i 1).val)
    (hcarry : ∀ h r c, carry (ix2 (at8 h r) c) = suf (score x0 x1 h r) (place i r) ((n + 1) * 128))
    (hacc : ∀ h r d, acc (ix2 (at8 h r) d) = part x0 x1 x2 i h r d ((n + 1) * 128))
    (h : Fin 8) (off : Fin 2 → ℕ) (hs : Shape.Slices S1024x128 off S128x128) (h0 : off 0 = h.val * 128) (h1 : off 1 = 0)
    (v : FVec Ideal S128x128 .bf16) (hv : ∀ k d : Fin 128, v (ix2 k d) = keyAt x2 h (n * 128 + k.val) d)
    (a : FVec Ideal S128x128 .f32) (ha : ∀ r d : Fin 128, a (ix2 r d) = acc (ix2 (at8 h r) d)) (hc) (r d : Fin 128) :
    shapeCast S128x128 (addf a (matmul dot_S128x128_S128x128_S128x128_1_0_0_1_n_n none (extractStridedSlice S128x128 off (tripA x0 x1 x3 n hn carry) hs) v
      (constant S128x128 .f32 0x00000000#32))) hc (ix2 r d) = part x0 x1 x2 i h r d (n * 128) := by
  have e : ∀ w : FVec Ideal S128x128 .f32, addf a w (ix2 r d) = a (ix2 r d) + w (ix2 r d) := fun w => rfl
  rw [shapeCast_self, e, prod128, ha, hacc, ← next_part x0 x1 x2 i n hn]
  congr 1
  refine Finset.sum_congr rfl fun k _ => ?_
  rw [rows128 _ h _ _ h0 h1, tripA_apply x0 x1 x3 hT n hn carry h r k (place i r) ?_ (hcarry h r k), hv]
  show (n + 1) * 128 ≤ (i 1).val * 128 + r.val
  omega

/-! ## The accumulator and the carry -/

/-- The accumulator after the first visit. -/
theorem accFirst_apply (hT : IsTable x3) (h : Fin 8) (r d : Fin 128) :
    accFirst i x0 x1 x2 x3 (ix2 (at8 h r) d) = part x0 x1 x2 i h r d (base i) :=
  canonA _ _ _ _ _ _ _ _ (fun h r d => part x0 x1 x2 i h r d (base i))
    (head_first x0 x1 x2 x3 i hT 0 _ slices_S1024x256_o0_0_S128x256 rfl rfl (View.ld x2 (rF0 i)) (ld_keys256 x2 0 _ _ _ (offF0 i) rfl) shapeCasts_S128x128_S128x128)
    (head_first x0 x1 x2 x3 i hT 1 _ slices_S1024x256_o128_0_S128x256 rfl rfl (View.ld x2 (rF1 i)) (ld_keys256 x2 1 _ _ _ (offF1 i) rfl) shapeCasts_S128x128_S128x128)
    (head_first x0 x1 x2 x3 i hT 2 _ slices_S1024x256_o256_0_S128x256 rfl rfl (View.ld x2 (rF2 i)) (ld_keys256 x2 2 _ _ _ (offF2 i) rfl) shapeCasts_S128x128_S128x128)
    (head_first x0 x1 x2 x3 i hT 3 _ slices_S1024x256_o384_0_S128x256 rfl rfl (View.ld x2 (rF3 i)) (ld_keys256 x2 3 _ _ _ (offF3 i) rfl) shapeCasts_S128x128_S128x128)
    (head_first x0 x1 x2 x3 i hT 4 _ slices_S1024x256_o512_0_S128x256 rfl rfl (View.ld x2 (rF4 i)) (ld_keys256 x2 4 _ _ _ (offF4 i) rfl) shapeCasts_S128x128_S128x128)
    (head_first x0 x1 x2 x3 i hT 5 _ slices_S1024x256_o640_0_S128x256 rfl rfl (View.ld x2 (rF5 i)) (ld_keys256 x2 5 _ _ _ (offF5 i) rfl) shapeCasts_S128x128_S128x128)
    (head_first x0 x1 x2 x3 i hT 6 _ slices_S1024x256_o768_0_S128x256 rfl rfl (View.ld x2 (rF6 i)) (ld_keys256 x2 6 _ _ _ (offF6 i) rfl) shapeCasts_S128x128_S128x128)
    (head_first x0 x1 x2 x3 i hT 7 _ slices_S1024x256_o896_0_S128x256 rfl rfl (View.ld x2 (rF7 i)) (ld_keys256 x2 7 _ _ _ (offF7 i) rfl) shapeCasts_S128x128_S128x128)
    h r d

/-- The accumulator after a later visit. -/
theorem accNext_apply (hT : IsTable x3) (n : ℕ) (hn : n < 64) (acc carry : Vec Ideal S1024x128 .f32) (hi : n + 1 ≤ (i 1).val)
    (hcarry : ∀ h r c, carry (ix2 (at8 h r) c) = suf (score x0 x1 h r) (place i r) ((n + 1) * 128))
    (hacc : ∀ h r d, acc (ix2 (at8 h r) d) = part x0 x1 x2 i h r d ((n + 1) * 128)) (h : Fin 8) (r d : Fin 128) :
    accNext x0 x1 x2 x3 n hn acc carry (ix2 (at8 h r) d) = part x0 x1 x2 i h r d (n * 128) :=
  canonA _ _ _ _ _ _ _ _ (fun h r d => part x0 x1 x2 i h r d (n * 128))
    (head_next x0 x1 x2 x3 i hT n hn acc carry hi hcarry hacc 0 _ slices_S1024x128_o0_0_S128x128 rfl rfl (View.ld x2 (rK0 n hn)) (ld_keys128 x2 0 _ _ _ (offK0 hn) rfl) (View.ld acc rA0) (ld_rows acc 0 _ _ rfl rfl) shapeCasts_S128x128_S128x128)
    (head_next x0 x1 x2 x3 i hT n hn acc carry hi hcarry hacc 1 _ slices_S1024x128_o128_0_S128x128 rfl rfl (View.ld x2 (rK1 n hn)) (ld_keys128 x2 1 _ _ _ (offK1 hn) rfl) (View.ld acc rA1) (ld_rows acc 1 _ _ rfl rfl) shapeCasts_S128x128_S128x128)
    (head_next x0 x1 x2 x3 i hT n hn acc carry hi hcarry hacc 2 _ slices_S1024x128_o256_0_S128x128 rfl rfl (View.ld x2 (rK2 n hn)) (ld_keys128 x2 2 _ _ _ (offK2 hn) rfl) (View.ld acc rA2) (ld_rows acc 2 _ _ rfl rfl) shapeCasts_S128x128_S128x128)
    (head_next x0 x1 x2 x3 i hT n hn acc carry hi hcarry hacc 3 _ slices_S1024x128_o384_0_S128x128 rfl rfl (View.ld x2 (rK3 n hn)) (ld_keys128 x2 3 _ _ _ (offK3 hn) rfl) (View.ld acc rA3) (ld_rows acc 3 _ _ rfl rfl) shapeCasts_S128x128_S128x128)
    (head_next x0 x1 x2 x3 i hT n hn acc carry hi hcarry hacc 4 _ slices_S1024x128_o512_0_S128x128 rfl rfl (View.ld x2 (rK4 n hn)) (ld_keys128 x2 4 _ _ _ (offK4 hn) rfl) (View.ld acc rA4) (ld_rows acc 4 _ _ rfl rfl) shapeCasts_S128x128_S128x128)
    (head_next x0 x1 x2 x3 i hT n hn acc carry hi hcarry hacc 5 _ slices_S1024x128_o640_0_S128x128 rfl rfl (View.ld x2 (rK5 n hn)) (ld_keys128 x2 5 _ _ _ (offK5 hn) rfl) (View.ld acc rA5) (ld_rows acc 5 _ _ rfl rfl) shapeCasts_S128x128_S128x128)
    (head_next x0 x1 x2 x3 i hT n hn acc carry hi hcarry hacc 6 _ slices_S1024x128_o768_0_S128x128 rfl rfl (View.ld x2 (rK6 n hn)) (ld_keys128 x2 6 _ _ _ (offK6 hn) rfl) (View.ld acc rA6) (ld_rows acc 6 _ _ rfl rfl) shapeCasts_S128x128_S128x128)
    (head_next x0 x1 x2 x3 i hT n hn acc carry hi hcarry hacc 7 _ slices_S1024x128_o896_0_S128x128 rfl rfl (View.ld x2 (rK7 n hn)) (ld_keys128 x2 7 _ _ _ (offK7 hn) rfl) (View.ld acc rA7) (ld_rows acc 7 _ _ rfl rfl) shapeCasts_S128x128_S128x128)
    h r d

/-- A store of a whole carry is what was stored. -/
theorem canon_rC (v : Vec Ideal S1024x128 .f32) (hc) : View.canon ([⟨rC, shapeCast S1024x128 v hc⟩] : List (View.Piece (Elt Ideal) S1024x128 .f32)) = v := by
  rw [shapeCast_self]
  exact View.canon_unit_zero (S := S1024x128) (by funext a; fin_cases a <;> rfl) _ v

/-- The carry buffer after the first visit. -/
theorem carryFirst_eq : carryFirst i x0 x1 x3 = firstCarry i x0 x1 x3 := canon_rC _ _

/-- The carry buffer after a later visit. -/
theorem carryNext_eq (n : ℕ) (hn : n < 64) (carry : Vec Ideal S1024x128 .f32) : carryNext x0 x1 x3 n hn carry = tripCarry x0 x1 x3 n hn carry := canon_rC _ _

/-- Every value is at most the greatest of a family. -/
theorem le_fold {ι : Type} [Fintype ι] (b : EReal) (f : ι → EReal) (x : ι) : f x ≤ Finset.fold max b f Finset.univ :=
  (Finset.le_fold_max (f x)).2 (.inr ⟨x, Finset.mem_univ x, le_refl _⟩)

/-- Every entry is at most the largest. -/
theorem le_top (v : FVec Ideal S1024x128 .f32) (ρ : Fin 1024) (c : Fin 128) : v (ix2 ρ c) ≤ k0_pay4 v := by
  have e : k0_pay4 v = Finset.fold max (Ideal.ofBits FTy.f32 0xFF800000#32) (fun x : Fin 1024 × Fin 128 => v (ix2 x.1 x.2)) Finset.univ := by
    pointwise [k0_pay4]
  rw [e]
  exact le_fold _ (fun x : Fin 1024 × Fin 128 => v (ix2 x.1 x.2)) (ρ, c)

/-- Where the loop stops, the largest carry is minus infinity. -/
theorem eq_bot_of_not_goes (top : Ideal .f32) (h : ¬ goes top) : top = (⊥ : EReal) := by
  by_contra hne
  refine h ?_
  have hlt : (⊥ : EReal) < top := bot_lt_iff_ne_bot.2 hne
  show BitVec.ofBool (decide ((⊥ : EReal) < top)) = 1#1
  rw [decide_eq_true hlt]; rfl

/-- Once the sum of the logarithms is minus infinity, the earlier keys add nothing. -/
theorem part_of_bot (h : Fin 8) (r d : Fin 128) {b : ℕ} (hb : b ≤ 8192) (hbot : suf (score x0 x1 h r) (place i r) b = ⊥) :
    part x0 x1 x2 i h r d b = part x0 x1 x2 i h r d 0 := by
  unfold part
  refine ((Finset.sum_Ico_consecutive _ (Nat.zero_le b) hb).symm.trans ?_).symm
  refine (congrArg (· + _) (Finset.sum_eq_zero fun s hs => ?_)).trans (zero_add _)
  rw [Finset.mem_Ico] at hs
  rw [wgt_eq_zero _ _ hs.2.le hb hbot, zero_mul]

/-- The loop leaves the weighted sum over every key. -/
theorem loop_apply (hT : IsTable x3) : ∀ (n : ℕ) (top : Ideal .f32) (acc carry : Vec Ideal S1024x128 .f32), n ≤ (i 1).val →
    (∀ h r c, carry (ix2 (at8 h r) c) = suf (score x0 x1 h r) (place i r) (n * 128)) →
    (∀ h r d, acc (ix2 (at8 h r) d) = part x0 x1 x2 i h r d (n * 128)) →
    (∀ ρ c, carry (ix2 ρ c) ≤ top) →
    ∀ h r d, loop x0 x1 x2 x3 n top acc carry (ix2 (at8 h r) d) = part x0 x1 x2 i h r d 0
  | 0, top, acc, carry, _, _, hacc, _ => fun h r d => (hacc h r d).trans (by rw [Nat.zero_mul])
  | n + 1, top, acc, carry, hi, hcarry, hacc, htop => fun h r d => by
    have hb : (i 1).val < 64 := qblk_lt i
    have hn : n < 64 := by omega
    rw [loop]
    by_cases hg : goes top
    · rw [if_pos hg, dif_pos hn]
      have hc : ∀ h r c, carryNext x0 x1 x3 n hn carry (ix2 (at8 h r) c) = suf (score x0 x1 h r) (place i r) (n * 128) := fun h r c => by
        rw [carryNext_eq, tripCarry_apply x0 x1 x3 hT n hn carry h r c (place i r) ?_ (hcarry h r c)]
        show (n + 1) * 128 ≤ (i 1).val * 128 + r.val
        omega
      exact loop_apply hT n _ _ _ (by omega) hc (fun h r d => accNext_apply x0 x1 x2 x3 i hT n hn acc carry hi hcarry hacc h r d)
        (fun ρ c => by rw [carryNext_eq]; exact le_top _ ρ c) h r d
    · rw [if_neg hg, hacc]
      refine part_of_bot x0 x1 x2 i h r d (by omega) (le_bot_iff.1 ?_)
      rw [← hcarry h r 0, ← eq_bot_of_not_goes top hg]
      exact htop _ _

/-- The accumulator after the loop holds the weighted sum over every key. -/
theorem accLast_apply (hT : IsTable x3) (h : Fin 8) (r d : Fin 128) : accLast i x0 x1 x2 x3 (ix2 (at8 h r) d) = part x0 x1 x2 i h r d 0 := by
  refine loop_apply x0 x1 x2 x3 i hT ((i 1).val - 1) _ _ _ (Nat.sub_le _ _) (fun h r c => ?_) (fun h r d => accFirst_apply x0 x1 x2 x3 i hT h r d) (fun ρ c => ?_) h r d
  · rw [carryFirst_eq, firstCarry_apply x0 x1 x3 i hT]
  · rw [carryFirst_eq]; exact le_top _ ρ c

/-- The block the kernel writes: row `r`, column `d` of head `h`, is the weighted sum of the values. -/
theorem out5_apply (hT : IsTable x3) (h : Fin 8) (r d : Fin 128) : out5 i x0 x1 x2 x3 (ix2 r (at8 h d)) = part x0 x1 x2 i h r d 0 :=
  canonQ _ _ _ _ _ _ _ _ (fun h r d => part x0 x1 x2 i h r d 0)
    (fun r d => (ld_rows (accLast i x0 x1 x2 x3) 0 _ _ rfl rfl r d).trans (accLast_apply x0 x1 x2 x3 i hT 0 r d))
    (fun r d => (ld_rows (accLast i x0 x1 x2 x3) 1 _ _ rfl rfl r d).trans (accLast_apply x0 x1 x2 x3 i hT 1 r d))
    (fun r d => (ld_rows (accLast i x0 x1 x2 x3) 2 _ _ rfl rfl r d).trans (accLast_apply x0 x1 x2 x3 i hT 2 r d))
    (fun r d => (ld_rows (accLast i x0 x1 x2 x3) 3 _ _ rfl rfl r d).trans (accLast_apply x0 x1 x2 x3 i hT 3 r d))
    (fun r d => (ld_rows (accLast i x0 x1 x2 x3) 4 _ _ rfl rfl r d).trans (accLast_apply x0 x1 x2 x3 i hT 4 r d))
    (fun r d => (ld_rows (accLast i x0 x1 x2 x3) 5 _ _ rfl rfl r d).trans (accLast_apply x0 x1 x2 x3 i hT 5 r d))
    (fun r d => (ld_rows (accLast i x0 x1 x2 x3) 6 _ _ rfl rfl r d).trans (accLast_apply x0 x1 x2 x3 i hT 6 r d))
    (fun r d => (ld_rows (accLast i x0 x1 x2 x3) 7 _ _ rfl rfl r d).trans (accLast_apply x0 x1 x2 x3 i hT 7 r d))
    h r d

end Cert.Proof.Stick

end
-- ==== Proof.Stick.Array.lean ====
/- What the kernel's result arrays hold at the extended reals, in terms of its arguments: in the first, the attention, entry
   by entry; in the second, the passenger table as it was given. -/
module

public import proofs.«01_k».proof.Proof.Stick.Accum
public import proofs.«01_k».proof.Proof.Attn.Launch
public import Idealize.ShloMosaic.Lib.Pipeline.ValueKit.Geometry
public import Idealize.ShloMosaic.Lib.StableHlo.ReadAt
public import Idealize.ShloMosaic.Lib.WordCmp

@[expose] public section

noncomputable section

namespace Cert.Proof.Stick

open Cert.KernelIdeal Cert.KernelIdeal.Gen Cert.Proof.Attn
open Idealize.ShloMosaic Idealize.ShloMosaic.TcCoe
open Idealize.ShloMosaic.Pipeline (Dat Cfg Window)
open scoped BigOperators

/-- The head of the sixteen that head `h` of group `g` is. -/
def headIn (g : Fin 2) (h : Fin 8) : Fin 16 := ⟨g.val * 8 + h.val, by omega⟩

/-! ## The windows' blocks -/

/-- Where the queries' block lies, at each point. -/
theorem index0 : ∀ t : Fin (cfg0 (F := Ideal)).N, win0_0.index t = ![(grid0.coords t 1).val, (grid0.coords t 0).val] :=
  (by decide +kernel : ∀ t : Fin grid0.N, win0_0.index t = ![(grid0.coords t 1).val, (grid0.coords t 0).val])
/-- Where the keys' block lies: a group's columns, every row. -/
theorem index1 : ∀ t : Fin (cfg0 (F := Ideal)).N, win0_1.index t = ![0, 2 + (grid0.coords t 0).val] :=
  (by decide +kernel : ∀ t : Fin grid0.N, win0_1.index t = ![0, 2 + (grid0.coords t 0).val])
/-- Where the values' block lies. -/
theorem index2 : ∀ t : Fin (cfg0 (F := Ideal)).N, win0_2.index t = ![0, 4 + (grid0.coords t 0).val] :=
  (by decide +kernel : ∀ t : Fin grid0.N, win0_2.index t = ![0, 4 + (grid0.coords t 0).val])
/-- The table of zeros and ones is one block. -/
theorem index3 : ∀ t : Fin (cfg0 (F := Ideal)).N, win0_3.index t = ![0, 0] :=
  (by decide +kernel : ∀ t : Fin grid0.N, win0_3.index t = ![0, 0])
/-- Where the result's block lies. -/
theorem index5 : ∀ t : Fin (cfg0 (F := Ideal)).N, win0_5.index t = ![(grid0.coords t 1).val, (grid0.coords t 0).val] :=
  (by decide +kernel : ∀ t : Fin grid0.N, win0_5.index t = ![(grid0.coords t 1).val, (grid0.coords t 0).val])
/-- The passenger table goes out where it came in. -/
theorem index46 : ∀ t : Fin (cfg0 (F := Ideal)).N, win0_4.index t = win0_6.index t :=
  (by decide +kernel : ∀ t : Fin grid0.N, win0_4.index t = win0_6.index t)

variable (m : (l : Loc nD τ sig) → Buf (Elt Ideal) l) (c : Dev nD) (t : Fin (cfg0 (F := Ideal)).N)

/-- The projections, as launched. -/
abbrev proj : Buf (Elt Ideal) ((c : Thread nD τ).loc main_arg0) := m ((c : Thread nD τ).loc main_arg0)

/-- The group of heads a point visits. -/
abbrev grp : Fin 2 := grid0.coords t 0

/-- The queries' block. -/
theorem blk0 (h : Fin 8) (r d : Fin 128) : blkAt m c 0 t (ix2 r (at8 h d)) = rowAt (proj m c) (place (grid0.coords t) r) (colOf 0 (headIn (grp t) h) d) := by
  have hi : (grid0.coords t 1).val < 64 := (grid0.coords t 1).isLt
  rw [rowAt, dif_pos (by show (grid0.coords t 1).val * 128 + r.val < 8192; omega)]
  unfold blkAt
  blk_simp
  rw [V_main_arg0]
  refine congrArg (proj m c) (Shape.idx_ext₂ ?_ ?_)
  · blk_simp [index0]
  · blk_simp [index0]
    show (grid0.coords t 0).val * 1024 + (h.val * 128 + d.val) = 0 * 2048 + ((grid0.coords t 0).val * 8 + h.val) * 128 + d.val
    omega

/-- The keys' block. -/
theorem blk1 (h : Fin 8) (s : ℕ) (d : Fin 128) : keyAt (blkAt m c 1 t) h s d = rowAt (proj m c) s (colOf 1 (headIn (grp t) h) d) := by
  unfold keyAt rowAt
  split
  · unfold blkAt
    blk_simp
    rw [V_main_arg0]
    refine congrArg (proj m c) (Shape.idx_ext₂ ?_ ?_)
    · blk_simp [index1]
    · blk_simp [index1]
      show (2 + (grid0.coords t 0).val) * 1024 + (h.val * 128 + d.val) = 1 * 2048 + ((grid0.coords t 0).val * 8 + h.val) * 128 + d.val
      omega
  · rfl

/-- The values' block. -/
theorem blk2 (h : Fin 8) (s : ℕ) (d : Fin 128) : keyAt (blkAt m c 2 t) h s d = rowAt (proj m c) s (colOf 2 (headIn (grp t) h) d) := by
  unfold keyAt rowAt
  split
  · unfold blkAt
    blk_simp
    rw [V_main_arg0]
    refine congrArg (proj m c) (Shape.idx_ext₂ ?_ ?_)
    · blk_simp [index2]
    · blk_simp [index2]
      show (4 + (grid0.coords t 0).val) * 1024 + (h.val * 128 + d.val) = 2 * 2048 + ((grid0.coords t 0).val * 8 + h.val) * 128 + d.val
      omega
  · rfl

/-- The set bit is the number one, -/
theorem one_word : (FloatOps.uitofp .bf16 (BitVec.ofBool true) : Ideal .bf16) = (1 : EReal) := by
  show (((BitVec.ofBool true).toNat : ℝ) : EReal) = 1
  simp

/-- and the clear bit zero. -/
theorem zero_word : (FloatOps.uitofp .bf16 (BitVec.ofBool false) : Ideal .bf16) = (0 : EReal) := by
  show (((BitVec.ofBool false).toNat : ℝ) : EReal) = 0
  simp

/-- The table the host prepares. -/
theorem table (s : Fin 256) (k : Fin 384) : V m c main_v9 (ix2 s k) = if 256 ≤ k.val ∨ k.val ≤ s.val then (1 : EReal) else 0 := by
  show StableHlo.after hostOps0 (fun b => m (c, b)) main_v9 (ix2 s k) = _
  after_reads_at
  have h256 : k.val < 256 → (256 ≤ k.val ∨ k.val ≤ s.val ↔ k.val ≤ s.val) := fun h => by omega
  split
  · rename_i h
    rw [WordCmp.cmpi_sge_ofNat (by omega) (by omega), if_congr (h256 h) rfl rfl]
    by_cases hk : k.val ≤ s.val
    · rw [decide_eq_true hk, if_pos hk]
      exact one_word
    · rw [decide_eq_false hk, if_neg hk]
      exact zero_word
  · rename_i h
    rw [if_pos (.inl (by omega))]

/-- The table's block is the table. -/
theorem blk3 : IsTable (blkAt m c 3 t) := by
  intro s k
  rw [← table m c s k]
  unfold blkAt
  blk_simp
  refine congrArg (V m c main_v9) (Shape.idx_ext₂ ?_ ?_)
  · blk_simp [index3]
  · blk_simp [index3]

/-! ## The arrays -/

/-- A block of the attention, entry by entry. -/
theorem out5_entry (h : Fin 8) (r d : Fin 128) :
    out5 (grid0.coords t) (blkAt m c 0 t) (blkAt m c 1 t) (blkAt m c 2 t) (blkAt m c 3 t) (ix2 r (at8 h d))
      = attend (proj m c) (headIn (grp t) h) (place (grid0.coords t) r) d := by
  have hz : score (blkAt m c 0 t) (blkAt m c 1 t) h r = headScore (proj m c) (headIn (grp t) h) (place (grid0.coords t) r) := by
    funext s
    unfold score headScore
    refine congrArg (· * scale) (Finset.sum_congr rfl fun d _ => ?_)
    rw [blk0, blk1]
  rw [out5_apply _ _ _ _ _ (blk3 m c t), part, attend, hz]
  exact Finset.sum_congr rfl fun s _ => by rw [blk2]

/-- The first result array holds the attention. -/
theorem arr5 : (dats m 0 c).arrAt 5 (cfg0 (F := Ideal)).N = attention (proj m c) := by
  refine (dats m 0 c).arrAt_eq_of_covers 5 _ (by decide +kernel) fun t hf y => ?_
  blk_simp
  rw [after_5]
  have l0 : (y 0).val < 128 := (y 0).isLt
  have l1 : (y 1).val < 1024 := (y 1).isLt
  obtain ⟨h, d, hd⟩ := exists_at8 ⟨(y 1).val, l1⟩
  have hd' : (y 1).val = h.val * 128 + d.val := congrArg Fin.val hd
  have hy : y = ix2 (⟨(y 0).val, l0⟩ : Fin 128) (at8 h d) := Shape.idx_ext₂ rfl hd'
  have e0 : (((win0_5.blk t).view.emb y) 0 : ℕ) = (grid0.coords t 1).val * 128 + (y 0).val := by blk_simp [index5]
  have e1 : (((win0_5.blk t).view.emb y) 1 : ℕ) = (grid0.coords t 0).val * 1024 + (y 1).val := by blk_simp [index5]
  rw [show out5 (grid0.coords t) (blkAt m c 0 t) (blkAt m c 1 t) (blkAt m c 2 t) (blkAt m c 3 t) y
    = out5 (grid0.coords t) (blkAt m c 0 t) (blkAt m c 1 t) (blkAt m c 2 t) (blkAt m c 3 t) (ix2 (⟨(y 0).val, l0⟩ : Fin 128) (at8 h d)) from congrArg _ hy, out5_entry]
  have a1 : headIn (grp t) h = headOf (((win0_5.blk t).view.emb y) 1) := Fin.ext (by
    show (grid0.coords t 0).val * 8 + h.val = (((win0_5.blk t).view.emb y) 1 : ℕ) / 128
    rw [e1, hd']; omega)
  have a2 : d = laneOf (((win0_5.blk t).view.emb y) 1) := Fin.ext (by
    show d.val = (((win0_5.blk t).view.emb y) 1 : ℕ) % 128
    rw [e1, hd']; omega)
  show attend (proj m c) (headIn (grp t) h) ((grid0.coords t 1).val * 128 + (y 0).val) d = attend (proj m c) (headOf (((win0_5.blk t).view.emb y) 1)) (((win0_5.blk t).view.emb y) 0 : ℕ) (laneOf (((win0_5.blk t).view.emb y) 1))
  rw [← a1, ← a2, e0]

/-- The second result array holds the passenger table. -/
theorem arr6 : (dats m 0 c).arrAt 6 (cfg0 (F := Ideal)).N = (m ((c : Thread nD τ).loc main_arg1)) := by
  refine (dats m 0 c).arrAt_eq_of_covers 6 _ (by decide +kernel) fun t hf y => ?_
  blk_simp
  rw [after_6]
  have e : out6 (blkAt m c 4 t) y = blkAt m c 4 t y := by
    have hc : out6 (blkAt m c 4 t) = k0_pay5 (View.ld (blkAt m c 4 t) rW) := View.canon_unit_zero (S := S128x4096) (by funext a; fin_cases a <;> rfl) _ _
    rw [hc]
    show View.ld (blkAt m c 4 t) rW y = _
    rw [View.ld_unit_zero (S := S128x4096) (by funext a; fin_cases a <;> rfl)]
  rw [e]
  unfold blkAt
  blk_simp
  rw [V_main_arg1]
  refine congrArg (m ((c : Thread nD τ).loc main_arg1)) (Shape.idx_ext₂ ?_ ?_)
  · blk_simp [index46]
  · blk_simp [index46]

end Cert.Proof.Stick

end
-- ==== Proof.Stick.Window.lean ====
/- The reference's running sum from the last key downwards, a sum over a window padded at its end, read at an index. -/
module

public import proofs.«01_k».proof.Proof.Stick.Attend

@[expose] public section

noncomputable section

namespace Cert.Proof.Stick

open Idealize.ShloMosaic
open scoped BigOperators

/-- The window of the running sum has `N` places. -/
theorem numel_window (N : ℕ) : (⟨3, ![1, 1, N]⟩ : Shape).numel = N := by
  show ∏ a : Fin 3, (![1, 1, N] : Fin 3 → ℕ) a = N
  rw [Fin.prod_univ_three]
  show 1 * 1 * N = N
  omega

/-- Place `n` of the window. -/
theorem symm_window {N : ℕ} (n : Fin (⟨3, ![1, 1, N]⟩ : Shape).numel) :
    (⟨3, ![1, 1, N]⟩ : Shape).rowMajor.symm n = ix3 (0 : Fin 1) (0 : Fin 1) (n.cast (numel_window N)) :=
  ((⟨3, ![1, 1, N]⟩ : Shape).rowMajor.symm_apply_eq).2 (Fin.ext (by
    rw [Shape.rowMajor_val_three]
    show n.val = (0 * 1 + 0) * N + n.val
    omega))

/-- Adding a list's terms up one by one gives the sum. -/
theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The terms of a window that starts at `s` and reaches past the end add up to the terms from `s` on. -/
theorem sum_window (f : ℕ → EReal) (N s : ℕ) (hs : s ≤ N) : (∑ n : Fin N, if s + n.val < N then f (s + n.val) else 0) = ∑ j ∈ Finset.Ico s N, f j := by
  rw [sum_block_all (fun j => if j < N then f j else 0) s N]
  symm
  refine (Finset.sum_congr rfl fun j hj => ?_).trans (Finset.sum_subset (s₁ := Finset.Ico s N) (fun j hj => ?_) fun j hj hn => ?_)
  · rw [Finset.mem_Ico] at hj; exact (if_pos hj.2).symm
  · rw [Finset.mem_Ico] at hj ⊢; omega
  · rw [Finset.mem_Ico] at hj hn
    exact if_neg (by omega)

/-- The running sum at a key adds up the terms from that key on. -/
theorem suffix_sum {A B N M : ℕ} (hM : M + 1 = N) (x : (⟨3, ![A, B, N]⟩ : Shape).Idx → EReal) (a : Fin A) (b : Fin B) (f : ℕ → EReal)
    (hx : ∀ j : Fin N, x (ix3 a b j) = f j.val)
    (h : (⟨3, ![A, B, N]⟩ : Shape).ReduceWindows (![1, 1, N] : Fin 3 → ℕ) ![1, 1, 1] ![0, 0, 0] ![0, 0, M] ⟨3, ![A, B, N]⟩) (s : Fin N) :
    Ideal.hostReduceWindowAdd ![1, 1, N] ![1, 1, 1] ![0, 0, 0] ![0, 0, M] h x 0 (ix3 a b s) = ∑ j ∈ Finset.Ico s.val N, f j := by
  unfold Ideal.hostReduceWindowAdd Host.reduceWindow
  dsimp only
  refine (foldl_sum _ _ _).trans ?_
  rw [zero_add, ← Fin.sum_univ_def, ← sum_window f N s.val s.isLt.le]
  refine Fintype.sum_equiv (finCongr (numel_window N)) _ _ fun n => ?_
  have e0 : ((⟨3, ![1, 1, N]⟩ : Shape).rowMajor.symm n 0).val = 0 := by rw [symm_window]; rfl
  have e1 : ((⟨3, ![1, 1, N]⟩ : Shape).rowMajor.symm n 1).val = 0 := by rw [symm_window]; rfl
  have e2 : ((⟨3, ![1, 1, N]⟩ : Shape).rowMajor.symm n 2).val = n.val := by rw [symm_window]; rfl
  show _ = if s.val + n.val < N then f (s.val + n.val) else 0
  split
  · next hin =>
    have h2 := hin 2
    change 0 ≤ s.val * 1 + ((⟨3, ![1, 1, N]⟩ : Shape).rowMajor.symm n 2).val ∧ s.val * 1 + ((⟨3, ![1, 1, N]⟩ : Shape).rowMajor.symm n 2).val - 0 < N at h2
    rw [e2] at h2
    rw [if_pos (by omega)]
    refine (congrArg x (funext fun k => Fin.ext ?_)).trans (hx ⟨s.val + n.val, by omega⟩)
    match k with
    | ⟨0, _⟩ =>
      show a.val * 1 + ((⟨3, ![1, 1, N]⟩ : Shape).rowMajor.symm n 0).val - 0 = a.val
      omega
    | ⟨1, _⟩ =>
      show b.val * 1 + ((⟨3, ![1, 1, N]⟩ : Shape).rowMajor.symm n 1).val - 0 = b.val
      omega
    | ⟨2, _⟩ =>
      show s.val * 1 + ((⟨3, ![1, 1, N]⟩ : Shape).rowMajor.symm n 2).val - 0 = s.val + n.val
      omega
  · next hin =>
    rw [if_neg fun hlt => hin fun k => ?_]
    match k with
    | ⟨0, _⟩ =>
      show 0 ≤ a.val * 1 + ((⟨3, ![1, 1, N]⟩ : Shape).rowMajor.symm n 0).val ∧ a.val * 1 + ((⟨3, ![1, 1, N]⟩ : Shape).rowMajor.symm n 0).val - 0 < A
      have := a.isLt; omega
    | ⟨1, _⟩ =>
      show 0 ≤ b.val * 1 + ((⟨3, ![1, 1, N]⟩ : Shape).rowMajor.symm n 1).val ∧ b.val * 1 + ((⟨3, ![1, 1, N]⟩ : Shape).rowMajor.symm n 1).val - 0 < B
      have := b.isLt; omega
    | ⟨2, _⟩ =>
      show 0 ≤ s.val * 1 + ((⟨3, ![1, 1, N]⟩ : Shape).rowMajor.symm n 2).val ∧ s.val * 1 + ((⟨3, ![1, 1, N]⟩ : Shape).rowMajor.symm n 2).val - 0 < N
      omega

/-- The same of the printed operation, whose initial value is an array of one zero. -/
theorem host_suffix_sum {A B N M : ℕ} (hM : M + 1 = N) {u : Shape} (x : FVec Ideal ⟨3, ![A, B, N]⟩ .f32) (init : FVec Ideal u .f32) (hu : 0 < u.numel)
    (h0 : init (Shape.Idx.first hu) = 0) (a : Fin A) (b : Fin B) (f : ℕ → EReal) (hx : ∀ j : Fin N, x (ix3 a b j) = f j.val)
    (h : (⟨3, ![A, B, N]⟩ : Shape).ReduceWindows (![1, 1, N] : Fin 3 → ℕ) ![1, 1, 1] ![0, 0, 0] ![0, 0, M] ⟨3, ![A, B, N]⟩) (s : Fin N) :
    Host.reduceWindowAdd ![1, 1, N] ![1, 1, 1] ![0, 0, 0] ![0, 0, M] x init h hu (ix3 a b s) = ∑ j ∈ Finset.Ico s.val N, f j := by
  unfold Host.reduceWindowAdd
  rw [Ideal.hostReduceWindowAdd_def, h0]
  exact suffix_sum hM x a b f hx h s

end Cert.Proof.Stick

end
-- ==== Proof.Stick.Reference.lean ====
/- The reference, stage by stage: its queries, keys and values by head, the scores, the mask, the logarithms and their
   running sum, the weights and the result, which is the attention. -/
module

public import proofs.«01_k».proof.Proof.Stick.Window
public import proofs.«01_k».proof.Proof.Gen.ReferenceIdeal.Run

@[expose] public section

noncomputable section

namespace Cert.Proof.Stick.Ref

open Cert.ReferenceIdeal Cert.ReferenceIdeal.Gen
open Idealize.ShloMosaic Idealize.ShloMosaic.TcCoe
open scoped BigOperators

variable (X : FVec Ideal S8192x6144 .bf16)

/-! ## The stages -/

/-- The queries by head. -/
def refQ : FVec Ideal S16x8192x128 .f32 :=
  transpose S16x8192x128 [1, 0, 2] (shapeCast _ (extractStridedSlice S8192x2048 ![0, 0] (extf .f32 X bitsLt_bf16_f32) slices_S8192x6144_S8192x2048_0_0) shapeCasts_S8192x2048_S8192x16x128) transposes_S8192x16x128_S16x8192x128_1_0_2

/-- The keys by head. -/
def refK : FVec Ideal S16x8192x128 .f32 :=
  transpose S16x8192x128 [1, 0, 2] (shapeCast _ (extractStridedSlice S8192x2048 ![0, 2048] (extf .f32 X bitsLt_bf16_f32) slices_S8192x6144_S8192x2048_0_2048) shapeCasts_S8192x2048_S8192x16x128) transposes_S8192x16x128_S16x8192x128_1_0_2

/-- The values by head. -/
def refV : FVec Ideal S16x8192x128 .f32 :=
  transpose S16x8192x128 [1, 0, 2] (shapeCast _ (extractStridedSlice S8192x2048 ![0, 4096] (extf .f32 X bitsLt_bf16_f32) slices_S8192x6144_S8192x2048_0_4096) shapeCasts_S8192x2048_S8192x16x128) transposes_S8192x16x128_S16x8192x128_1_0_2

/-- The scores. -/
def refZ : FVec Ideal S16x8192x8192 .f32 :=
  mulf (Host.dotGeneral dot_S16x8192x128_S16x8192x128_S16x8192x8192_2_2_1_1_0_0 none (refQ X) (refK X)) (broadcastInDim S16x8192x8192 ![] bcast_S_S16x8192x8192 (constant S_ .f32 0x3DB504F3#32))

/-- The mask: the keys before the query. -/
def refMask : IVec S16x8192x8192 1 :=
  broadcastInDim S16x8192x8192 ![0, 1, 2] bcast_S1x8192x8192_S16x8192x8192_0_1_2 (cmpi .slt (broadcastInDim S1x8192x8192 ![0, 1, 2] bcast_S1x1x8192_S1x8192x8192_0_1_2 (broadcastInDim S1x1x8192 ![2] bcast_S8192_S1x1x8192_2 (iotaInDim S8192 32 0))) (broadcastInDim S1x8192x8192 ![0, 1, 2] bcast_S1x8192x1_S1x8192x8192_0_1_2 (broadcastInDim S1x8192x1 ![1] bcast_S8192_S1x8192x1_1 (iotaInDim S8192 32 0))))

/-- Zero everywhere. -/
def refZero : FVec Ideal S16x8192x8192 .f32 := broadcastInDim S16x8192x8192 ![] bcast_S_S16x8192x8192 (constant S_ .f32 0x00000000#32)

/-- The soft maximum of zero and `y`. -/
def refSP (y : FVec Ideal S16x8192x8192 .f32) : FVec Ideal S16x8192x8192 .f32 :=
  select (cmpf .une (subf y refZero) (subf y refZero)) (addf y refZero) (addf (maximumf y refZero) (Host.log1p (Host.exp (Host.negf (Host.absf (subf y refZero))))))

/-- The logarithms of the chances that the stick does not break. -/
def refLM : FVec Ideal S16x8192x8192 .f32 := select refMask (Host.negf (refSP (Host.negf (Host.negf (refZ X))))) refZero

/-- Their sums from each key on. -/
def refCum : FVec Ideal S16x8192x8192 .f32 :=
  Host.reduceWindowAdd ![1, 1, 8192] ![1, 1, 1] ![0, 0, 0] ![0, 0, 8191] (refLM X) (broadcastInDim S_ ![] bcast_S_S_ (constant S_ .f32 0x00000000#32)) reduceWindows_S16x8192x8192_S16x8192x8192_w1s1p0_0_w1s1p0_0_w8192s1p0_8191 h_S_

/-- The weights. -/
def refA : FVec Ideal S16x8192x8192 .f32 := select refMask (Host.exp (addf (Host.negf (refSP (Host.negf (refZ X)))) (subf (refCum X) (refLM X)))) refZero

/-- The result. -/
def refOut : FVec Ideal S8192x2048 .f32 :=
  shapeCast _ (transpose S8192x16x128 [1, 0, 2] (Host.dotGeneral dot_S16x8192x8192_S16x8192x128_S16x8192x128_2_1_1_2_0_0 none (refA X) (refV X)) transposes_S16x8192x128_S8192x16x128_1_0_2) shapeCasts_S8192x16x128_S8192x2048

set_option maxRecDepth 8192 in
/-- The reference's first result is the last stage. -/
theorem result_eq (m : (ℓ : Loc nD τ sig) → Buf (Elt Ideal) ℓ) (c : Dev nD) :
    Value.res_main_v30 m c = refOut (m ((c.tc : Thread nD τ).loc main_arg0)) := by
  unfold Value.res_main_v30
  rfl

/-! ## Each stage at an index -/

variable (H : Fin 16) (t s : Fin 8192) (d : Fin 128)

/-- The queries at an index. -/
theorem refQ_apply : refQ X (ix3 H t d) = rowAt X t.val (colOf 0 H d) := by
  pointwise [refQ, rowAt, colOf]

/-- The keys at an index. -/
theorem refK_apply : refK X (ix3 H s d) = rowAt X s.val (colOf 1 H d) := by
  pointwise [refK, rowAt, colOf]
  exact congrArg (fun k => X (ix2 s k)) (Fin.ext (Nat.add_assoc _ _ _).symm)

/-- The values at an index. -/
theorem refV_apply : refV X (ix3 H s d) = rowAt X s.val (colOf 2 H d) := by
  pointwise [refV, rowAt, colOf]
  exact congrArg (fun k => X (ix2 s k)) (Fin.ext (Nat.add_assoc _ _ _).symm)

/-- The scores at an index. -/
theorem refZ_apply : refZ X (ix3 H t s) = headScore X H t.val s.val := by
  have e : refZ X (ix3 H t s) = (∑ d : Fin 128, refQ X (ix3 H t d) * refK X (ix3 H s d)) * scale := by
    pointwise [refZ]
  rw [e, headScore]
  simp only [refQ_apply, refK_apply]

/-- The mask at an index. -/
theorem refMask_apply : refMask (ix3 H t s) = if s.val < t.val then 1#1 else 0#1 := by
  have e : refMask (ix3 H t s) = IntOp.cmpi .slt (BitVec.ofNat 32 s.val) (BitVec.ofNat 32 t.val) := by
    pointwise [refMask]
  rw [e, slt_small s.isLt t.isLt]

/-- Zero at an index. -/
theorem refZero_apply (i : S16x8192x8192.Idx) : refZero i = 0 := Ideal.ofBits_zero_f32

/-- The soft maximum at an index. -/
theorem refSP_apply (y : FVec Ideal S16x8192x8192 .f32) (i : S16x8192x8192.Idx) : refSP y i = softplus (y i) := by
  have e : refSP y i = Scalar.select (BitVec.ofBool (decide (y i - refZero i ≠ y i - refZero i))) (y i + refZero i)
      (max (y i) (refZero i) + Ideal.log1p (Ideal.exp (-(max (y i - refZero i) (-(y i - refZero i)))))) := rfl
  rw [e, refZero_apply, decide_eq_false (not_not.2 rfl), sub_zero]
  rfl

/-- The logarithms at an index. -/
theorem refLM_apply : refLM X (ix3 H t s) = lm (headScore X H t.val) t.val s.val := by
  have e : refLM X (ix3 H t s) = Scalar.select (refMask (ix3 H t s)) (-(refSP (Host.negf (Host.negf (refZ X))) (ix3 H t s))) (refZero (ix3 H t s)) := rfl
  have n : (Host.negf (Host.negf (refZ X)) : FVec Ideal S16x8192x8192 .f32) (ix3 H t s) = - -(refZ X (ix3 H t s)) := rfl
  rw [e, refMask_apply, refSP_apply, refZero_apply, n, neg_neg, refZ_apply, ← log1m_eq, lm]
  by_cases h : s.val < t.val
  · rw [if_pos h, if_pos h]; rfl
  · rw [if_neg h, if_neg h]; rfl

/-- The running sum at an index. -/
theorem refCum_apply : refCum X (ix3 H t s) = suf (headScore X H t.val) t.val s.val := by
  have z : (broadcastInDim S_ ![] bcast_S_S_ (constant S_ .f32 0x00000000#32) : FVec Ideal S_ .f32) (Shape.Idx.first h_S_) = 0 := Ideal.ofBits_zero_f32
  exact host_suffix_sum (M := 8191) (N := 8192) rfl (refLM X) _ h_S_ z H t _ (fun j => refLM_apply X H t j) _ s

/-- The weights at an index. -/
theorem refA_apply : refA X (ix3 H t s) = wgt (headScore X H t.val) t.val s.val := by
  have e : refA X (ix3 H t s) = Scalar.select (refMask (ix3 H t s))
      (Ideal.exp (-(refSP (Host.negf (refZ X)) (ix3 H t s)) + (refCum X (ix3 H t s) - refLM X (ix3 H t s)))) (refZero (ix3 H t s)) := rfl
  have n : (Host.negf (refZ X) : FVec Ideal S16x8192x8192 .f32) (ix3 H t s) = -(refZ X (ix3 H t s)) := rfl
  rw [e, refMask_apply, refSP_apply, refZero_apply, n, refZ_apply, refCum_apply, refLM_apply]
  by_cases h : s.val < t.val
  · rw [if_pos h, ← reference_weight (headScore X H t.val) h t.isLt.le]; rfl
  · rw [if_neg h, wgt, if_neg h]; rfl

/-- The result at an index. -/
theorem refOut_apply (j : Fin 2048) : refOut X (ix2 t j) = attend X (headOf j) t.val (laneOf j) := by
  have e : refOut X (ix2 t j) = ∑ s : Fin 8192, refA X (ix3 (headOf j) t s) * refV X (ix3 (headOf j) s (laneOf j)) := by
    pointwise [refOut, headOf, laneOf]
  rw [e, attend]
  have b := sum_block_all (fun s => wgt (headScore X (headOf j) t.val) t.val s * rowAt X s (colOf 2 (headOf j) (laneOf j))) 0 8192
  rw [zero_add] at b
  rw [← b]
  refine Finset.sum_congr rfl fun s _ => ?_
  rw [refA_apply, refV_apply, zero_add]

/-- The reference's first result is the attention. -/
theorem result (m : (ℓ : Loc nD τ sig) → Buf (Elt Ideal) ℓ) (c : Dev nD) :
    Value.res_main_v30 m c = attention (m ((c.tc : Thread nD τ).loc main_arg0)) := by
  rw [result_eq]
  funext y
  obtain ⟨t, j, rfl⟩ : ∃ (t : Fin 8192) (j : Fin 2048), y = ix2 t j := ⟨y 0, y 1, by funext k; match k with | ⟨0, _⟩ => rfl | ⟨1, _⟩ => rfl⟩
  exact refOut_apply _ t j

end Cert.Proof.Stick.Ref

end
-- ==== Proof.Equation.lean ====
/- The equation: at the extended reals the idealized kernel and the reference end with the same attention in their first
   results and the same passenger table in their second. -/
module

public import proofs.«01_k».proof.Proof.Frames
public import proofs.«01_k».proof.Proof.Stick.Array
public import proofs.«01_k».proof.Proof.Stick.Reference

@[expose] public section

noncomputable section

namespace Cert.Proof

open Idealize.ShloMosaic Idealize.SL.Sem

attribute [local instance] Cert.Kernel.Gen.facts Cert.KernelIdeal.Gen.facts Cert.ReferenceIdeal.Gen.facts

/-- From memories that agree on the arguments, the idealized kernel and the reference both run to the end, both leave the
    attention of the projections in the first result and the passenger table in the second, and change no argument. -/
theorem algebraic : Cert.algebraic_KernelIdeal_ReferenceIdeal := by
  intro m g m' g' _ hm
  refine ⟨fun c => Stick.attention (Stick.proj m c), fun c => m ((c.tc : Thread Cert.KernelIdeal.nD Cert.KernelIdeal.τ).loc Cert.KernelIdeal.main_arg1), ?_, ?_⟩
  · refine (θ_run (Cert.KernelIdeal.defs (F := Ideal)) _ _).mono (fun r h c => ?_) (Attn.run_main (F := Ideal) m g)
    obtain ⟨h5, h6, h0, h1⟩ := h.1 c
    exact ⟨h5.trans (Stick.arr5 m c), h6.trans (Stick.arr6 m c), h0, h1⟩
  · refine (θ_run (Cert.ReferenceIdeal.defs (F := Ideal)) _ _).mono (fun r h c => ?_) (Cert.ReferenceIdeal.Value.run (F := Ideal) m' g')
    obtain ⟨h0, h1, ha⟩ := h c
    refine ⟨(h0.trans (Stick.Ref.result m' c)).trans ?_, h1.trans ?_, ha⟩
    · exact congrArg Stick.attention (hm c).1
    · exact (hm c).2

end Cert.Proof

end
-- ==== Proof.Layer.Math.lean ====
/- The mathematics that the projections on both sides of the attention share: a product of matrices, and a row divided by
   the root of its mean square. -/
module

public import Idealize.ShloMosaic.PureOps.Ideal
public import Idealize.ShloMosaic.Lib.Pointwise

@[expose] public section

noncomputable section

namespace Cert.Proof.Layer

open Idealize.ShloMosaic
open scoped BigOperators

/-- A matrix of extended reals. -/
abbrev Mat (n k : ℕ) := (⟨2, ![n, k]⟩ : Shape).Idx → EReal

/-- An entry of a product of two matrices. -/
def dot {n k p : ℕ} (A : Mat n k) (B : Mat k p) (t : Fin n) (j : Fin p) : EReal := ∑ d : Fin k, A (ix2 t d) * B (ix2 d j)

/-- A matrix plus a product of two matrices. -/
def added {n k p : ℕ} (H : Mat n p) (A : Mat n k) (B : Mat k p) : Mat n p := fun y => H y + dot A B (y 0) (y 1)

/-- What is added to a mean square before its root is taken. -/
abbrev eps : EReal := FloatOps.ofBits (F := Ideal) .f32 0x358637BD#32

/-- A list of numbers divided by the root of its mean square; `count` is the number of its entries, as an extended real. -/
def unit {k : ℕ} (count : EReal) (x : Fin k → EReal) (j : Fin k) : EReal :=
  x j * FloatOps.rsqrt (F := Ideal) (φ := .f32) (FloatOps.divf (F := Ideal) (φ := .f32) (∑ i : Fin k, x i * x i) count + eps)

/-- The width of the model, as the programs write it. -/
abbrev width : EReal := FloatOps.ofBits (F := Ideal) .f32 0x45800000#32

/-- The width of a head, as the programs write it. -/
abbrev headWidth : EReal := FloatOps.ofBits (F := Ideal) .f32 0x43000000#32

/-- Row `t` of a matrix over its root mean square, times the gains. -/
def normed {n : ℕ} (X : Mat n 4096) (g : Fin 4096 → EReal) (t : Fin n) (j : Fin 4096) : EReal := unit width (fun d => X (ix2 t d)) j * g j

/-- Sums of equal terms are equal. -/
theorem sum_of_terms {n : ℕ} {f g : Fin n → EReal} (h : ∀ k, f k = g k) : ∑ k, f k = ∑ k, g k := Finset.sum_congr rfl fun k _ => h k

/-- Products of equal entries are equal. -/
theorem dot_congr {n k p n' p' : ℕ} {A : Mat n k} {B : Mat k p} {A' : Mat n' k} {B' : Mat k p'} {t : Fin n} {j : Fin p} {t' : Fin n'} {j' : Fin p'}
    (hA : ∀ d, A (ix2 t d) = A' (ix2 t' d)) (hB : ∀ d, B (ix2 d j) = B' (ix2 d j')) : dot A B t j = dot A' B' t' j' :=
  Finset.sum_congr rfl fun d _ => by rw [hA, hB]

/-- Norms of equal rows are equal. -/
theorem normed_congr {n n' : ℕ} {X : Mat n 4096} {X' : Mat n' 4096} {g g' : Fin 4096 → EReal} {t : Fin n} {t' : Fin n'} (j : Fin 4096)
    (hX : ∀ d, X (ix2 t d) = X' (ix2 t' d)) (hg : ∀ d, g d = g' d) : normed X g t j = normed X' g' t' j := by
  unfold normed
  rw [hg, funext hX]

end Cert.Proof.Layer
-- ==== Proof.Layer.Gelu.lean ====
/- The gating's activation: x times half of one plus the hyperbolic tangent of a cubic in x. The kernel and the reference
   write the cubic differently; the two agree at every extended real. -/
module

public import Idealize.ShloMosaic.PureOps.Ideal
public import Idealize.ShloMosaic.Lib.IdealHost

@[expose] public section

noncomputable section

namespace Cert.Proof.Layer

open Idealize.ShloMosaic

/-- The activation as the kernel writes it: the cubic is x times a quadratic with coefficients `C` and `D`. -/
def geluK (H C D x : EReal) : EReal := H * x * (1 + Ideal.tanh (x * (C + D * (x * x))))

/-- The activation as the reference writes it: the cubic is `C` times the sum of x and `A` times its cube. -/
def geluR (H C A x : EReal) : EReal := x * (H * (1 + Ideal.tanh (C * (x + A * (x * x * x)))))

/-- They agree where the coefficients are positive numbers and `D` is `C` times `A`. -/
theorem gelu_agree (h c a : ℝ) (hh : 0 < h) (hc : 0 < c) (ha : 0 < a) (x : EReal) :
    geluK h c ((c * a : ℝ) : EReal) x = geluR h c a x := by
  unfold geluK geluR
  have hca : 0 < c * a := mul_pos hc ha
  induction x with
  | bot =>
    rw [EReal.bot_mul_bot, EReal.coe_mul_top_of_pos hca, EReal.coe_add_top, EReal.bot_mul_top, EReal.top_mul_bot,
      EReal.coe_mul_bot_of_pos ha, EReal.bot_add, EReal.coe_mul_bot_of_pos hc, Ideal.tanh_bot]
    have z : (1 : EReal) + -1 = 0 := by
      rw [← EReal.coe_one, ← EReal.coe_neg, ← EReal.coe_add, add_neg_cancel, EReal.coe_zero]
    rw [z, mul_zero, mul_zero, mul_zero]
  | top =>
    rw [EReal.top_mul_top, EReal.coe_mul_top_of_pos hca, EReal.coe_add_top, EReal.top_mul_top,
      EReal.coe_mul_top_of_pos ha, EReal.top_add_top, EReal.coe_mul_top_of_pos hc, EReal.coe_mul_top_of_pos hh, Ideal.tanh_top]
    have t : (1 : EReal) + 1 = ((2 : ℝ) : EReal) := by norm_cast
    rw [t, ← EReal.coe_mul, EReal.top_mul_coe_of_pos (by norm_num), EReal.top_mul_coe_of_pos (by positivity)]
  | coe r =>
    rw [← EReal.coe_one]
    simp only [← EReal.coe_mul, ← EReal.coe_add, Ideal.tanh_coe]
    refine congrArg _ ?_
    rw [show r * (c + c * a * (r * r)) = c * (r + a * (r * r * r)) by ring]
    ring

/-- One half, as the programs write it. -/
theorem half_f32 : Ideal.ofBits .f32 0x3F000000#32 = (((1 : ℝ) / 2 : ℝ) : EReal) := by
  simp [Ideal.ofBits, Ideal.ieee, -EReal.coe_mul]; norm_num

/-- The rounded root of 2/pi, as the programs write it. -/
theorem root_f32 : Ideal.ofBits .f32 0x3F4C422A#32 = (((13386282 : ℝ) / 16777216 : ℝ) : EReal) := by
  simp [Ideal.ofBits, Ideal.ieee, -EReal.coe_mul]; norm_num

/-- The rounded coefficient of the cube, as the reference writes it. -/
theorem cubic_f32 : Ideal.ofBits .f32 0x3D372713#32 = (((12003091 : ℝ) / 268435456 : ℝ) : EReal) := by
  simp [Ideal.ofBits, Ideal.ieee, -EReal.coe_mul]; norm_num

end Cert.Proof.Layer

end
-- ==== Proof.Project.Blocks.lean ====
/- What the three calls before the attention write to a block of each result, entry by entry, from the blocks they read. -/
module

public import proofs.«01_k».proof.Proof.Layer.Math
public import proofs.«01_k».proof.Proof.Layer.Gelu
public import proofs.«01_k».proof.Proof.Gen.Kernel2Ideal.Frame
public import Idealize.ShloMosaic.Lib.Pipeline.ValueKit

@[expose] public section

noncomputable section

namespace Cert.Proof.Project

open Cert.Kernel2Ideal Cert.Kernel2Ideal.Gen Cert.Proof.Layer
open Idealize.ShloMosaic
open scoped BigOperators

/-- The origin of a matrix. -/
theorem zeros : (![0, 0] : Fin 2 → ℕ) = fun _ => 0 := by funext a; fin_cases a <;> rfl

/-- The origin of a stack of rows. -/
theorem zeros3 : (![0, 0, 0] : Fin 3 → ℕ) = fun _ => 0 := by funext a; fin_cases a <;> rfl

/-- The first call: each row of the stream normalised. -/
theorem norm_block (x0 : FVec Ideal S512x4096 .f32) (x1 : FVec Ideal S1x4096 .f32) (r : Fin 512) (j : Fin 4096) :
    out0_2 (F := Ideal) x0 x1 (ix2 r j) = normed x0 (fun d => x1 (ix2 0 d)) r j := by
  unfold out0_2
  rw [View.canon_unit_zero (S := S512x4096) zeros _ _]
  unfold k0_pay1
  have ex0 : View.ld (Val := Elt Ideal) (e' := .f32) x0 r0_0 = x0 := View.ld_unit_zero (Val := Elt Ideal) (e := .f32) (S := S512x4096) zeros _ x0
  have ex1 : View.ld (Val := Elt Ideal) (e' := .f32) x1 r0_1 = x1 := View.ld_unit_zero (Val := Elt Ideal) (e := .f32) (S := S1x4096) zeros _ x1
  rw [ex0, ex1]
  pointwise
  rfl

/-- The product of the second call. -/
theorem product_block (x0 : FVec Ideal S2048x4096 .bf16) (x1 : FVec Ideal S4096x512 .f32) (r : Fin 2048) (j : Fin 512) :
    k1_pay1 (F := Ideal) x0 x1 (ix2 r j) = dot x0 x1 r j := by
  unfold k1_pay1
  pointwise
  rfl

/-- Column `l` of the `s`th of four heads. -/
def headCol (s : Fin 4) (l : Fin 128) : Fin 512 := ⟨s.val * 128 + l.val, by omega⟩

/-- A head's row over its root mean square, times the gains. -/
def headed (v : Mat 2048 512) (g : (⟨3, ![1, 1, 128]⟩ : Shape).Idx → EReal) (s : Fin 4) (r : Fin 2048) (l : Fin 128) : EReal :=
  unit headWidth (fun i => v (ix2 r (headCol s i))) l * g (ix3 0 0 l)

/-- The columns of the four heads, counted from their offsets. -/
theorem headed_of (v : Mat 2048 512) (g : (⟨3, ![1, 1, 128]⟩ : Shape).Idx → EReal) (s : Fin 4) (r : Fin 2048) (l : Fin 128) (col : Fin 128 → Fin 512)
    (h : ∀ i, (col i).val = s.val * 128 + i.val) : unit headWidth (fun i => v (ix2 r (col i))) l * g (ix3 0 0 l) = headed v g s r l := by
  unfold headed
  rw [show col = headCol s from funext fun i => Fin.ext (h i)]

/-- The first head. -/
theorem head_0 (v : FVec Ideal S2048x512 .f32) (g : FVec Ideal S1x1x128 .f32) (r : Fin 2048) (l : Fin 128) :
    k1_pay6 (F := Ideal) v g (ix2 r l) = headed v g 0 r l := by
  refine Eq.trans ?_ (headed_of v g 0 r l (fun i => ⟨i.val, by omega⟩) fun i => by simp)
  unfold k1_pay6 k1_pay5
  pointwise
  rfl

/-- The second head. -/
theorem head_1 (v : FVec Ideal S2048x512 .f32) (g : FVec Ideal S1x1x128 .f32) (r : Fin 2048) (l : Fin 128) :
    k1_pay7 (F := Ideal) v g (ix2 r l) = headed v g 1 r l := by
  refine Eq.trans ?_ (headed_of v g 1 r l (fun i => ⟨128 + i.val, by omega⟩) fun i => by simp)
  unfold k1_pay7 k1_pay5
  pointwise
  rfl

/-- The third head. -/
theorem head_2 (v : FVec Ideal S2048x512 .f32) (g : FVec Ideal S1x1x128 .f32) (r : Fin 2048) (l : Fin 128) :
    k1_pay2 (F := Ideal) (k1_pay5 g) (k1_pay8 v) (k1_pay9 v) (ix2 r l) = headed v g 2 r l := by
  refine Eq.trans ?_ (headed_of v g 2 r l (fun i => ⟨256 + i.val, by omega⟩) fun i => by simp)
  unfold k1_pay2 k1_pay5 k1_pay9 k1_pay8
  pointwise
  rfl

/-- The fourth head. -/
theorem head_3 (x0 : FVec Ideal S2048x4096 .bf16) (x1 : FVec Ideal S4096x512 .f32) (g : FVec Ideal S1x1x128 .f32) (r : Fin 2048) (l : Fin 128) :
    k1_pay3 (F := Ideal) x0 x1 (k1_pay5 g) (ix2 r l) = headed (k1_pay1 (F := Ideal) x0 x1) g 3 r l := by
  refine Eq.trans ?_ (headed_of (k1_pay1 (F := Ideal) x0 x1) g 3 r l (fun i => ⟨384 + i.val, by omega⟩) fun i => by simp)
  unfold k1_pay3 k1_pay5
  generalize k1_pay1 (F := Ideal) x0 x1 = v
  pointwise
  rfl

/-- Four heads side by side, read back. -/
theorem canon_heads (p0 p1 p2 p3 : S2048x128.Idx → EReal) (G : Fin 4 → Fin 2048 → Fin 128 → EReal)
    (h0 : ∀ r k, p0 (ix2 r k) = G 0 r k) (h1 : ∀ r k, p1 (ix2 r k) = G 1 r k) (h2 : ∀ r k, p2 (ix2 r k) = G 2 r k)
    (h3 : ∀ r k, p3 (ix2 r k) = G 3 r k) (s : Fin 4) (r : Fin 2048) (k : Fin 128) :
    View.canon ([⟨Rect.unit (s := S2048x512) ![0, 384] S2048x128.size inb_S2048x512_S2048x128_0_384, p3⟩,
      ⟨Rect.unit (s := S2048x512) ![0, 256] S2048x128.size inb_S2048x512_S2048x128_0_256, p2⟩,
      ⟨Rect.unit (s := S2048x512) ![0, 128] S2048x128.size inb_S2048x512_S2048x128_0_128, p1⟩,
      ⟨Rect.unit (s := S2048x512) ![0, 0] S2048x128.size inb_S2048x512_S2048x128_0_0, p0⟩] : List (View.Piece (Elt Ideal) S2048x512 .bf16)) (ix2 r (headCol s k)) = G s r k := by
  have tile : ∀ (n : Fin 4) (p : S2048x128.Idx → EReal), (∀ r k, p (ix2 r k) = G n r k) →
      View.TileAt (Val := Elt Ideal) (e := .bf16) (S := S2048x512) (ix2 r (headCol s k)) ![0, n.val * 128] S2048x128.size p (G s r k) := by
    intro n p hp x hx
    have e0 : r.val = 0 + (x 0).val := hx 0
    have e1 : s.val * 128 + k.val = n.val * 128 + (x 1).val := hx 1
    have l1 : (x 1).val < 128 := (x 1).isLt
    have hn : n = s := Fin.ext (by omega)
    subst hn
    have hx' : x = ix2 r k := Shape.idx_ext₂ (by show (x 0).val = r.val; omega) (by show (x 1).val = k.val; omega)
    rw [hx']; exact hp r k
  refine View.canon_eq_of_allAt _ _ _ (View.cover_of_tiledL (s := S2048x512) (Val := Elt Ideal) (e := .bf16) _ S2048x128.size ?_ _) ?_
  · sl_kernel_rfl
  exact View.allAt_cons_unit _ _ _ _ _ (tile 3 p3 h3) (View.allAt_cons_unit _ _ _ _ _ (tile 2 p2 h2)
    (View.allAt_cons_unit _ _ _ _ _ (tile 1 p1 h1) (View.allAt_cons_unit _ _ _ _ _ (tile 0 p0 h0) (View.allAt_nil _ _))))

section Second

variable (c : Dev nD) (i : grid1.Coords) (a2 : Memref sig .tc .vmem S2048x4096 .bf16) (h2 : a2.IsWhole) (a3 : Memref sig .tc .vmem S4096x512 .f32) (h3 : a3.IsWhole)
  (a4 : Memref sig .tc .vmem S1x1x128 .f32) (h4 : a4.IsWhole) (a5 : Memref sig .tc .vmem S2048x512 .bf16) (h5 : a5.IsWhole)
  (x0 : FVec Ideal S2048x4096 .bf16) (x1 : FVec Ideal S4096x512 .f32) (x2 : FVec Ideal S1x1x128 .f32)

/-- The second call at a block of the queries or the keys: each head's row of the product normalised. -/
theorem heads_block (hc0 : cond1_0 i) (hc1 : ¬cond1_1 i) (s : Fin 4) (r : Fin 2048) (l : Fin 128) :
    out1_A_3 (F := Ideal) c i a2 h2 a3 h3 a4 h4 a5 h5 hc0 hc1 x0 x1 x2 (ix2 r (headCol s l)) = headed (fun y => dot x0 x1 (y 0) (y 1)) x2 s r l := by
  have ed : k1_pay1 (F := Ideal) x0 x1 = fun y : S2048x512.Idx => dot x0 x1 (y 0) (y 1) := by
    funext y
    have hy : y = ix2 (y 0) (y 1) := Shape.idx_ext₂ rfl rfl
    exact (congrArg (k1_pay1 (F := Ideal) x0 x1) hy).trans (product_block x0 x1 (y 0) (y 1))
  unfold out1_A_3
  refine (congrFun (View.read_writes_eq_canon VO1_3 VO1_3.junk _ (cover1_A_3 (F := Ideal) c i a2 h2 a3 h3 a4 h4 a5 h5 hc0 hc1 x0 x1 x2)) _).trans ?_
  unfold kernelRun1_A
  dsimp only
  sl_unfold_words
  simp only [View.readAt_eq_ld, h2.read_unread, h3.read_unread, h4.read_unread, View.ld_unit_zero (S := S2048x4096) zeros,
    View.ld_unit_zero (S := S4096x512) zeros, View.ld_unit_zero (S := S1x1x128) zeros3]
  refine Eq.trans ?_ (congrArg (fun v => headed v x2 s r l) ed)
  exact canon_heads _ _ _ _ (headed (k1_pay1 (F := Ideal) x0 x1) x2) (head_0 _ _) (head_1 _ _) (head_2 _ _) (head_3 _ _ _) s r l

/-- The second call at a block of the values: the product. -/
theorem values_block (hc0 : ¬cond1_0 i) (hc1 : cond1_1 i) (r : Fin 2048) (j : Fin 512) :
    out1_B_3 (F := Ideal) c i a2 h2 a3 h3 a4 h4 a5 h5 hc0 hc1 x0 x1 x2 (ix2 r j) = dot x0 x1 r j := by
  unfold out1_B_3
  refine (congrFun (View.read_writes_eq_canon VO1_3 VO1_3.junk _ (cover1_B_3 (F := Ideal) c i a2 h2 a3 h3 a4 h4 a5 h5 hc0 hc1 x0 x1 x2)) _).trans ?_
  unfold kernelRun1_B
  dsimp only
  rw [View.canon_unit_zero zeros]
  simp only [View.readAt_eq_ld, h2.read_unread, h3.read_unread, h4.read_unread, View.ld_unit_zero (S := S2048x4096) zeros,
    View.ld_unit_zero (S := S4096x512) zeros]
  exact product_block x0 x1 r j

end Second

/-- The coefficient of the square in the kernel's activation is the product of the reference's two constants. -/
theorem square_eq : (Named.named (F := Ideal) (φ := .f32) κ "gelu_c2" 0x3D122279#32) = (((13386282 : ℝ) / 16777216 * ((12003091 : ℝ) / 268435456) : ℝ) : EReal) := by
  have h : (Named.named (F := Ideal) (φ := .f32) κ "gelu_c2" 0x3D122279#32) = ((80338380498831 / 2251799813685248 : ℝ) : EReal) := rfl
  rw [h]
  norm_num

/-- The third call: the activation of the product. -/
theorem gelu_block (x0 : FVec Ideal S1024x4096 .bf16) (x1 : FVec Ideal S4096x512 .f32) (r : Fin 1024) (j : Fin 512) :
    out2_2 (F := Ideal) x0 x1 (ix2 r j)
      = geluK (Ideal.ofBits .f32 0x3F000000#32) (Ideal.ofBits .f32 0x3F4C422A#32) (Named.named (F := Ideal) (φ := .f32) κ "gelu_c2" 0x3D122279#32) (dot x0 x1 r j) := by
  unfold out2_2
  rw [View.canon_unit_zero (S := S1024x512) zeros _ _]
  unfold k2_pay1
  have ex0 : View.ld (Val := Elt Ideal) (e' := .bf16) x0 r2_0 = x0 := View.ld_unit_zero (Val := Elt Ideal) (e := .bf16) (S := S1024x4096) zeros _ x0
  have ex1 : View.ld (Val := Elt Ideal) (e' := .f32) x1 r2_1 = x1 := View.ld_unit_zero (Val := Elt Ideal) (e := .f32) (S := S4096x512) zeros _ x1
  rw [ex0, ex1]
  pointwise
  rfl

end Cert.Proof.Project

end
-- ==== Proof.Project.Array.lean ====
/- What each result array of the three calls before the attention holds, of the arrays the call is entered with. -/
module

public import proofs.«01_k».proof.Proof.Project.Blocks

@[expose] public section

noncomputable section

namespace Cert.Proof.Project

open Cert.Kernel2Ideal Cert.Kernel2Ideal.Gen Cert.Proof.Layer
open Idealize.ShloMosaic Idealize.ShloMosaic.TcCoe
open Idealize.ShloMosaic.Pipeline (Dat Cfg Window)
open scoped BigOperators

/-- Where block 0 of call 0 lies. -/
theorem at0_0 : ∀ t : Fin cfg0.N, win0_0.index t = ![(grid0.coords t 0).val, 0] :=
  (by decide +kernel : ∀ t : Fin grid0.N, win0_0.index t = ![(grid0.coords t 0).val, 0])
/-- Where block 1 of call 0 lies. -/
theorem at0_1 : ∀ t : Fin cfg0.N, win0_1.index t = ![0, 0] :=
  (by decide +kernel : ∀ t : Fin grid0.N, win0_1.index t = ![0, 0])
/-- Where block 2 of call 0 lies. -/
theorem at0_2 : ∀ t : Fin cfg0.N, win0_2.index t = ![(grid0.coords t 0).val, 0] :=
  (by decide +kernel : ∀ t : Fin grid0.N, win0_2.index t = ![(grid0.coords t 0).val, 0])
/-- Where block 0 of call 1 lies. -/
theorem at1_0 : ∀ t : Fin cfg1.N, win1_0.index t = ![(grid1.coords t 0).val, 0] :=
  (by decide +kernel : ∀ t : Fin grid1.N, win1_0.index t = ![(grid1.coords t 0).val, 0])
/-- Where block 1 of call 1 lies. -/
theorem at1_1 : ∀ t : Fin cfg1.N, win1_1.index t = ![0, t.val % 12] :=
  (by decide +kernel : ∀ t : Fin grid1.N, win1_1.index t = ![0, t.val % 12])
/-- Where block 2 of call 1 lies, at a block of the queries or the keys. -/
theorem at1_2 : ∀ t : Fin cfg1.N, t.val % 12 ≤ 7 → win1_2.index t = ![t.val % 12 / 4, 0, 0] :=
  (by decide +kernel : ∀ t : Fin grid1.N, t.val % 12 ≤ 7 → win1_2.index t = ![t.val % 12 / 4, 0, 0])
/-- Where block 3 of call 1 lies. -/
theorem at1_3 : ∀ t : Fin cfg1.N, win1_3.index t = ![(grid1.coords t 0).val, t.val % 12] :=
  (by decide +kernel : ∀ t : Fin grid1.N, win1_3.index t = ![(grid1.coords t 0).val, t.val % 12])
/-- Where block 0 of call 2 lies. -/
theorem at2_0 : ∀ t : Fin cfg2.N, win2_0.index t = ![(grid2.coords t 0).val, 0] :=
  (by decide +kernel : ∀ t : Fin grid2.N, win2_0.index t = ![(grid2.coords t 0).val, 0])
/-- Where block 1 of call 2 lies. -/
theorem at2_1 : ∀ t : Fin cfg2.N, win2_1.index t = ![0, 12 + (grid2.coords t 1).val] :=
  (by decide +kernel : ∀ t : Fin grid2.N, win2_1.index t = ![0, 12 + (grid2.coords t 1).val])
/-- Where block 2 of call 2 lies. -/
theorem at2_2 : ∀ t : Fin cfg2.N, win2_2.index t = ![(grid2.coords t 0).val, (grid2.coords t 1).val] :=
  (by decide +kernel : ∀ t : Fin grid2.N, win2_2.index t = ![(grid2.coords t 0).val, (grid2.coords t 1).val])

/-- What the calls are entered with. -/
abbrev Entry : Type := (c : Dev nD) → (b : Ref sig .tc) → Buf (Elt Ideal) ((c : Thread nD τ).loc b)

variable (V : Entry) (c : Dev nD)

/-- The normalised stream. -/
theorem arr_norm : (dat0 (F := Ideal) V c).arrAt 2 cfg0.N
    = fun y : S8192x4096.Idx => normed (V c main_arg0) (fun d => V c main_v0 (ix2 (0 : Fin 1) d)) (y 0) (y 1) := by
  refine (dat0 V c).arrAt_eq_of_covers 2 _ (by decide +kernel) fun t hf y => ?_
  blk_simp
  rw [after0_2]
  have l0 : (y 0).val < 512 := (y 0).isLt
  have l1 : (y 1).val < 4096 := (y 1).isLt
  have hy : y = ix2 (⟨(y 0).val, l0⟩ : Fin 512) (⟨(y 1).val, l1⟩ : Fin 4096) := Shape.idx_ext₂ rfl rfl
  rw [show out0_2 (iblk0 V c 0 t) (iblk0 V c 1 t) y = out0_2 (iblk0 V c 0 t) (iblk0 V c 1 t) (ix2 (⟨(y 0).val, l0⟩ : Fin 512) (⟨(y 1).val, l1⟩ : Fin 4096)) from congrArg _ hy, norm_block]
  have e1 : ((win0_2.blk t).view.emb y) 1 = (⟨(y 1).val, l1⟩ : Fin 4096) := Fin.ext (by blk_simp [at0_2])
  show _ = normed (V c main_arg0) (fun d => V c main_v0 (ix2 (0 : Fin 1) d)) (((win0_2.blk t).view.emb y) 0) (((win0_2.blk t).view.emb y) 1)
  rw [e1]
  refine normed_congr _ (fun d => ?_) fun d => ?_
  · unfold iblk0
    blk_simp
    refine congrArg (V c main_arg0) (Shape.idx_ext₂ ?_ ?_) <;> blk_simp [at0_0, at0_2]
  · unfold iblk0
    blk_simp
    refine congrArg (V c main_v0) (Shape.idx_ext₂ ?_ ?_) <;> blk_simp [at0_1]

/-- Column `i` of the weights that belongs to the same head as column `j`. -/
def sameHead (j : ℕ) (h : j < 4096) (i : Fin 128) : Fin 10240 := ⟨j / 128 * 128 + i.val, by omega⟩

/-- The queries, the keys and the values side by side, of the normalised stream, the weights and the two gains: a head's row of
    the queries and of the keys is over its root mean square, times its gains. -/
def sides (N : Mat 8192 4096) (W : Mat 4096 10240) (g : (⟨3, ![2, 1, 128]⟩ : Shape).Idx → EReal) (t : Fin 8192) (j : Fin 6144) : EReal :=
  if h : j.val < 4096 then
    unit headWidth (fun i => dot N W t (sameHead j.val h i)) ⟨j.val % 128, Nat.mod_lt _ (by norm_num)⟩
      * g (ix3 ⟨j.val / 2048, by omega⟩ 0 ⟨j.val % 128, Nat.mod_lt _ (by norm_num)⟩)
  else dot N W t ⟨j.val, by omega⟩

/-- The gains a block of the queries or the keys is given. -/
theorem gain_block (t : Fin cfg1.N) (hA : t.val % 12 ≤ 7) (l : Fin 128) :
    iblk1 V c 2 t (ix3 (0 : Fin 1) (0 : Fin 1) l) = V c main_v5 (ix3 (⟨t.val % 12 / 4, by omega⟩ : Fin 2) (0 : Fin 1) l) := by
  unfold iblk1
  blk_simp
  refine congrArg (V c main_v5) (funext fun a => Fin.ext ?_)
  have h := at1_2 t hA
  fin_cases a
  · show win1_2.index t 0 * 1 + 0 = t.val % 12 / 4
    rw [h]; simp
  · show win1_2.index t 1 * 1 + 0 = 0
    rw [h]; rfl
  · show (((win1_2.blk t).view.emb (ix3 (0 : Fin 1) (0 : Fin 1) l)) 2 : ℕ) = l.val
    blk_simp [h]

/-- The second call leaves the queries, the keys and the values. -/
theorem arr_sides : (dat1 (F := Ideal) V c).arrAt 3 cfg1.N
    = fun y : S8192x6144.Idx => sides (V c main_v1) (V c main_arg2) (V c main_v5) (y 0) (y 1) := by
  refine (dat1 V c).arrAt_eq_of_covers 3 _ (by decide +kernel) fun t hf y => ?_
  blk_simp
  rw [after1_3]
  have l0 : (y 0).val < 2048 := (y 0).isLt
  have l1 : (y 1).val < 512 := (y 1).isLt
  have e0 : (((win1_3.blk t).view.emb y) 0 : ℕ) = (grid1.coords t 0).val * 2048 + (y 0).val := by blk_simp [at1_3]
  have e1 : (((win1_3.blk t).view.emb y) 1 : ℕ) = t.val % 12 * 512 + (y 1).val := by blk_simp [at1_3]
  show _ = sides (V c main_v1) (V c main_arg2) (V c main_v5) (((win1_3.blk t).view.emb y) 0) (((win1_3.blk t).view.emb y) 1)
  have hx : ∀ (r : Fin 2048) (d : Fin 4096), r.val = (y 0).val → iblk1 V c 0 t (ix2 r d) = V c main_v1 (ix2 (((win1_3.blk t).view.emb y) 0) d) := by
    intro r d hr
    unfold iblk1
    blk_simp
    refine congrArg (V c main_v1) (Shape.idx_ext₂ ?_ ?_)
    · show _ = (((win1_3.blk t).view.emb y) 0 : ℕ)
      rw [e0]; blk_simp [at1_0]; omega
    · blk_simp [at1_0]
  have hw : ∀ (d : Fin 4096) (k : Fin 512) (k' : Fin 10240), k'.val = t.val % 12 * 512 + k.val → iblk1 V c 1 t (ix2 d k) = V c main_arg2 (ix2 d k') := by
    intro d k k' hk
    unfold iblk1
    blk_simp
    refine congrArg (V c main_arg2) (Shape.idx_ext₂ ?_ ?_)
    · blk_simp [at1_1]
    · show _ = k'.val
      rw [hk]; blk_simp [at1_1]
  unfold sides
  by_cases hA : t.val % 12 ≤ 7
  · have hB : ¬8 ≤ t.val % 12 := by omega
    have hlt : (((win1_3.blk t).view.emb y) 1).val < 4096 := by rw [e1]; omega
    rw [dif_pos hlt, outsAt1_A V c t hA hB]
    have hy : y = ix2 (⟨(y 0).val, l0⟩ : Fin 2048) (headCol ⟨(y 1).val / 128, by omega⟩ ⟨(y 1).val % 128, by omega⟩) :=
      Shape.idx_ext₂ rfl (by show (y 1).val = (y 1).val / 128 * 128 + (y 1).val % 128; omega)
    refine (congrArg _ hy).trans ((heads_block c _ _ _ _ _ _ _ _ _ _ _ _ _ _ _ _ _).trans ?_)
    unfold headed
    refine congrArg₂ (· * ·) ?_ ?_
    · refine (congrArg (fun f => unit headWidth f _) (funext fun i => ?_)).trans (congrArg (unit headWidth _) (Fin.ext ?_))
      · exact dot_congr (fun d => hx _ d rfl) fun d => hw d _ (sameHead _ hlt i) (by
          show (((win1_3.blk t).view.emb y) 1 : ℕ) / 128 * 128 + i.val = t.val % 12 * 512 + ((y 1).val / 128 * 128 + i.val)
          rw [e1]; omega)
      · show (y 1).val % 128 = (((win1_3.blk t).view.emb y) 1 : ℕ) % 128
        rw [e1]; omega
    · refine (gain_block V c t hA _).trans (congrArg₂ (fun s l => V c main_v5 (ix3 s (0 : Fin 1) l)) (Fin.ext ?_) (Fin.ext ?_))
      · show t.val % 12 / 4 = (((win1_3.blk t).view.emb y) 1 : ℕ) / 2048
        rw [e1]; omega
      · show (y 1).val % 128 = (((win1_3.blk t).view.emb y) 1 : ℕ) % 128
        rw [e1]; omega
  · have hB : 8 ≤ t.val % 12 := by omega
    have hge : ¬(((win1_3.blk t).view.emb y) 1).val < 4096 := by rw [e1]; omega
    rw [dif_neg hge, outsAt1_B V c t hA hB]
    have hy : y = ix2 (⟨(y 0).val, l0⟩ : Fin 2048) (⟨(y 1).val, l1⟩ : Fin 512) := Shape.idx_ext₂ rfl rfl
    refine (congrArg _ hy).trans ((values_block c _ _ _ _ _ _ _ _ _ _ _ _ _ _ _ _).trans ?_)
    exact dot_congr (fun d => hx _ d rfl) fun d => hw d _ _ (by
      show (((win1_3.blk t).view.emb y) 1 : ℕ) = t.val % 12 * 512 + (y 1).val
      rw [e1])

/-- The kernel's activation, with its constants. -/
abbrev gelu (x : EReal) : EReal :=
  geluK (Ideal.ofBits .f32 0x3F000000#32) (Ideal.ofBits .f32 0x3F4C422A#32) (Named.named (F := Ideal) (φ := .f32) κ "gelu_c2" 0x3D122279#32) x

/-- The third call leaves the activation of the last columns of the product. -/
theorem arr_gelu : (dat2 (F := Ideal) V c).arrAt 2 cfg2.N
    = fun y : S8192x4096.Idx => gelu (dot (V c main_v1) (V c main_arg2) (y 0) ⟨6144 + (y 1).val, by have h : (y 1).val < 4096 := (y 1).isLt; omega⟩) := by
  refine (dat2 V c).arrAt_eq_of_covers 2 _ (by decide +kernel) fun t hf y => ?_
  blk_simp
  rw [after2_2]
  have l0 : (y 0).val < 1024 := (y 0).isLt
  have l1 : (y 1).val < 512 := (y 1).isLt
  have hy : y = ix2 (⟨(y 0).val, l0⟩ : Fin 1024) (⟨(y 1).val, l1⟩ : Fin 512) := Shape.idx_ext₂ rfl rfl
  rw [show out2_2 (iblk2 V c 0 t) (iblk2 V c 1 t) y = out2_2 (iblk2 V c 0 t) (iblk2 V c 1 t) (ix2 (⟨(y 0).val, l0⟩ : Fin 1024) (⟨(y 1).val, l1⟩ : Fin 512)) from congrArg _ hy, gelu_block]
  refine congrArg (fun x => gelu x) (dot_congr (fun d => ?_) fun d => ?_)
  · unfold iblk2
    blk_simp
    refine congrArg (V c main_v1) (Shape.idx_ext₂ ?_ ?_) <;> blk_simp [at2_0, at2_2]
  · unfold iblk2
    blk_simp
    refine congrArg (V c main_arg2) (Shape.idx_ext₂ ?_ ?_)
    · blk_simp [at2_1]
    · show _ = 6144 + (win2_2.index t 1 * 512 + (y 1).val)
      blk_simp [at2_1, at2_2]
      show _ + (y 1).val = _ + (_ + (y 1).val)
      omega

end Cert.Proof.Project

end
-- ==== Proof.Project.Run.lean ====
/- The run of the three calls before the attention, and what each result holds, of the arguments alone. -/
module

public import proofs.«01_k».proof.Proof.Project.Array
public import Idealize.ShloMosaic.Lib.StableHlo.ReadAt

@[expose] public section

noncomputable section

namespace Cert.Proof.Project

open Cert.Kernel2Ideal Cert.Kernel2Ideal.Gen Cert.Proof.Layer
open Idealize.ShloMosaic Idealize.ShloMosaic.TcCoe Idealize.ShloMosaic.Tactic
open Idealize.ShloMosaic.Rounds
open Idealize.SL Idealize.SL.RA Idealize.SL.BI
open scoped Idealize.SL.BI BigOperators
open Idealize.SL.BI.BIBase Idealize.SL.BI.Laws Idealize.SL.ProofMode Idealize.SL.Sem

local notation "𝕄" => MT nD τ sig Unit (Elt Ideal) ℕ (UR sig nD τ) ℕ

variable (m : (l : Loc nD τ sig) → Buf (Elt Ideal) l) (ρ : Dev nD → PrngReg)

set_option backward.isDefEq.respectTransparency.types false in
/-- From any memory the three calls run to the end; the results hold what the last boundary records of them, the arguments are
    as launched and every semaphore counter is at zero. -/
theorem run_values : θ_run defs (onTc (τ := τ) (main (F := Ideal))) ⟨m, fun _ => 0, ρ⟩ (fun r => (∀ c : Dev nD,
      r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v6 (by decide)),
       h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

variable (c : Dev nD)

/-- The normalised stream. -/
def stream : Mat 8192 4096 := fun y => normed (m ((c : Thread nD τ).loc main_arg0)) (fun d => (m ((c : Thread nD τ).loc main_arg1)) (ix1 d)) (y 0) (y 1)

/-- The weights. -/
def weights : Mat 4096 10240 := m ((c : Thread nD τ).loc main_arg2)

/-- The gains of the queries and of the keys. -/
def gains (y : (⟨3, ![2, 1, 128]⟩ : Shape).Idx) : EReal :=
  if (y 0).val < 1 then (m ((c : Thread nD τ).loc main_arg3)) (ix1 (y 2)) else (m ((c : Thread nD τ).loc main_arg4)) (ix1 (y 2))

/-- The host lays the stream's gains out as a row. -/
theorem gain_1 (d : Fin 4096) : V1 m ρ c main_v0 (ix2 (0 : Fin 1) d) = (m ((c : Thread nD τ).loc main_arg1)) (ix1 d) := by
  show StableHlo.after hostOps0 (W0 m ρ c) main_v0 (ix2 (0 : Fin 1) d) = _
  after_reads_at

/-- The first call leaves the normalised stream, -/
theorem stream_2 : W2 m ρ c (Proc.devRef .tc main_v1) = stream m c := by
  refine (W2_arr m ρ c 2).trans ((arr_norm (V1 m ρ) c).trans (funext fun y => ?_))
  rw [show V1 m ρ c main_arg0 = _ from W1_args m ρ c main_arg0 (by decide), funext (gain_1 m ρ c)]
  rfl

/-- which the second call finds, -/
theorem stream_3 : V3 m ρ c main_v1 = stream m c := (W3_of m ρ c main_v1 (by decide)).trans (stream_2 m ρ c)

/-- and the third. -/
theorem stream_4 : V4 m ρ c main_v1 = stream m c := (W4_of m ρ c main_v1 (by decide)).trans (stream_3 m ρ c)

/-- The host lays the queries' gains out as a row, -/
theorem row_q (a : Fin 1) (l : Fin 128) : StableHlo.upto hostOps1 (W2 m ρ c) 2 (Proc.tc.devRef main_v2) (ix2 a l) = V2 m ρ c main_arg3 (ix1 l) := by
  after_reads_at

/-- and the keys', -/
theorem row_k (a : Fin 1) (l : Fin 128) : StableHlo.upto hostOps1 (W2 m ρ c) 2 (Proc.tc.devRef main_v3) (ix2 a l) = V2 m ρ c main_arg4 (ix1 l) := by
  after_reads_at

/-- and stacks the gains of the queries and of the keys. -/
theorem gains_3 : V3 m ρ c main_v5 = gains m c := by
  funext y
  have hy : y = ix3 (y 0 : Fin 2) (0 : Fin 1) (y 2 : Fin 128) := funext fun a => Fin.ext (by
    have h1 : (y 1).val < 1 := (y 1).isLt
    fin_cases a
    · rfl
    · show (y 1).val = 0
      omega
    · rfl)
  rw [hy]
  show StableHlo.after hostOps1 (W2 m ρ c) main_v5 (ix3 (y 0 : Fin 2) (0 : Fin 1) (y 2 : Fin 128)) = _
  after_reads_at
  unfold gains
  refine (dite_congr rfl (fun h => ?_) fun h => ?_).trans dite_eq_ite
  · exact (row_q m ρ c _ _).trans (congrFun (show V2 m ρ c main_arg3 = _ from W2_args m ρ c main_arg3 (by decide)) _)
  · exact (row_k m ρ c _ _).trans (congrFun (show V2 m ρ c main_arg4 = _ from W2_args m ρ c main_arg4 (by decide)) _)

/-- The second call leaves the queries, the keys and the values, -/
theorem sides_4 : W4 m ρ c (Proc.devRef .tc main_v6) = fun y : S8192x6144.Idx => sides (stream m c) (weights m c) (gains m c) (y 0) (y 1) := by
  refine (W4_arr m ρ c 3).trans ((arr_sides (V3 m ρ) c).trans ?_)
  rw [stream_3, gains_3, show V3 m ρ c main_arg2 = _ from W3_args m ρ c main_arg2 (by decide)]
  rfl

/-- which stay to the end, -/
theorem sides_5 : W5 m ρ c (Proc.devRef .tc main_v6) = fun y : S8192x6144.Idx => sides (stream m c) (weights m c) (gains m c) (y 0) (y 1) :=
  (W5_of m ρ c main_v6 (by decide)).trans (sides_4 m ρ c)

/-- and the third call the activation. -/
theorem gelu_5 : W5 m ρ c (Proc.devRef .tc main_v7)
    = fun y : S8192x4096.Idx => gelu (dot (stream m c) (weights m c) (y 0) ⟨6144 + (y 1).val, by have h : (y 1).val < 4096 := (y 1).isLt; omega⟩) := by
  refine (W5_arr m ρ c 2).trans ((arr_gelu (V4 m ρ) c).trans ?_)
  rw [stream_4, show V4 m ρ c main_arg2 = _ from W4_args m ρ c main_arg2 (by decide)]
  rfl

end Cert.Proof.Project

end
-- ==== Proof.Project.Reference.lean ====
/- What the reference of the three calls before the attention computes: the product of the normalised stream with the weights,
   its first two thirds of columns for the attention with each head's row normalised, and the activation of the rest. -/
module

public import proofs.«01_k».proof.Proof.Layer.Math
public import proofs.«01_k».proof.Proof.Layer.Gelu
public import proofs.«01_k».proof.Proof.Gen.Reference2Ideal.Run

@[expose] public section

noncomputable section

namespace Cert.Proof.Project.Ref

open Cert.Reference2Ideal Cert.Reference2Ideal.Gen Cert.Proof.Layer
open Idealize.ShloMosaic Idealize.ShloMosaic.TcCoe
open scoped BigOperators

/-- The reference's norm of the stream. -/
def refNorm (X : FVec Ideal S8192x4096 .f32) (g : FVec Ideal S4096 .f32) : FVec Ideal S8192x4096 .f32 :=
  mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- The reference's product. -/
def refProduct (N : FVec Ideal S8192x4096 .f32) (W : FVec Ideal S4096x10240 .f32) : FVec Ideal S8192x10240 .f32 :=
  Host.dotGeneral dot_S8192x4096_S4096x10240_S8192x10240_1_0_0_1_n_n none N W

/-- The heads of 2048 columns. -/
def toHeads (A : FVec Ideal S8192x2048 .f32) : FVec Ideal S16x8192x128 .f32 :=
  transpose S16x8192x128 [1, 0, 2] (shapeCast S8192x16x128 A shapeCasts_S8192x2048_S8192x16x128) transposes_S8192x16x128_S16x8192x128_1_0_2

/-- Each head's row over its root mean square, times the gains. -/
def normHeads (Q : FVec Ideal S16x8192x128 .f32) (g : FVec Ideal S128 .f32) : FVec Ideal S16x8192x128 .f32 :=
  mulf (mulf Q (broadcastInDim S16x8192x128 ![0, 1, 2] bcast_S16x8192x1_S16x8192x128_0_1_2 (Host.rsqrt (addf (Host.divf (broadcastInDim S16x8192x1 ![0, 1] bcast_S16x8192_S16x8192x1_0_1 (Host.reduceAdd (mulf Q Q) (constant S_ .f32 0x00000000#32) reducesTo_S16x8192x128_S16x8192_d2 h_S_)) (broadcastInDim S16x8192x1 ![] bcast_S_S16x8192x1 (constant S_ .f32 0x43000000#32))) (broadcastInDim S16x8192x1 ![] bcast_S_S16x8192x1 (constant S_ .f32 0x358637BD#32)))))) (broadcastInDim S16x8192x128 ![0, 1, 2] bcast_S1x1x128_S16x8192x128_0_1_2 (broadcastInDim S1x1x128 ![2] bcast_S128_S1x1x128_2 g))

/-- The heads side by side again. -/
def fromHeads (Q : FVec Ideal S16x8192x128 .f32) : FVec Ideal S8192x2048 .f32 :=
  shapeCast S8192x2048 (transpose S8192x16x128 [1, 0, 2] Q transposes_S16x8192x128_S8192x16x128_1_0_2) shapeCasts_S8192x16x128_S8192x2048

/-- The queries, the keys and the values side by side. -/
def refSides (q k v : FVec Ideal S8192x2048 .f32) : FVec Ideal S8192x6144 .bf16 :=
  truncf .bf16 (concatenate S8192x6144 1 [⟨S8192x2048, q⟩, ⟨S8192x2048, k⟩, ⟨S8192x2048, v⟩] concatenates_S8192x2048_S8192x2048_S8192x2048_S8192x6144_d1 : FVec Ideal S8192x6144 .f32) bitsLt_bf16_f32

/-- The reference's first result, of its product and the gains. -/
def refAttend (P : FVec Ideal S8192x10240 .f32) (gq gk : FVec Ideal S128 .f32) : FVec Ideal S8192x6144 .bf16 :=
  refSides (fromHeads (normHeads (toHeads (extractStridedSlice S8192x2048 ![0, 0] P slices_S8192x10240_S8192x2048_0_0)) gq))
    (fromHeads (normHeads (toHeads (extractStridedSlice S8192x2048 ![0, 2048] P slices_S8192x10240_S8192x2048_0_2048)) gk))
    (extractStridedSlice S8192x2048 ![0, 4096] P slices_S8192x10240_S8192x2048_0_4096)

/-- The reference's activation. -/
def refGelu (U : FVec Ideal S8192x4096 .f32) : FVec Ideal S8192x4096 .f32 :=
  mulf U (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf U (mulf (broadcastInDim S8192x4096 ![] bcast_S_S8192x4096 (constant S_ .f32 0x3D372713#32)) (mulf (mulf U U) U)))))))

/-- The norm, entry by entry. -/
theorem refNorm_apply (X : FVec Ideal S8192x4096 .f32) (g : FVec Ideal S4096 .f32) (t : Fin 8192) (j : Fin 4096) :
    refNorm X g (ix2 t j) = normed X (fun d => g (ix1 d)) t j := by
  unfold refNorm
  pointwise
  rfl

/-- The product, entry by entry. -/
theorem refProduct_apply (N : FVec Ideal S8192x4096 .f32) (W : FVec Ideal S4096x10240 .f32) (t : Fin 8192) (j : Fin 10240) :
    refProduct N W (ix2 t j) = dot N W t j := by
  unfold refProduct
  pointwise
  rfl

/-- The activation, entry by entry. -/
theorem refGelu_apply (U : FVec Ideal S8192x4096 .f32) (t : Fin 8192) (j : Fin 4096) :
    refGelu U (ix2 t j) = geluR (Ideal.ofBits .f32 0x3F000000#32) (Ideal.ofBits .f32 0x3F4C422A#32) (Ideal.ofBits .f32 0x3D372713#32) (U (ix2 t j)) := by
  unfold refGelu
  pointwise
  rfl

/-- Where an entry of a head lies among 2048 columns. -/
def sideCol (h : Fin 16) (l : Fin 128) : Fin 2048 := ⟨h.val * 128 + l.val, by omega⟩

/-- The heads, entry by entry. -/
theorem toHeads_apply (A : FVec Ideal S8192x2048 .f32) (h : Fin 16) (t : Fin 8192) (l : Fin 128) : toHeads A (ix3 h t l) = A (ix2 t (sideCol h l)) := by
  unfold toHeads
  pointwise
  rfl

/-- The normalised heads, entry by entry. -/
theorem normHeads_apply (Q : FVec Ideal S16x8192x128 .f32) (g : FVec Ideal S128 .f32) (h : Fin 16) (t : Fin 8192) (l : Fin 128) :
    normHeads Q g (ix3 h t l) = unit headWidth (fun i => Q (ix3 h t i)) l * g (ix1 l) := by
  unfold normHeads
  pointwise
  rfl

/-- The heads side by side, entry by entry. -/
theorem fromHeads_apply (Q : FVec Ideal S16x8192x128 .f32) (t : Fin 8192) (h : Fin 16) (l : Fin 128) : fromHeads Q (ix2 t (sideCol h l)) = Q (ix3 h t l) := by
  unfold fromHeads
  pointwise
  have hh : (⟨(sideCol h l).val / 128, by show (h.val * 128 + l.val) / 128 < 16; omega⟩ : Fin 16) = h := Fin.ext (by
    show (h.val * 128 + l.val) / 128 = h.val
    omega)
  have hl : (⟨(sideCol h l).val % 128, Nat.mod_lt _ (by norm_num)⟩ : Fin 128) = l := Fin.ext (by
    show (h.val * 128 + l.val) % 128 = l.val
    omega)
  exact congrArg₂ (fun h l => Q (ix3 h t l)) hh hl

/-- The three sides: an entry of the queries, -/
theorem refSides_q (q k v : FVec Ideal S8192x2048 .f32) (t : Fin 8192) (j : Fin 2048) : refSides q k v (ix2 t ⟨j.val, by omega⟩) = q (ix2 t j) := by
  unfold refSides
  pointwise

/-- of the keys, -/
theorem refSides_k (q k v : FVec Ideal S8192x2048 .f32) (t : Fin 8192) (j : Fin 2048) : refSides q k v (ix2 t ⟨2048 + j.val, by omega⟩) = k (ix2 t j) := by
  unfold refSides
  pointwise

/-- and of the values. -/
theorem refSides_v (q k v : FVec Ideal S8192x2048 .f32) (t : Fin 8192) (j : Fin 2048) : refSides q k v (ix2 t ⟨4096 + j.val, by omega⟩) = v (ix2 t j) := by
  unfold refSides
  pointwise
  rw [dif_neg (by omega), dif_neg (by omega)]
  refine congrArg (fun j => v (ix2 t j)) (Fin.ext ?_)
  show 4096 + j.val - 2048 - 2048 = j.val
  omega

/-- A slice of the product, entry by entry. -/
theorem slice_q (P : FVec Ideal S8192x10240 .f32) (t : Fin 8192) (j : Fin 2048) :
    (extractStridedSlice S8192x2048 ![0, 0] P slices_S8192x10240_S8192x2048_0_0 : FVec Ideal S8192x2048 .f32) (ix2 t j) = P (ix2 t ⟨j.val, by omega⟩) := by
  pointwise

theorem slice_k (P : FVec Ideal S8192x10240 .f32) (t : Fin 8192) (j : Fin 2048) :
    (extractStridedSlice S8192x2048 ![0, 2048] P slices_S8192x10240_S8192x2048_0_2048 : FVec Ideal S8192x2048 .f32) (ix2 t j) = P (ix2 t ⟨2048 + j.val, by omega⟩) := by
  pointwise

theorem slice_v (P : FVec Ideal S8192x10240 .f32) (t : Fin 8192) (j : Fin 2048) :
    (extractStridedSlice S8192x2048 ![0, 4096] P slices_S8192x10240_S8192x2048_0_4096 : FVec Ideal S8192x2048 .f32) (ix2 t j) = P (ix2 t ⟨4096 + j.val, by omega⟩) := by
  pointwise

theorem slice_u (P : FVec Ideal S8192x10240 .f32) (t : Fin 8192) (j : Fin 4096) :
    (extractStridedSlice S8192x4096 ![0, 6144] P slices_S8192x10240_S8192x4096_0_6144 : FVec Ideal S8192x4096 .f32) (ix2 t j) = P (ix2 t ⟨6144 + j.val, by omega⟩) := by
  pointwise

/-- The reference's first result is `refAttend` of its arguments. -/
theorem attend_result (m : (l : Loc nD τ sig) → Buf (Elt Ideal) l) (c : Dev nD) :
    Value.res_main_v53 m c = refAttend (refProduct (refNorm (m ((c.tc : Thread nD τ).loc main_arg0)) (m ((c.tc : Thread nD τ).loc main_arg1))) (m ((c.tc : Thread nD τ).loc main_arg2)))
      (m ((c.tc : Thread nD τ).loc main_arg3)) (m ((c.tc : Thread nD τ).loc main_arg4)) := rfl

/-- The reference's second result is `refGelu` of the last columns of its product. -/
theorem gelu_result (m : (l : Loc nD τ sig) → Buf (Elt Ideal) l) (c : Dev nD) :
    Value.res_main_v66 m c = refGelu (extractStridedSlice S8192x4096 ![0, 6144] (refProduct (refNorm (m ((c.tc : Thread nD τ).loc main_arg0)) (m ((c.tc : Thread nD τ).loc main_arg1))) (m ((c.tc : Thread nD τ).loc main_arg2))) slices_S8192x10240_S8192x4096_0_6144) := rfl

end Cert.Proof.Project.Ref

end
-- ==== Proof.Project.Equation.lean ====
/- The claims of the three calls before the attention: the frames, the named constant, and that at the extended reals they and
   their reference end with the same queries, keys and values and the same activation. -/
module

public import proofs.«01_k».proof.Defs
public import proofs.«01_k».proof.Proof.Project.Run
public import proofs.«01_k».proof.Proof.Project.Reference
public import proofs.«01_k».proof.Proof.Gen.Kernel2.Frame
public import Idealize.ShloMosaic.Adequacy
public import Idealize.ShloMosaic.Init

@[expose] public section

noncomputable section

namespace Cert.Proof.Project

open Idealize.ShloMosaic Idealize.SL.Sem Cert.Proof.Layer

attribute [local instance] Cert.Kernel2.Gen.facts Cert.Kernel2Ideal.Gen.facts Cert.Reference2Ideal.Gen.facts

/-- The three calls run to the end, their arguments unchanged and every semaphore counter at zero. -/
theorem frame_kernel : Cert.quiescent_Kernel2 := fun m ρ _ => Cert.Kernel2.Gen.frame m ρ

/-- So do the three calls at the extended reals. -/
theorem frame_ideal : Cert.quiescent_Kernel2Ideal := fun m ρ _ => Cert.Kernel2Ideal.Gen.frame m ρ

/-- So does their reference, which has no semaphore. -/
theorem frame_reference : Cert.quiescent_Reference2Ideal := fun m ρ _ =>
  (θ_run (Cert.Reference2Ideal.defs (F := Ideal)) _ _).mono (fun r h => ⟨fun c => (h c).2.2, sem_eq_zero_of_no_sems (by decide) r.2⟩)
    (Cert.Reference2Ideal.Value.run (F := Ideal) m ρ)

/-- The idealization changes nothing but the named constant. -/
theorem names : Cert.preserves_Kernel2_Kernel2Ideal := IdealRules.named_const.statement _ _ _ _ _ rfl

/-- The kernel's activation is the reference's, at every extended real. -/
theorem gelu_eq (x : EReal) : gelu x = geluR (Ideal.ofBits .f32 0x3F000000#32) (Ideal.ofBits .f32 0x3F4C422A#32) (Ideal.ofBits .f32 0x3D372713#32) x := by
  unfold gelu
  rw [square_eq, half_f32, root_f32, cubic_f32]
  exact gelu_agree _ _ _ (by norm_num) (by norm_num) (by norm_num) x

variable (X : Mat 8192 4096) (g : (⟨1, ![4096]⟩ : Shape).Idx → EReal) (W : Mat 4096 10240)

/-- The normalised stream. -/
def unitStream : Mat 8192 4096 := fun y => normed X (fun d => g (ix1 d)) (y 0) (y 1)

/-- The reference's product is the product of the normalised stream. -/
theorem product_eq (t : Fin 8192) (j : Fin 10240) : Ref.refProduct (Ref.refNorm X g) W (ix2 t j) = dot (unitStream X g) W t j :=
  (Ref.refProduct_apply _ W t j).trans (dot_congr (fun d => Ref.refNorm_apply X g t d) fun _ => rfl)

/-- The reference's normalised heads, of columns of the product that begin at a multiple of the width of a head. -/
theorem heads_eq (N : Mat 8192 4096) (A : (⟨2, ![8192, 2048]⟩ : Shape).Idx → EReal) (gh : (⟨1, ![128]⟩ : Shape).Idx → EReal) (o : ℕ) (ho : o % 128 = 0)
    (t : Fin 8192) (k : Fin 2048) (j : ℕ) (hj : j = o + k.val) (hlt : j < 4096)
    (hA : ∀ (k : Fin 2048) (k' : Fin 10240), k'.val = o + k.val → A (ix2 t k) = dot N W t k') :
    Ref.fromHeads (Ref.normHeads (Ref.toHeads A) gh) (ix2 t k)
      = unit headWidth (fun i => dot N W t (sameHead j hlt i)) ⟨j % 128, Nat.mod_lt _ (by norm_num)⟩ * gh (ix1 ⟨j % 128, Nat.mod_lt _ (by norm_num)⟩) := by
  have hk : k = Ref.sideCol ⟨k.val / 128, by omega⟩ ⟨j % 128, Nat.mod_lt _ (by norm_num)⟩ := Fin.ext (by
    show k.val = k.val / 128 * 128 + j % 128
    omega)
  refine (congrArg (fun k => Ref.fromHeads (Ref.normHeads (Ref.toHeads A) gh) (ix2 t k)) hk).trans ((Ref.fromHeads_apply _ t _ _).trans ((Ref.normHeads_apply _ gh _ t _).trans ?_))
  refine congrArg (· * _) (congrArg (fun f => unit headWidth f _) (funext fun i => ?_))
  refine (Ref.toHeads_apply A _ t i).trans (hA _ _ ?_)
  show j / 128 * 128 + i.val = o + (k.val / 128 * 128 + i.val)
  omega

/-- The reference's queries, keys and values are the kernel's. -/
theorem sides_eq (gq gk : (⟨1, ![128]⟩ : Shape).Idx → EReal) (G : (⟨3, ![2, 1, 128]⟩ : Shape).Idx → EReal)
    (hq : ∀ l, G (ix3 0 0 l) = gq (ix1 l)) (hk : ∀ l, G (ix3 1 0 l) = gk (ix1 l)) (t : Fin 8192) (j : Fin 6144) :
    Ref.refAttend (Ref.refProduct (Ref.refNorm X g) W) gq gk (ix2 t j) = sides (unitStream X g) W G t j := by
  unfold Ref.refAttend sides
  by_cases h4 : j.val < 4096
  · rw [dif_pos h4]
    by_cases h2 : j.val < 2048
    · refine (congrArg (fun j => Ref.refSides _ _ _ (ix2 t j)) (show j = ⟨(⟨j.val, h2⟩ : Fin 2048).val, by omega⟩ from rfl)).trans ((Ref.refSides_q _ _ _ t ⟨j.val, h2⟩).trans ?_)
      refine (heads_eq W (unitStream X g) _ gq 0 rfl t ⟨j.val, h2⟩ j.val (by simp) h4 fun k k' hk' => ?_).trans (congrArg₂ (fun a b : EReal => a * b) rfl ?_)
      · refine (Ref.slice_q _ t k).trans ((product_eq X g W t _).trans (congrArg (dot _ W t) (Fin.ext ?_)))
        show k.val = k'.val
        omega
      · refine (hq _).symm.trans (congrArg (fun s => G (ix3 s 0 _)) (Fin.ext ?_))
        show 0 = j.val / 2048
        omega
    · refine (congrArg (fun j => Ref.refSides _ _ _ (ix2 t j)) (show j = ⟨2048 + (⟨j.val - 2048, by omega⟩ : Fin 2048).val, by show 2048 + (j.val - 2048) < 6144; omega⟩ from Fin.ext (by show j.val = 2048 + (j.val - 2048); omega))).trans ((Ref.refSides_k _ _ _ t ⟨j.val - 2048, by omega⟩).trans ?_)
      refine (heads_eq W (unitStream X g) _ gk 2048 rfl t ⟨j.val - 2048, by omega⟩ j.val (by show j.val = 2048 + (j.val - 2048); omega) h4 fun k k' hk' => ?_).trans (congrArg₂ (fun a b : EReal => a * b) rfl ?_)
      · refine (Ref.slice_k _ t k).trans ((product_eq X g W t _).trans (congrArg (dot _ W t) (Fin.ext ?_)))
        show 2048 + k.val = k'.val
        omega
      · refine (hk _).symm.trans (congrArg (fun s => G (ix3 s 0 _)) (Fin.ext ?_))
        show 1 = j.val / 2048
        omega
  · rw [dif_neg h4]
    refine (congrArg (fun j => Ref.refSides _ _ _ (ix2 t j)) (show j = ⟨4096 + (⟨j.val - 4096, by omega⟩ : Fin 2048).val, by show 4096 + (j.val - 4096) < 6144; omega⟩ from Fin.ext (by show j.val = 4096 + (j.val - 4096); omega))).trans ((Ref.refSides_v _ _ _ t ⟨j.val - 4096, by omega⟩).trans ?_)
    refine (Ref.slice_v _ t _).trans ((product_eq X g W t _).trans (congrArg (dot _ W t) (Fin.ext ?_)))
    show 4096 + (j.val - 4096) = j.val
    omega

/-- The reference's activation is the kernel's. -/
theorem activation_eq (t : Fin 8192) (j : Fin 4096) :
    Ref.refGelu (extractStridedSlice Cert.Reference2Ideal.S8192x4096 ![0, 6144] (Ref.refProduct (Ref.refNorm X g) W) Cert.Reference2Ideal.Gen.slices_S8192x10240_S8192x4096_0_6144) (ix2 t j)
      = gelu (dot (unitStream X g) W t ⟨6144 + j.val, by omega⟩) :=
  (Ref.refGelu_apply _ t j).trans ((congrArg (geluR _ _ _) ((Ref.slice_u _ t j).trans (product_eq X g W t _))).trans (gelu_eq _).symm)

/-- From memories that agree on the arguments, the three calls and their reference both run to the end, with the same two
    results, and change no argument. -/
theorem algebraic : Cert.algebraic_Kernel2Ideal_Reference2Ideal := by
  intro m g m' g' _ hm
  refine ⟨fun c => fun y => sides (stream m c) (weights m c) (gains m c) (y 0) (y 1),
    fun c => fun y => gelu (dot (stream m c) (weights m c) (y 0) ⟨6144 + (y 1).val, by have h : (y 1).val < 4096 := (y 1).isLt; omega⟩), ?_, ?_⟩
  · refine (θ_run (Cert.Kernel2Ideal.defs (F := Ideal)) _ _).mono (fun r h c => ?_) (run_values m g)
    obtain ⟨h0, h1, ha⟩ := h.1 c
    exact ⟨h0.trans (sides_5 m g c), h1.trans (gelu_5 m g c), ha⟩
  · refine (θ_run (Cert.Reference2Ideal.defs (F := Ideal)) _ _).mono (fun r h c => ?_) (Cert.Reference2Ideal.Value.run (F := Ideal) m' g')
    obtain ⟨h0, h1, ha⟩ := h c
    obtain ⟨a0, a1, a2, a3, a4⟩ := hm c
    refine ⟨h0.trans ((Ref.attend_result m' c).trans ?_), h1.trans ((Ref.gelu_result m' c).trans ?_), ha⟩
    · rw [a0, a1, a2, a3, a4]
      funext y
      have hy : y = ix2 (y 0) (y 1) := Shape.idx_ext₂ rfl rfl
      exact (congrArg (Ref.refAttend _ _ _) hy).trans (sides_eq _ _ _ _ _ _ (fun _ => rfl) (fun _ => rfl) (y 0) (y 1))
    · rw [a0, a1, a2]
      funext y
      have hy : y = ix2 (y 0) (y 1) := Shape.idx_ext₂ rfl rfl
      exact (congrArg (Ref.refGelu _) hy).trans (activation_eq _ _ _ (y 0) (y 1))

end Cert.Proof.Project

end
-- ==== Proof.Close.Blocks.lean ====
/- What the three calls that follow the attention write to a block of each result, entry by entry, from the blocks they read. -/
module

public import proofs.«01_k».proof.Proof.Layer.Math
public import proofs.«01_k».proof.Proof.Gen.Kernel3Ideal.Frame
public import Idealize.ShloMosaic.Lib.Pipeline.ValueKit.Geometry

@[expose] public section

noncomputable section

namespace Cert.Proof.Close

open Cert.Kernel3Ideal Cert.Kernel3Ideal.Gen Cert.Proof.Layer
open Idealize.ShloMosaic
open scoped BigOperators

/-- The origin of a matrix. -/
theorem zeros : (![0, 0] : Fin 2 → ℕ) = fun _ => 0 := by funext a; fin_cases a <;> rfl

/-- The first call: the stream plus a product. -/
theorem sum_block (x0 : FVec Ideal S1024x4096 .bf16) (x1 : FVec Ideal S4096x512 .f32) (x2 : FVec Ideal S1024x512 .f32) (r : Fin 1024) (j : Fin 512) :
    out0_3 (F := Ideal) x0 x1 x2 (ix2 r j) = x2 (ix2 r j) + dot x0 x1 r j := by
  unfold out0_3
  rw [View.canon_unit_zero (S := S1024x512) zeros _ _]
  unfold k0_pay1
  have ex2 : View.ld (Val := Elt Ideal) (e' := .f32) x2 r0_0 = x2 := View.ld_unit_zero (Val := Elt Ideal) (e := .f32) (S := S1024x512) zeros _ x2
  have ex0 : View.ld (Val := Elt Ideal) (e' := .bf16) x0 r0_1 = x0 := View.ld_unit_zero (Val := Elt Ideal) (e := .bf16) (S := S1024x4096) zeros _ x0
  have ex1 : View.ld (Val := Elt Ideal) (e' := .f32) x1 r0_2 = x1 := View.ld_unit_zero (Val := Elt Ideal) (e := .f32) (S := S4096x512) zeros _ x1
  rw [ex0, ex1, ex2]
  pointwise
  rfl

/-- The second call: each row of the stream normalised, laid out as a column. -/
theorem norm_block (x0 : FVec Ideal S512x4096 .f32) (x1 : FVec Ideal S1x4096 .f32) (j : Fin 4096) (r : Fin 512) :
    out1_2 (F := Ideal) x0 x1 (ix2 j r) = normed x0 (fun d => x1 (ix2 0 d)) r j := by
  unfold out1_2
  rw [View.canon_unit_zero (S := S4096x512) zeros _ _]
  unfold k1_pay1
  have ex0 : View.ld (Val := Elt Ideal) (e' := .f32) x0 r1_0 = x0 := View.ld_unit_zero (Val := Elt Ideal) (e := .f32) (S := S512x4096) zeros _ x0
  have ex1 : View.ld (Val := Elt Ideal) (e' := .f32) x1 r1_1 = x1 := View.ld_unit_zero (Val := Elt Ideal) (e := .f32) (S := S1x4096) zeros _ x1
  rw [ex0, ex1]
  pointwise
  rfl

/-- The third call's second result: the table as it came. -/
theorem table_block (x0 : FVec Ideal S4096x1024 .bf16) (x1 : FVec Ideal S4096x512 .f32) (x2 : FVec Ideal S1x2x128x256 .f32) (x3 : FVec Ideal S256x4096 .f32)
    (y : S256x4096.Idx) : out2_5 (F := Ideal) x0 x1 x2 x3 y = x3 y := by
  unfold out2_5
  rw [View.canon_unit_zero (S := S256x4096) zeros _ _]
  unfold k2_pay1
  have ex3 : View.ld (Val := Elt Ideal) (e' := .f32) x3 r2_0 = x3 := View.ld_unit_zero (Val := Elt Ideal) (e := .f32) (S := S256x4096) zeros _ x3
  rw [ex3]
  rfl

/-- A query's entry. -/
def queryAt {n : ℕ} (N : Mat 4096 n) {p : ℕ} (W : Mat 4096 p) (i : Fin p) (t : Fin n) : EReal := ∑ d : Fin 4096, W (ix2 d i) * N (ix2 d t)

/-- The scores of the first half's keys. -/
theorem score_block_0 (x0 : FVec Ideal S4096x1024 .bf16) (x1 : FVec Ideal S4096x512 .f32) (x2 : FVec Ideal S1x1x128x256 .f32) (n : Fin 128) (t : Fin 1024) :
    k2_pay3 (F := Ideal) x1 x0 x2 (ix4 0 0 n t) = ∑ k : Fin 256, x2 (ix4 0 0 n k) * queryAt x0 x1 ⟨k.val, by omega⟩ t := by
  unfold k2_pay3 k2_pay2
  pointwise
  rfl

/-- The scores of the second half's keys. -/
theorem score_block_1 (x0 : FVec Ideal S4096x1024 .bf16) (x1 : FVec Ideal S4096x512 .f32) (x2 : FVec Ideal S1x1x128x256 .f32) (n : Fin 128) (t : Fin 1024) :
    k2_pay4 (F := Ideal) x1 x0 x2 (ix4 0 0 n t) = ∑ k : Fin 256, x2 (ix4 0 0 n k) * queryAt x0 x1 ⟨256 + k.val, by omega⟩ t := by
  unfold k2_pay4 k2_pay2
  pointwise
  rfl

/-- The third call's first result: every key's score, of the half its query belongs to. -/
theorem score_block (x0 : FVec Ideal S4096x1024 .bf16) (x1 : FVec Ideal S4096x512 .f32) (x2 : FVec Ideal S1x2x128x256 .f32) (x3 : FVec Ideal S256x4096 .f32)
    (p : Fin 2) (n : Fin 128) (t : Fin 1024) :
    out2_4 (F := Ideal) x0 x1 x2 x3 (ix4 0 p n t) = ∑ k : Fin 256, x2 (ix4 0 p n k) * queryAt x0 x1 ⟨p.val * 256 + k.val, by omega⟩ t := by
  have ex0 : View.ld (Val := Elt Ideal) (e' := .bf16) x0 r2_2 = x0 := View.ld_unit_zero (Val := Elt Ideal) (e := .bf16) (S := S4096x1024) zeros _ x0
  have ex1 : View.ld (Val := Elt Ideal) (e' := .f32) x1 r2_1 = x1 := View.ld_unit_zero (Val := Elt Ideal) (e := .f32) (S := S4096x512) zeros _ x1
  unfold out2_4
  rw [ex0, ex1]
  obtain rfl | rfl : p = 0 ∨ p = 1 := by omega
  · rw [View.canon_cons_of_not_mem _ _ (by
        intro hm
        have h1 : 1 ≤ 0 := ((Rect.mem_set_unit (inb := inb_S1x2x128x1024_S1x1x128x1024_0_1_0_0) (i := ix4 (0 : Fin 1) (0 : Fin 2) n t)).mp hm (1 : Fin 4)).1
        omega),
      show ix4 (0 : Fin 1) (0 : Fin 2) n t = r2_4.emb (ix4 (0 : Fin 1) (0 : Fin 1) n t) from funext fun a => Fin.ext (by
        rw [ValueKit.rect_emb_unit_val]; fin_cases a <;> simp), View.canon_cons_emb, score_block_0]
    refine Finset.sum_congr rfl fun k _ => congrArg₂ (· * ·) ?_ (congrArg (fun i => queryAt x0 x1 i t) (Fin.ext (by simp)))
    refine congrArg x2 (funext fun a => Fin.ext ?_)
    show (r2_3.emb (ix4 (0 : Fin 1) (0 : Fin 1) n k) a : ℕ) = _
    rw [ValueKit.rect_emb_unit_val]; fin_cases a <;> simp
  · rw [show ix4 (0 : Fin 1) (1 : Fin 2) n t = r2_6.emb (ix4 (0 : Fin 1) (0 : Fin 1) n t) from funext fun a => Fin.ext (by
        rw [ValueKit.rect_emb_unit_val]; fin_cases a <;> simp), View.canon_cons_emb, score_block_1]
    refine Finset.sum_congr rfl fun k _ => congrArg₂ (· * ·) ?_ (congrArg (fun i => queryAt x0 x1 i t) (Fin.ext (by simp)))
    refine congrArg x2 (funext fun a => Fin.ext ?_)
    show (r2_5.emb (ix4 (0 : Fin 1) (0 : Fin 1) n k) a : ℕ) = _
    rw [ValueKit.rect_emb_unit_val]; fin_cases a <;> simp

end Cert.Proof.Close
-- ==== Proof.Close.Array.lean ====
/- What each result array of the three calls that follow the attention holds, of the arrays the call is entered with. -/
module

public import proofs.«01_k».proof.Proof.Close.Blocks

@[expose] public section

noncomputable section

namespace Cert.Proof.Close

open Cert.Kernel3Ideal Cert.Kernel3Ideal.Gen Cert.Proof.Layer
open Idealize.ShloMosaic Idealize.ShloMosaic.TcCoe
open Idealize.ShloMosaic.Pipeline (Dat Cfg Window)
open scoped BigOperators

/-- Where block 0 of call 0 lies. -/
theorem at0_0 : ∀ t : Fin cfg0.N, win0_0.index t = ![(grid0.coords t 0).val, 0] :=
  (by decide +kernel : ∀ t : Fin grid0.N, win0_0.index t = ![(grid0.coords t 0).val, 0])
/-- Where block 1 of call 0 lies. -/
theorem at0_1 : ∀ t : Fin cfg0.N, win0_1.index t = ![0, (grid0.coords t 1).val] :=
  (by decide +kernel : ∀ t : Fin grid0.N, win0_1.index t = ![0, (grid0.coords t 1).val])
/-- Where block 2 of call 0 lies. -/
theorem at0_2 : ∀ t : Fin cfg0.N, win0_2.index t = ![(grid0.coords t 0).val, (grid0.coords t 1).val] :=
  (by decide +kernel : ∀ t : Fin grid0.N, win0_2.index t = ![(grid0.coords t 0).val, (grid0.coords t 1).val])
/-- Where block 3 of call 0 lies. -/
theorem at0_3 : ∀ t : Fin cfg0.N, win0_3.index t = ![(grid0.coords t 0).val, (grid0.coords t 1).val] :=
  (by decide +kernel : ∀ t : Fin grid0.N, win0_3.index t = ![(grid0.coords t 0).val, (grid0.coords t 1).val])
/-- Where block 0 of call 1 lies. -/
theorem at1_0 : ∀ t : Fin cfg1.N, win1_0.index t = ![(grid1.coords t 0).val, 0] :=
  (by decide +kernel : ∀ t : Fin grid1.N, win1_0.index t = ![(grid1.coords t 0).val, 0])
/-- Where block 1 of call 1 lies. -/
theorem at1_1 : ∀ t : Fin cfg1.N, win1_1.index t = ![0, 0] :=
  (by decide +kernel : ∀ t : Fin grid1.N, win1_1.index t = ![0, 0])
/-- Where block 2 of call 1 lies. -/
theorem at1_2 : ∀ t : Fin cfg1.N, win1_2.index t = ![0, (grid1.coords t 0).val] :=
  (by decide +kernel : ∀ t : Fin grid1.N, win1_2.index t = ![0, (grid1.coords t 0).val])
/-- Where block 0 of call 2 lies. -/
theorem at2_0 : ∀ t : Fin cfg2.N, win2_0.index t = ![0, (grid2.coords t 0).val] :=
  (by decide +kernel : ∀ t : Fin grid2.N, win2_0.index t = ![0, (grid2.coords t 0).val])
/-- Where block 1 of call 2 lies. -/
theorem at2_1 : ∀ t : Fin cfg2.N, win2_1.index t = ![0, (grid2.coords t 1).val] :=
  (by decide +kernel : ∀ t : Fin grid2.N, win2_1.index t = ![0, (grid2.coords t 1).val])
/-- Where block 2 of call 2 lies. -/
theorem at2_2 : ∀ t : Fin cfg2.N, win2_2.index t = ![(grid2.coords t 1).val, 0, 0, 0] :=
  (by decide +kernel : ∀ t : Fin grid2.N, win2_2.index t = ![(grid2.coords t 1).val, 0, 0, 0])
/-- Where block 3 of call 2 lies. -/
theorem at2_3 : ∀ t : Fin cfg2.N, win2_3.index t = ![(grid2.coords t 0).val * 8 + (grid2.coords t 1).val, 0] :=
  (by decide +kernel : ∀ t : Fin grid2.N, win2_3.index t = ![(grid2.coords t 0).val * 8 + (grid2.coords t 1).val, 0])
/-- Where block 4 of call 2 lies. -/
theorem at2_4 : ∀ t : Fin cfg2.N, win2_4.index t = ![(grid2.coords t 1).val, 0, 0, (grid2.coords t 0).val] :=
  (by decide +kernel : ∀ t : Fin grid2.N, win2_4.index t = ![(grid2.coords t 1).val, 0, 0, (grid2.coords t 0).val])
/-- Where block 5 of call 2 lies. -/
theorem at2_5 : ∀ t : Fin cfg2.N, win2_5.index t = ![(grid2.coords t 0).val * 8 + (grid2.coords t 1).val, 0] :=
  (by decide +kernel : ∀ t : Fin grid2.N, win2_5.index t = ![(grid2.coords t 0).val * 8 + (grid2.coords t 1).val, 0])

/-- What the calls are entered with. -/
abbrev Entry : Type := (c : Dev nD) → (b : Ref sig .tc) → Buf (Elt Ideal) ((c : Thread nD τ).loc b)

variable (V : Entry) (c : Dev nD)

/-- The stream after the attention's output projection is added. -/
theorem arr_sum : (dat0 (F := Ideal) V c).arrAt 3 cfg0.N
    = added (V c main_arg2) (V c main_arg0) (V c main_arg1) := by
  refine (dat0 V c).arrAt_eq_of_covers 3 _ (by decide +kernel) fun t hf y => ?_
  blk_simp
  rw [after0_3]
  have l0 : (y 0).val < 1024 := (y 0).isLt
  have l1 : (y 1).val < 512 := (y 1).isLt
  have hy : y = ix2 (⟨(y 0).val, l0⟩ : Fin 1024) (⟨(y 1).val, l1⟩ : Fin 512) := Shape.idx_ext₂ rfl rfl
  rw [show out0_3 (iblk0 V c 0 t) (iblk0 V c 1 t) (iblk0 V c 2 t) y = out0_3 (iblk0 V c 0 t) (iblk0 V c 1 t) (iblk0 V c 2 t) (ix2 (⟨(y 0).val, l0⟩ : Fin 1024) (⟨(y 1).val, l1⟩ : Fin 512)) from congrArg _ hy, sum_block]
  refine congrArg₂ (· + ·) ?_ (dot_congr (fun d => ?_) fun d => ?_)
  · unfold iblk0
    blk_simp
    refine congrArg (V c main_arg2) (Shape.idx_ext₂ ?_ ?_) <;> blk_simp [at0_2, at0_3]
  · unfold iblk0
    blk_simp
    refine congrArg (V c main_arg0) (Shape.idx_ext₂ ?_ ?_) <;> blk_simp [at0_0, at0_3]
  · unfold iblk0
    blk_simp
    refine congrArg (V c main_arg1) (Shape.idx_ext₂ ?_ ?_) <;> blk_simp [at0_1, at0_3]

/-- The normalised stream, a position in each column. -/
theorem arr_norm : (dat1 (F := Ideal) V c).arrAt 2 cfg1.N
    = fun y : S4096x8192.Idx => normed (V c main_v0) (fun d => V c main_v1 (ix2 (0 : Fin 1) d)) (y 1) (y 0) := by
  refine (dat1 V c).arrAt_eq_of_covers 2 _ (by decide +kernel) fun t hf y => ?_
  blk_simp
  rw [after1_2]
  have l0 : (y 0).val < 4096 := (y 0).isLt
  have l1 : (y 1).val < 512 := (y 1).isLt
  have hy : y = ix2 (⟨(y 0).val, l0⟩ : Fin 4096) (⟨(y 1).val, l1⟩ : Fin 512) := Shape.idx_ext₂ rfl rfl
  rw [show out1_2 (iblk1 V c 0 t) (iblk1 V c 1 t) y = out1_2 (iblk1 V c 0 t) (iblk1 V c 1 t) (ix2 (⟨(y 0).val, l0⟩ : Fin 4096) (⟨(y 1).val, l1⟩ : Fin 512)) from congrArg _ hy, norm_block]
  have e0 : ((win1_2.blk t).view.emb y) 0 = (⟨(y 0).val, l0⟩ : Fin 4096) := Fin.ext (by blk_simp [at1_2])
  show _ = normed (V c main_v0) (fun d => V c main_v1 (ix2 (0 : Fin 1) d)) (((win1_2.blk t).view.emb y) 1) (((win1_2.blk t).view.emb y) 0)
  rw [e0]
  refine normed_congr _ (fun d => ?_) fun d => ?_
  · unfold iblk1
    blk_simp
    refine congrArg (V c main_v0) (Shape.idx_ext₂ ?_ ?_) <;> blk_simp [at1_0, at1_2]
  · unfold iblk1
    blk_simp
    refine congrArg (V c main_v1) (Shape.idx_ext₂ ?_ ?_) <;> blk_simp [at1_1]

/-- The table as it came. -/
theorem arr_table : (dat2 (F := Ideal) V c).arrAt 5 cfg2.N = fun y : S16384x4096.Idx => V c main_arg6 y := by
  refine (dat2 V c).arrAt_eq_of_covers 5 _ (by decide +kernel) fun t hf y => ?_
  blk_simp
  rw [after2_5]
  refine (table_block (iblk2 V c 0 t) (iblk2 V c 1 t) (iblk2 V c 2 t) (iblk2 V c 3 t) y).trans ?_
  unfold iblk2
  blk_simp
  refine congrArg (V c main_arg6) (Shape.idx_ext₂ ?_ ?_) <;> blk_simp [at2_3, at2_5]

/-- The column of the queries' weights that is entry `k` of half `p` of head `h`. -/
def queryCol (h : Fin 8) (p : Fin 2) (k : Fin 256) : Fin 4096 := ⟨h.val * 512 + p.val * 256 + k.val, by omega⟩

/-- The score of a key at a position, of the normalised stream (a position in each column), the queries' weights and the keys. -/
def scoreAt (N : Mat 4096 8192) (W : Mat 4096 4096) (K : S8x2x128x256.Idx → EReal) (y : S8x2x128x8192.Idx) : EReal :=
  ∑ k : Fin 256, K (ix4 (y 0) (y 1) (y 2) k) * queryAt N W (queryCol (y 0) (y 1) k) (y 3)

/-- Every key's score at every position. -/
theorem arr_scores : (dat2 (F := Ideal) V c).arrAt 4 cfg2.N = scoreAt (V c main_v2) (V c main_arg4) (V c main_arg5) := by
  refine (dat2 V c).arrAt_eq_of_covers 4 _ (by decide +kernel) fun t hf y => ?_
  blk_simp
  rw [after2_4]
  have l0 : (y 0).val < 1 := (y 0).isLt
  have l1 : (y 1).val < 2 := (y 1).isLt
  have l2 : (y 2).val < 128 := (y 2).isLt
  have l3 : (y 3).val < 1024 := (y 3).isLt
  have hy : y = ix4 (0 : Fin 1) (⟨(y 1).val, l1⟩ : Fin 2) (⟨(y 2).val, l2⟩ : Fin 128) (⟨(y 3).val, l3⟩ : Fin 1024) :=
    funext fun a => Fin.ext (by fin_cases a; exacts [Nat.lt_one_iff.mp l0, rfl, rfl, rfl])
  rw [show out2_4 (iblk2 V c 0 t) (iblk2 V c 1 t) (iblk2 V c 2 t) (iblk2 V c 3 t) y
    = out2_4 (iblk2 V c 0 t) (iblk2 V c 1 t) (iblk2 V c 2 t) (iblk2 V c 3 t) (ix4 (0 : Fin 1) (⟨(y 1).val, l1⟩ : Fin 2) (⟨(y 2).val, l2⟩ : Fin 128) (⟨(y 3).val, l3⟩ : Fin 1024)) from congrArg _ hy, score_block]
  have e0 : (((win2_4.blk t).view.emb y) 0 : ℕ) = (grid2.coords t 1).val + (y 0).val := by blk_simp [at2_4]
  have e1 : (((win2_4.blk t).view.emb y) 1 : ℕ) = (y 1).val := by blk_simp [at2_4]
  have e2 : (((win2_4.blk t).view.emb y) 2 : ℕ) = (y 2).val := by blk_simp [at2_4]
  have e3 : (((win2_4.blk t).view.emb y) 3 : ℕ) = (grid2.coords t 0).val * 1024 + (y 3).val := by blk_simp [at2_4]
  unfold scoreAt
  refine sum_of_terms fun k => congrArg₂ (· * ·) ?_ (sum_of_terms fun d => congrArg₂ (· * ·) ?_ ?_)
  · unfold iblk2
    blk_simp
    refine congrArg (V c main_arg5) (funext fun a => Fin.ext ?_)
    fin_cases a
    · show (((win2_2.blk t).view.emb _) 0 : ℕ) = (((win2_4.blk t).view.emb y) 0 : ℕ)
      rw [e0]; blk_simp [at2_2]; omega
    · show (((win2_2.blk t).view.emb _) 1 : ℕ) = (((win2_4.blk t).view.emb y) 1 : ℕ)
      rw [e1]; blk_simp [at2_2]
    · show (((win2_2.blk t).view.emb _) 2 : ℕ) = (((win2_4.blk t).view.emb y) 2 : ℕ)
      rw [e2]; blk_simp [at2_2]
    · show (((win2_2.blk t).view.emb _) 3 : ℕ) = k.val
      blk_simp [at2_2]
  · unfold iblk2
    blk_simp
    refine congrArg (V c main_arg4) (Shape.idx_ext₂ ?_ ?_)
    · blk_simp [at2_1]
    · show _ = (((win2_4.blk t).view.emb y) 0 : ℕ) * 512 + (((win2_4.blk t).view.emb y) 1 : ℕ) * 256 + k.val
      rw [e0, e1]
      blk_simp [at2_1]
      show (grid2.coords t 1).val * 512 + ((y 1).val * 256 + k.val) = (grid2.coords t 1).val * 512 + (y 1).val * 256 + k.val
      omega
  · unfold iblk2
    blk_simp
    refine congrArg (V c main_v2) (Shape.idx_ext₂ ?_ ?_)
    · blk_simp [at2_0]
    · show _ = (((win2_4.blk t).view.emb y) 3 : ℕ)
      rw [e3]; blk_simp [at2_0]

end Cert.Proof.Close

end
-- ==== Proof.Close.Run.lean ====
/- The run of the three calls that follow the attention, and what each result holds, of the arguments alone. -/
module

public import proofs.«01_k».proof.Proof.Close.Array
public import Idealize.ShloMosaic.Lib.StableHlo.ReadAt

@[expose] public section

noncomputable section

namespace Cert.Proof.Close

open Cert.Kernel3Ideal Cert.Kernel3Ideal.Gen Cert.Proof.Layer
open Idealize.ShloMosaic Idealize.ShloMosaic.TcCoe Idealize.ShloMosaic.Tactic
open Idealize.ShloMosaic.Rounds
open Idealize.SL Idealize.SL.RA Idealize.SL.BI
open scoped Idealize.SL.BI BigOperators
open Idealize.SL.BI.BIBase Idealize.SL.BI.Laws Idealize.SL.ProofMode Idealize.SL.Sem

local notation "𝕄" => MT nD τ sig Unit (Elt Ideal) ℕ (UR sig nD τ) ℕ

variable (m : (l : Loc nD τ sig) → Buf (Elt Ideal) l) (ρ : Dev nD → PrngReg)

set_option backward.isDefEq.respectTransparency.types false in
/-- From any memory the three calls run to the end; the results hold what the last boundary records of them, the arguments are
    as launched and every semaphore counter is at zero. -/
theorem run_values : θ_run defs (onTc (τ := τ) (main (F := Ideal))) ⟨m, fun _ => 0, ρ⟩ (fun r => (∀ c : Dev nD,
      r.2.mem ((c.tc : Thread nD τ).loc main_v0) = W4 m ρ c (Proc.devRef .tc main_v0)
      ∧       r.2.mem ((c.tc : Thread nD τ).loc main_v2) = W4 m ρ c (Proc.devRef .tc main_v2)
      ∧       r.2.mem ((c.tc : Thread nD τ).loc main_v3_0) = W4 m ρ c (Proc.devRef .tc main_v3_0)
      ∧       r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v0 (by decide)),
       h c _ (mem_uc main_v2 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

variable (c : Dev nD)

/-- The stream, with the attention's output projection added. -/
def stream : Mat 8192 4096 := added (m ((c : Thread nD τ).loc main_arg2)) (m ((c : Thread nD τ).loc main_arg0)) (m ((c : Thread nD τ).loc main_arg1))

/-- The gains. -/
def gain (d : Fin 4096) : EReal := (m ((c : Thread nD τ).loc main_arg3)) (ix1 d)

/-- The normalised stream, a position in each column. -/
def columns : Mat 4096 8192 := fun y => normed (stream m c) (gain m c) (y 1) (y 0)

/-- After the first call the stream is there, -/
theorem stream_1 : W1 m ρ c (Proc.devRef .tc main_v0) = stream m c := (W1_arr m ρ c 3).trans (arr_sum (V0 m ρ) c)

/-- and it stays until the second call, -/
theorem stream_2 : V2 m ρ c main_v0 = stream m c := (W2_of m ρ c main_v0 (by decide)).trans (stream_1 m ρ c)

/-- through it, -/
theorem stream_3 : W3 m ρ c (Proc.devRef .tc main_v0) = stream m c := (W3_of m ρ c main_v0 (by decide)).trans (stream_2 m ρ c)

/-- and to the end. -/
theorem stream_4 : W4 m ρ c (Proc.devRef .tc main_v0) = stream m c := (W4_of m ρ c main_v0 (by decide)).trans (stream_3 m ρ c)

/-- The host lays the gains out as a row. -/
theorem gain_2 (d : Fin 4096) : V2 m ρ c main_v1 (ix2 (0 : Fin 1) d) = gain m c d := by
  show StableHlo.after hostOps1 (W1 m ρ c) main_v1 (ix2 (0 : Fin 1) d) = _
  after_reads_at
  exact congrFun (W1_args m ρ c main_arg3 (by decide)) (ix1 d)

/-- The second call leaves the columns, -/
theorem columns_3 : W3 m ρ c (Proc.devRef .tc main_v2) = columns m c := by
  refine (W3_arr m ρ c 2).trans ((arr_norm (V2 m ρ) c).trans (funext fun y => ?_))
  rw [stream_2, funext (gain_2 m ρ c)]
  rfl

/-- which stay to the end. -/
theorem columns_4 : W4 m ρ c (Proc.devRef .tc main_v2) = columns m c := (W4_of m ρ c main_v2 (by decide)).trans (columns_3 m ρ c)

/-- The third call leaves the scores -/
theorem scores_4 : W4 m ρ c (Proc.devRef .tc main_v3_0) = scoreAt (columns m c) (m ((c : Thread nD τ).loc main_arg4)) (m ((c : Thread nD τ).loc main_arg5)) := by
  refine (W4_arr m ρ c 4).trans ((arr_scores (V3 m ρ) c).trans ?_)
  rw [show V3 m ρ c main_v2 = columns m c from columns_3 m ρ c, show V3 m ρ c main_arg4 = _ from W3_args m ρ c main_arg4 (by decide),
    show V3 m ρ c main_arg5 = _ from W3_args m ρ c main_arg5 (by decide)]

/-- and the table. -/
theorem table_4 : W4 m ρ c (Proc.devRef .tc main_v3_1) = m ((c : Thread nD τ).loc main_arg6) :=
  (W4_arr m ρ c 5).trans ((arr_table (V3 m ρ) c).trans (W3_args m ρ c main_arg6 (by decide)))

end Cert.Proof.Close

end
-- ==== Proof.Close.Reference.lean ====
/- What the reference of the three calls computes: the stream with the projection added, its normalised columns, and the
   scores of the keys. -/
module

public import proofs.«01_k».proof.Proof.Layer.Math
public import proofs.«01_k».proof.Proof.Gen.Reference3Ideal.Run

@[expose] public section

noncomputable section

namespace Cert.Proof.Close.Ref

open Cert.Reference3Ideal Cert.Reference3Ideal.Gen Cert.Proof.Layer
open Idealize.ShloMosaic Idealize.ShloMosaic.TcCoe
open scoped BigOperators

/-- The reference's sum. -/
def refSum (A : FVec Ideal S8192x4096 .bf16) (B : FVec Ideal S4096x4096 .f32) (H : FVec Ideal S8192x4096 .f32) : FVec Ideal S8192x4096 .f32 :=
  addf H (Host.dotGeneral dot_S8192x4096_S4096x4096_S8192x4096_1_0_0_1_n_n none (extf .f32 A bitsLt_bf16_f32) B)

/-- The reference's norm. -/
def refNorm (X : FVec Ideal S8192x4096 .f32) (g : FVec Ideal S4096 .f32) : FVec Ideal S8192x4096 .f32 :=
  mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- The reference's scores. -/
def refScore (T : FVec Ideal S8192x4096 .f32) (W : FVec Ideal S4096x4096 .f32) (K : FVec Ideal S8x2x128x256 .f32) : FVec Ideal S8x2x128x8192 .f32 :=
  transpose S8x2x128x8192 [1, 2, 3, 0] (transpose S8192x8x2x128 [3, 0, 1, 2] (Host.dotGeneral dot_S8x2x128x256_S8192x8x2x256_S8x2x128x8192_3_3_2_0_01_12 none K (shapeCast _ (Host.dotGeneral dot_S8192x4096_S4096x4096_S8192x4096_1_0_0_1_n_n none T W) shapeCasts_S8192x4096_S8192x8x2x256)) transposes_S8x2x128x8192_S8192x8x2x128_3_0_1_2) transposes_S8192x8x2x128_S8x2x128x8192_1_2_3_0

/-- The sum is the stream plus the product. -/
theorem refSum_eq (A : FVec Ideal S8192x4096 .bf16) (B : FVec Ideal S4096x4096 .f32) (H : FVec Ideal S8192x4096 .f32) : refSum A B H = added H A B := by
  funext y
  have hy : y = ix2 (y 0) (y 1) := Shape.idx_ext₂ rfl rfl
  rw [hy]
  unfold refSum
  pointwise
  rfl

/-- The norm, entry by entry. -/
theorem refNorm_apply (X : FVec Ideal S8192x4096 .f32) (g : FVec Ideal S4096 .f32) (t : Fin 8192) (j : Fin 4096) :
    refNorm X g (ix2 t j) = normed X (fun d => g (ix1 d)) t j := by
  unfold refNorm
  pointwise
  rfl

/-- The scores, entry by entry. -/
theorem refScore_apply (T : FVec Ideal S8192x4096 .f32) (W : FVec Ideal S4096x4096 .f32) (K : FVec Ideal S8x2x128x256 .f32)
    (h : Fin 8) (p : Fin 2) (n : Fin 128) (t : Fin 8192) :
    refScore T W K (ix4 h p n t) = ∑ k : Fin 256, K (ix4 h p n k) * dot T W t ⟨h.val * 512 + p.val * 256 + k.val, by omega⟩ := by
  unfold refScore
  pointwise
  rfl

/-- The reference's columns: its norm, transposed. -/
def refTurn (X : FVec Ideal S8192x4096 .f32) : FVec Ideal S4096x8192 .bf16 :=
  truncf .bf16 (transpose S4096x8192 [1, 0] X transposes_S8192x4096_S4096x8192_1_0) bitsLt_bf16_f32

/-- The transposed matrix, entry by entry. -/
theorem refTurn_apply (X : FVec Ideal S8192x4096 .f32) (j : Fin 4096) (t : Fin 8192) : refTurn X (ix2 j t) = X (ix2 t j) := by
  unfold refTurn
  pointwise

end Cert.Proof.Close.Ref

end
-- ==== Proof.Close.Equation.lean ====
/- The claims of the three calls that follow the attention: the frames, and that at the extended reals they and their
   reference end with the same stream, the same normalised columns, the same scores and the same table. -/
module

public import proofs.«01_k».proof.Defs
public import proofs.«01_k».proof.Proof.Close.Run
public import proofs.«01_k».proof.Proof.Close.Reference
public import proofs.«01_k».proof.Proof.Gen.Kernel3.Frame
public import Idealize.ShloMosaic.Adequacy
public import Idealize.ShloMosaic.Init

@[expose] public section

noncomputable section

namespace Cert.Proof.Close

open Idealize.ShloMosaic Idealize.SL.Sem Cert.Proof.Layer

attribute [local instance] Cert.Kernel3.Gen.facts Cert.Kernel3Ideal.Gen.facts Cert.Reference3Ideal.Gen.facts

/-- The three calls run to the end, their arguments unchanged and every semaphore counter at zero. -/
theorem frame_kernel : Cert.quiescent_Kernel3 := fun m ρ _ => Cert.Kernel3.Gen.frame m ρ

/-- So do the three calls at the extended reals. -/
theorem frame_ideal : Cert.quiescent_Kernel3Ideal := fun m ρ _ => Cert.Kernel3Ideal.Gen.frame m ρ

/-- So does their reference, which has no semaphore. -/
theorem frame_reference : Cert.quiescent_Reference3Ideal := fun m ρ _ =>
  (θ_run (Cert.Reference3Ideal.defs (F := Ideal)) _ _).mono (fun r h => ⟨fun c => (h c).2.2.2.2, sem_eq_zero_of_no_sems (by decide) r.2⟩)
    (Cert.Reference3Ideal.Value.run (F := Ideal) m ρ)

/-- Where the reference's sum of the same arguments is the stream, its norm is the columns. -/
theorem columns_eq (A : Mat 8192 4096) (B : Mat 4096 4096) (H : Mat 8192 4096) (g : (⟨1, ![4096]⟩ : Shape).Idx → EReal) (t : Fin 8192) (j : Fin 4096) :
    Ref.refNorm (Ref.refSum A B H) g (ix2 t j) = normed (added H A B) (fun d => g (ix1 d)) t j :=
  (congrArg (fun X => Ref.refNorm X g (ix2 t j)) (Ref.refSum_eq A B H)).trans (Ref.refNorm_apply _ g t j)

/-- So its transposed norm is the columns too. -/
theorem turned_eq (A : Mat 8192 4096) (B : Mat 4096 4096) (H : Mat 8192 4096) (g : (⟨1, ![4096]⟩ : Shape).Idx → EReal) :
    Ref.refTurn (Ref.refNorm (Ref.refSum A B H) g) = fun y => normed (added H A B) (fun d => g (ix1 d)) (y 1) (y 0) := by
  funext y
  have hy : y = ix2 (y 0) (y 1) := Shape.idx_ext₂ rfl rfl
  exact (congrArg (Ref.refTurn _) hy).trans ((Ref.refTurn_apply _ (y 0) (y 1)).trans (columns_eq A B H g (y 1) (y 0)))

/-- The reference's scores of the normalised stream are the kernel's scores of its columns. -/
theorem scores_eq (T : FVec Ideal Cert.Reference3Ideal.S8192x4096 .f32) (N : Mat 4096 8192) (hT : ∀ t d, T (ix2 t d) = N (ix2 d t)) (W : Mat 4096 4096)
    (K : Cert.Reference3Ideal.S8x2x128x256.Idx → EReal) : Ref.refScore T W K = scoreAt N W K := by
  funext y
  have hy : y = ix4 (y 0) (y 1) (y 2) (y 3) := funext fun a => by fin_cases a <;> rfl
  refine (congrArg (Ref.refScore T W K) hy).trans ((Ref.refScore_apply T W K (y 0) (y 1) (y 2) (y 3)).trans ?_)
  refine sum_of_terms fun k => congrArg (K (ix4 (y 0) (y 1) (y 2) k) * ·) (sum_of_terms fun d => ?_)
  exact (congrArg (· * _) (hT (y 3) d)).trans (mul_comm _ _)

/-- From memories that agree on the arguments, the three calls and their reference both run to the end, with the same four
    results, and change no argument. -/
theorem algebraic : Cert.algebraic_Kernel3Ideal_Reference3Ideal := by
  intro m g m' g' _ hm
  refine ⟨fun c => stream m c, fun c => columns m c,
    fun c => scoreAt (columns m c) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => m ((c.tc : Thread Cert.Kernel3Ideal.nD Cert.Kernel3Ideal.τ).loc Cert.Kernel3Ideal.main_arg6), ?_, ?_⟩
  · refine (θ_run (Cert.Kernel3Ideal.defs (F := Ideal)) _ _).mono (fun r h c => ?_) (run_values m g)
    obtain ⟨h0, h1, h2, h3, ha⟩ := h.1 c
    exact ⟨h0.trans (stream_4 m g c), h1.trans (columns_4 m g c), h2.trans (scores_4 m g c), h3.trans (table_4 m g c), ha⟩
  · refine (θ_run (Cert.Reference3Ideal.defs (F := Ideal)) _ _).mono (fun r h c => ?_) (Cert.Reference3Ideal.Value.run (F := Ideal) m' g')
    obtain ⟨h0, h1, h2, h3, ha⟩ := h c
    obtain ⟨a0, a1, a2, a3, a4, a5, a6⟩ := hm c
    refine ⟨h0.trans ?_, h1.trans ?_, h2.trans ?_, h3.trans a6, ha⟩
    · rw [a0, a1, a2]
      exact Ref.refSum_eq _ _ _
    · rw [a0, a1, a2, a3]
      exact turned_eq _ _ _ _
    · rw [a0, a1, a2, a3, a4, a5]
      refine scores_eq (Ref.refNorm (Ref.refSum _ _ _) _) (columns m c) (fun t d => ?_) _ _
      exact columns_eq _ _ _ _ t d

end Cert.Proof.Close

end
-- ==== Proof.Mix.Math.lean ====
/- The mathematics of the spatial gating and of the two norms that end it: the rows of a chunk of 128 positions mixed by a lower
   triangular matrix, a group of 128 channels at a time, and each branch's row divided by the root of its mean square. -/
module

public import proofs.«01_k».proof.Proof.Layer.Math

@[expose] public section

noncomputable section

namespace Cert.Proof.Mix

open Idealize.ShloMosaic Cert.Proof.Layer
open scoped BigOperators

/-- The width of a branch, as the programs write it. -/
abbrev half : EReal := FloatOps.ofBits (F := Ideal) .f32 0x45000000#32

/-- The lower triangle of a matrix. -/
def lower (w : Fin 128 → Fin 128 → EReal) (t s : Fin 128) : EReal := if s.val ≤ t.val then w t s else 0

/-- A channel's group, -/
def grp (j : Fin 2048) : Fin 16 := ⟨j.val / 128, by omega⟩
/-- its place in the group, -/
def lane (j : Fin 2048) : Fin 128 := ⟨j.val % 128, by omega⟩
/-- and the channel at a place of a group. -/
def col (g : Fin 16) (l : Fin 128) : Fin 2048 := ⟨g.val * 128 + l.val, by omega⟩

/-- A position's place in its chunk, -/
def pos {n : ℕ} (R : Fin n) : Fin 128 := ⟨R.val % 128, by omega⟩
/-- and the position at a place of the same chunk. -/
def sameChunk {n : ℕ} (hn : n % 128 = 0) (R : Fin n) (s : Fin 128) : Fin n := ⟨R.val / 128 * 128 + s.val, by omega⟩

/-- The left half of a row, -/
def lo (j : Fin 2048) : Fin 4096 := ⟨j.val, by omega⟩
/-- and the right half. -/
def hi (j : Fin 2048) : Fin 4096 := ⟨2048 + j.val, by omega⟩

variable {n : ℕ} (hn : n % 128 = 0)

/-- The gated rows: the left half of the row, times the mix of the chunk's normed right halves plus an offset. -/
def gated (UV : Mat n 4096) (G : Fin 2048 → EReal) (W : Fin 16 → Fin 128 → Fin 128 → EReal) (B : Fin 16 → Fin 128 → Fin 128 → EReal)
    (R : Fin n) (j : Fin 2048) : EReal :=
  UV (ix2 R (lo j)) * ((∑ s : Fin 128, lower (W (grp j)) (pos R) s *
    (unit headWidth (fun i => UV (ix2 (sameChunk hn R s) (hi (col (grp j) i)))) (lane j) * G j)) + B (grp j) (pos R) (lane j))

/-- The result: a row of the attention branch and the gated row, each over its root mean square, times its gains. -/
def closing (X : Mat n 2048) (UV : Mat n 4096) (G : Fin 2048 → EReal) (W : Fin 16 → Fin 128 → Fin 128 → EReal) (B : Fin 16 → Fin 128 → Fin 128 → EReal)
    (gx gs : Fin 2048 → EReal) (R : Fin n) (J : Fin 4096) : EReal :=
  if h : J.val < 2048 then unit half (fun d => X (ix2 R d)) ⟨J.val, h⟩ * gx ⟨J.val, h⟩
  else unit half (gated hn UV G W B R) ⟨J.val - 2048, by omega⟩ * gs ⟨J.val - 2048, by omega⟩

/-- Results of equal rows are equal. -/
theorem closing_congr {n' : ℕ} (hn' : n' % 128 = 0) {X : Mat n 2048} {X' : Mat n' 2048} {UV : Mat n 4096} {UV' : Mat n' 4096} {G G' : Fin 2048 → EReal}
    {W W' : Fin 16 → Fin 128 → Fin 128 → EReal} {B B' : Fin 16 → Fin 128 → Fin 128 → EReal} {gx gx' gs gs' : Fin 2048 → EReal} {R : Fin n} {R' : Fin n'} (J : Fin 4096)
    (hR : R.val % 128 = R'.val % 128) (hX : ∀ d, X (ix2 R d) = X' (ix2 R' d)) (hU : ∀ d, UV (ix2 R d) = UV' (ix2 R' d))
    (hC : ∀ s d, UV (ix2 (sameChunk hn R s) d) = UV' (ix2 (sameChunk hn' R' s) d)) (hG : ∀ j, G j = G' j) (hW : ∀ g t s, W g t s = W' g t s)
    (hB : ∀ g t l, B g t l = B' g t l) (hx : ∀ j, gx j = gx' j) (hs : ∀ j, gs j = gs' j) :
    closing hn X UV G W B gx gs R J = closing hn' X' UV' G' W' B' gx' gs' R' J := by
  have hp : pos R = pos R' := Fin.ext hR
  obtain rfl : G = G' := funext hG
  obtain rfl : W = W' := funext fun g => funext fun t => funext (hW g t)
  obtain rfl : B = B' := funext fun g => funext fun t => funext (hB g t)
  obtain rfl : gx = gx' := funext hx
  obtain rfl : gs = gs' := funext hs
  have hg : gated hn UV G W B R = gated hn' UV' G W B R' := funext fun j => by
    unfold gated
    rw [hp, hU]
    simp only [hC]
  unfold closing
  rw [hg, funext hX]

/-- A sum over the channels, group by group. -/
theorem sum_groups (f : Fin 2048 → EReal) : ∑ j, f j = ∑ g : Fin 16, ∑ l : Fin 128, f (col g l) := by
  rw [← Fintype.sum_prod_type' (f := fun (g : Fin 16) (l : Fin 128) => f (col g l))]
  exact (Fintype.sum_equiv (finProdFinEquiv (m := 16) (n := 128)) _ _ fun x => congrArg f (Fin.ext (by
    show x.1.val * 128 + x.2.val = x.2.val + 128 * x.1.val
    omega))).symm

/-- Sixteen terms added one after another to zero are their sum. -/
theorem sum_sixteen (S : Fin 16 → EReal) :
    (((((((((((((((((0 : EReal) + S 0) + S 1) + S 2) + S 3) + S 4) + S 5) + S 6) + S 7) + S 8) + S 9) + S 10) + S 11) + S 12) + S 13) + S 14) + S 15) = ∑ g, S g := by
  simp only [Fin.sum_univ_castSucc, Fin.sum_univ_zero]
  rfl

/-- A channel is the one at its place of its group. -/
theorem col_grp (j : Fin 2048) : col (grp j) (lane j) = j := Fin.ext (by
  show j.val / 128 * 128 + j.val % 128 = j.val
  omega)

theorem grp_col (g : Fin 16) (l : Fin 128) : grp (col g l) = g := Fin.ext (by
  show (g.val * 128 + l.val) / 128 = g.val
  omega)

theorem lane_col (g : Fin 16) (l : Fin 128) : lane (col g l) = l := Fin.ext (by
  show (g.val * 128 + l.val) % 128 = l.val
  omega)

end Cert.Proof.Mix

end
-- ==== Proof.Mix.Chunk.lean ====
/- One chunk of the kernel's body, as a function of the windows' blocks: what a chunk stores of the attention branch
   (`leftPart`), the sixteen groups of the gated branch (`tile`, `tile0` … `tile15`), their running sums of squares
   (`ssq0` … `ssq14`), the gated rows (`rows`) and what a chunk stores of them (`rightPart`). -/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Proof.Mix

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles -/

/-- The rows of chunk `k` in the attention's block. -/
abbrev rL (k : Fin k0_t1_loop.trips) : Rect S512x2048 := Rect.unit (s := S512x2048) (k0_off1 k) S128x2048.size (k0_off1_inb k)
/-- The rows of chunk `k`, left half, in the result's block. -/
abbrev rOL (k : Fin k0_t1_loop.trips) : Rect S512x4096 := Rect.unit (s := S512x4096) (k0_off2 k) S128x2048.size (k0_off2_inb k)
/-- The rows of chunk `k`, right half, in the result's block. -/
abbrev rOR (k : Fin k0_t1_loop.trips) : Rect S512x4096 := Rect.unit (s := S512x4096) (k0_off35 k) S128x2048.size (k0_off35_inb k)
/-- A whole row of gains. -/
abbrev rRow : Rect S1x2048 := Rect.unit (s := S1x2048) ![0, 0] S1x2048.size inb_S1x2048_S1x2048_0_0
/-- The whole of the gated rows. -/
abbrev rRows : Rect S128x2048 := Rect.unit (s := S128x2048) ![0, 0] S128x2048.size inb_S128x2048_S128x2048_0_0

/-- Group 0 of the gate's rows of chunk `k`. -/
abbrev rV0 (k : Fin k0_t1_loop.trips) : Rect S512x4096 := Rect.unit (s := S512x4096) (k0_off3 k) S128x128.size (k0_off3_inb k)
/-- Group 0 of the gated rows of chunk `k`. -/
abbrev rU0 (k : Fin k0_t1_loop.trips) : Rect S512x4096 := Rect.unit (s := S512x4096) (k0_off4 k) S128x128.size (k0_off4_inb k)
/-- Group 0 of a row of gains. -/
abbrev rG0 : Rect S1x2048 := Rect.unit (s := S1x2048) ![0, 0] S1x128.size inb_S1x2048_S1x128_0_0
/-- Group 0's matrix (or its offsets). -/
abbrev rW0 : Rect S16x128x128 := Rect.unit (s := S16x128x128) ![0, 0, 0] S1x128x128.size inb_S16x128x128_S1x128x128_0_0_0
/-- Group 0's columns of the gated rows. -/
abbrev rT0 : Rect S128x2048 := Rect.unit (s := S128x2048) ![0, 0] S128x128.size inb_S128x2048_S128x128_0_0
/-- Group 1 of the gate's rows of chunk `k`. -/
abbrev rV1 (k : Fin k0_t1_loop.trips) : Rect S512x4096 := Rect.unit (s := S512x4096) (k0_off5 k) S128x128.size (k0_off5_inb k)
/-- Group 1 of the gated rows of chunk `k`. -/
abbrev rU1 (k : Fin k0_t1_loop.trips) : Rect S512x4096 := Rect.unit (s := S512x4096) (k0_off6 k) S128x128.size (k0_off6_inb k)
/-- Group 1 of a row of gains. -/
abbrev rG1 : Rect S1x2048 := Rect.unit (s := S1x2048) ![0, 128] S1x128.size inb_S1x2048_S1x128_0_128
/-- Group 1's matrix (or its offsets). -/
abbrev rW1 : Rect S16x128x128 := Rect.unit (s := S16x128x128) ![1, 0, 0] S1x128x128.size inb_S16x128x128_S1x128x128_1_0_0
/-- Group 1's columns of the gated rows. -/
abbrev rT1 : Rect S128x2048 := Rect.unit (s := S128x2048) ![0, 128] S128x128.size inb_S128x2048_S128x128_0_128
/-- Group 2 of the gate's rows of chunk `k`. -/
abbrev rV2 (k : Fin k0_t1_loop.trips) : Rect S512x4096 := Rect.unit (s := S512x4096) (k0_off7 k) S128x128.size (k0_off7_inb k)
/-- Group 2 of the gated rows of chunk `k`. -/
abbrev rU2 (k : Fin k0_t1_loop.trips) : Rect S512x4096 := Rect.unit (s := S512x4096) (k0_off8 k) S128x128.size (k0_off8_inb k)
/-- Group 2 of a row of gains. -/
abbrev rG2 : Rect S1x2048 := Rect.unit (s := S1x2048) ![0, 256] S1x128.size inb_S1x2048_S1x128_0_256
/-- Group 2's matrix (or its offsets). -/
abbrev rW2 : Rect S16x128x128 := Rect.unit (s := S16x128x128) ![2, 0, 0] S1x128x128.size inb_S16x128x128_S1x128x128_2_0_0
/-- Group 2's columns of the gated rows. -/
abbrev rT2 : Rect S128x2048 := Rect.unit (s := S128x2048) ![0, 256] S128x128.size inb_S128x2048_S128x128_0_256
/-- Group 3 of the gate's rows of chunk `k`. -/
abbrev rV3 (k : Fin k0_t1_loop.trips) : Rect S512x4096 := Rect.unit (s := S512x4096) (k0_off9 k) S128x128.size (k0_off9_inb k)
/-- Group 3 of the gated rows of chunk `k`. -/
abbrev rU3 (k : Fin k0_t1_loop.trips) : Rect S512x4096 := Rect.unit (s := S512x4096) (k0_off10 k) S128x128.size (k0_off10_inb k)
/-- Group 3 of a row of gains. -/
abbrev rG3 : Rect S1x2048 := Rect.unit (s := S1x2048) ![0, 384] S1x128.size inb_S1x2048_S1x128_0_384
/-- Group 3's matrix (or its offsets). -/
abbrev rW3 : Rect S16x128x128 := Rect.unit (s := S16x128x128) ![3, 0, 0] S1x128x128.size inb_S16x128x128_S1x128x128_3_0_0
/-- Group 3's columns of the gated rows. -/
abbrev rT3 : Rect S128x2048 := Rect.unit (s := S128x2048) ![0, 384] S128x128.size inb_S128x2048_S128x128_0_384
/-- Group 4 of the gate's rows of chunk `k`. -/
abbrev rV4 (k : Fin k0_t1_loop.trips) : Rect S512x4096 := Rect.unit (s := S512x4096) (k0_off11 k) S128x128.size (k0_off11_inb k)
/-- Group 4 of the gated rows of chunk `k`. -/
abbrev rU4 (k : Fin k0_t1_loop.trips) : Rect S512x4096 := Rect.unit (s := S512x4096) (k0_off12 k) S128x128.size (k0_off12_inb k)
/-- Group 4 of a row of gains. -/
abbrev rG4 : Rect S1x2048 := Rect.unit (s := S1x2048) ![0, 512] S1x128.size inb_S1x2048_S1x128_0_512
/-- Group 4's matrix (or its offsets). -/
abbrev rW4 : Rect S16x128x128 := Rect.unit (s := S16x128x128) ![4, 0, 0] S1x128x128.size inb_S16x128x128_S1x128x128_4_0_0
/-- Group 4's columns of the gated rows. -/
abbrev rT4 : Rect S128x2048 := Rect.unit (s := S128x2048) ![0, 512] S128x128.size inb_S128x2048_S128x128_0_512
/-- Group 5 of the gate's rows of chunk `k`. -/
abbrev rV5 (k : Fin k0_t1_loop.trips) : Rect S512x4096 := Rect.unit (s := S512x4096) (k0_off13 k) S128x128.size (k0_off13_inb k)
/-- Group 5 of the gated rows of chunk `k`. -/
abbrev rU5 (k : Fin k0_t1_loop.trips) : Rect S512x4096 := Rect.unit (s := S512x4096) (k0_off14 k) S128x128.size (k0_off14_inb k)
/-- Group 5 of a row of gains. -/
abbrev rG5 : Rect S1x2048 := Rect.unit (s := S1x2048) ![0, 640] S1x128.size inb_S1x2048_S1x128_0_640
/-- Group 5's matrix (or its offsets). -/
abbrev rW5 : Rect S16x128x128 := Rect.unit (s := S16x128x128) ![5, 0, 0] S1x128x128.size inb_S16x128x128_S1x128x128_5_0_0
/-- Group 5's columns of the gated rows. -/
abbrev rT5 : Rect S128x2048 := Rect.unit (s := S128x2048) ![0, 640] S128x128.size inb_S128x2048_S128x128_0_640
/-- Group 6 of the gate's rows of chunk `k`. -/
abbrev rV6 (k : Fin k0_t1_loop.trips) : Rect S512x4096 := Rect.unit (s := S512x4096) (k0_off15 k) S128x128.size (k0_off15_inb k)
/-- Group 6 of the gated rows of chunk `k`. -/
abbrev rU6 (k : Fin k0_t1_loop.trips) : Rect S512x4096 := Rect.unit (s := S512x4096) (k0_off16 k) S128x128.size (k0_off16_inb k)
/-- Group 6 of a row of gains. -/
abbrev rG6 : Rect S1x2048 := Rect.unit (s := S1x2048) ![0, 768] S1x128.size inb_S1x2048_S1x128_0_768
/-- Group 6's matrix (or its offsets). -/
abbrev rW6 : Rect S16x128x128 := Rect.unit (s := S16x128x128) ![6, 0, 0] S1x128x128.size inb_S16x128x128_S1x128x128_6_0_0
/-- Group 6's columns of the gated rows. -/
abbrev rT6 : Rect S128x2048 := Rect.unit (s := S128x2048) ![0, 768] S128x128.size inb_S128x2048_S128x128_0_768
/-- Group 7 of the gate's rows of chunk `k`. -/
abbrev rV7 (k : Fin k0_t1_loop.trips) : Rect S512x4096 := Rect.unit (s := S512x4096) (k0_off17 k) S128x128.size (k0_off17_inb k)
/-- Group 7 of the gated rows of chunk `k`. -/
abbrev rU7 (k : Fin k0_t1_loop.trips) : Rect S512x4096 := Rect.unit (s := S512x4096) (k0_off18 k) S128x128.size (k0_off18_inb k)
/-- Group 7 of a row of gains. -/
abbrev rG7 : Rect S1x2048 := Rect.unit (s := S1x2048) ![0, 896] S1x128.size inb_S1x2048_S1x128_0_896
/-- Group 7's matrix (or its offsets). -/
abbrev rW7 : Rect S16x128x128 := Rect.unit (s := S16x128x128) ![7, 0, 0] S1x128x128.size inb_S16x128x128_S1x128x128_7_0_0
/-- Group 7's columns of the gated rows. -/
abbrev rT7 : Rect S128x2048 := Rect.unit (s := S128x2048) ![0, 896] S128x128.size inb_S128x2048_S128x128_0_896
/-- Group 8 of the gate's rows of chunk `k`. -/
abbrev rV8 (k : Fin k0_t1_loop.trips) : Rect S512x4096 := Rect.unit (s := S512x4096) (k0_off19 k) S128x128.size (k0_off19_inb k)
/-- Group 8 of the gated rows of chunk `k`. -/
abbrev rU8 (k : Fin k0_t1_loop.trips) : Rect S512x4096 := Rect.unit (s := S512x4096) (k0_off20 k) S128x128.size (k0_off20_inb k)
/-- Group 8 of a row of gains. -/
abbrev rG8 : Rect S1x2048 := Rect.unit (s := S1x2048) ![0, 1024] S1x128.size inb_S1x2048_S1x128_0_1024
/-- Group 8's matrix (or its offsets). -/
abbrev rW8 : Rect S16x128x128 := Rect.unit (s := S16x128x128) ![8, 0, 0] S1x128x128.size inb_S16x128x128_S1x128x128_8_0_0
/-- Group 8's columns of the gated rows. -/
abbrev rT8 : Rect S128x2048 := Rect.unit (s := S128x2048) ![0, 1024] S128x128.size inb_S128x2048_S128x128_0_1024
/-- Group 9 of the gate's rows of chunk `k`. -/
abbrev rV9 (k : Fin k0_t1_loop.trips) : Rect S512x4096 := Rect.unit (s := S512x4096) (k0_off21 k) S128x128.size (k0_off21_inb k)
/-- Group 9 of the gated rows of chunk `k`. -/
abbrev rU9 (k : Fin k0_t1_loop.trips) : Rect S512x4096 := Rect.unit (s := S512x4096) (k0_off22 k) S128x128.size (k0_off22_inb k)
/-- Group 9 of a row of gains. -/
abbrev rG9 : Rect S1x2048 := Rect.unit (s := S1x2048) ![0, 1152] S1x128.size inb_S1x2048_S1x128_0_1152
/-- Group 9's matrix (or its offsets). -/
abbrev rW9 : Rect S16x128x128 := Rect.unit (s := S16x128x128) ![9, 0, 0] S1x128x128.size inb_S16x128x128_S1x128x128_9_0_0
/-- Group 9's columns of the gated rows. -/
abbrev rT9 : Rect S128x2048 := Rect.unit (s := S128x2048) ![0, 1152] S128x128.size inb_S128x2048_S128x128_0_1152
/-- Group 10 of the gate's rows of chunk `k`. -/
abbrev rV10 (k : Fin k0_t1_loop.trips) : Rect S512x4096 := Rect.unit (s := S512x4096) (k0_off23 k) S128x128.size (k0_off23_inb k)
/-- Group 10 of the gated rows of chunk `k`. -/
abbrev rU10 (k : Fin k0_t1_loop.trips) : Rect S512x4096 := Rect.unit (s := S512x4096) (k0_off24 k) S128x128.size (k0_off24_inb k)
/-- Group 10 of a row of gains. -/
abbrev rG10 : Rect S1x2048 := Rect.unit (s := S1x2048) ![0, 1280] S1x128.size inb_S1x2048_S1x128_0_1280
/-- Group 10's matrix (or its offsets). -/
abbrev rW10 : Rect S16x128x128 := Rect.unit (s := S16x128x128) ![10, 0, 0] S1x128x128.size inb_S16x128x128_S1x128x128_10_0_0
/-- Group 10's columns of the gated rows. -/
abbrev rT10 : Rect S128x2048 := Rect.unit (s := S128x2048) ![0, 1280] S128x128.size inb_S128x2048_S128x128_0_1280
/-- Group 11 of the gate's rows of chunk `k`. -/
abbrev rV11 (k : Fin k0_t1_loop.trips) : Rect S512x4096 := Rect.unit (s := S512x4096) (k0_off25 k) S128x128.size (k0_off25_inb k)
/-- Group 11 of the gated rows of chunk `k`. -/
abbrev rU11 (k : Fin k0_t1_loop.trips) : Rect S512x4096 := Rect.unit (s := S512x4096) (k0_off26 k) S128x128.size (k0_off26_inb k)
/-- Group 11 of a row of gains. -/
abbrev rG11 : Rect S1x2048 := Rect.unit (s := S1x2048) ![0, 1408] S1x128.size inb_S1x2048_S1x128_0_1408
/-- Group 11's matrix (or its offsets). -/
abbrev rW11 : Rect S16x128x128 := Rect.unit (s := S16x128x128) ![11, 0, 0] S1x128x128.size inb_S16x128x128_S1x128x128_11_0_0
/-- Group 11's columns of the gated rows. -/
abbrev rT11 : Rect S128x2048 := Rect.unit (s := S128x2048) ![0, 1408] S128x128.size inb_S128x2048_S128x128_0_1408
/-- Group 12 of the gate's rows of chunk `k`. -/
abbrev rV12 (k : Fin k0_t1_loop.trips) : Rect S512x4096 := Rect.unit (s := S512x4096) (k0_off27 k) S128x128.size (k0_off27_inb k)
/-- Group 12 of the gated rows of chunk `k`. -/
abbrev rU12 (k : Fin k0_t1_loop.trips) : Rect S512x4096 := Rect.unit (s := S512x4096) (k0_off28 k) S128x128.size (k0_off28_inb k)
/-- Group 12 of a row of gains. -/
abbrev rG12 : Rect S1x2048 := Rect.unit (s := S1x2048) ![0, 1536] S1x128.size inb_S1x2048_S1x128_0_1536
/-- Group 12's matrix (or its offsets). -/
abbrev rW12 : Rect S16x128x128 := Rect.unit (s := S16x128x128) ![12, 0, 0] S1x128x128.size inb_S16x128x128_S1x128x128_12_0_0
/-- Group 12's columns of the gated rows. -/
abbrev rT12 : Rect S128x2048 := Rect.unit (s := S128x2048) ![0, 1536] S128x128.size inb_S128x2048_S128x128_0_1536
/-- Group 13 of the gate's rows of chunk `k`. -/
abbrev rV13 (k : Fin k0_t1_loop.trips) : Rect S512x4096 := Rect.unit (s := S512x4096) (k0_off29 k) S128x128.size (k0_off29_inb k)
/-- Group 13 of the gated rows of chunk `k`. -/
abbrev rU13 (k : Fin k0_t1_loop.trips) : Rect S512x4096 := Rect.unit (s := S512x4096) (k0_off30 k) S128x128.size (k0_off30_inb k)
/-- Group 13 of a row of gains. -/
abbrev rG13 : Rect S1x2048 := Rect.unit (s := S1x2048) ![0, 1664] S1x128.size inb_S1x2048_S1x128_0_1664
/-- Group 13's matrix (or its offsets). -/
abbrev rW13 : Rect S16x128x128 := Rect.unit (s := S16x128x128) ![13, 0, 0] S1x128x128.size inb_S16x128x128_S1x128x128_13_0_0
/-- Group 13's columns of the gated rows. -/
abbrev rT13 : Rect S128x2048 := Rect.unit (s := S128x2048) ![0, 1664] S128x128.size inb_S128x2048_S128x128_0_1664
/-- Group 14 of the gate's rows of chunk `k`. -/
abbrev rV14 (k : Fin k0_t1_loop.trips) : Rect S512x4096 := Rect.unit (s := S512x4096) (k0_off31 k) S128x128.size (k0_off31_inb k)
/-- Group 14 of the gated rows of chunk `k`. -/
abbrev rU14 (k : Fin k0_t1_loop.trips) : Rect S512x4096 := Rect.unit (s := S512x4096) (k0_off32 k) S128x128.size (k0_off32_inb k)
/-- Group 14 of a row of gains. -/
abbrev rG14 : Rect S1x2048 := Rect.unit (s := S1x2048) ![0, 1792] S1x128.size inb_S1x2048_S1x128_0_1792
/-- Group 14's matrix (or its offsets). -/
abbrev rW14 : Rect S16x128x128 := Rect.unit (s := S16x128x128) ![14, 0, 0] S1x128x128.size inb_S16x128x128_S1x128x128_14_0_0
/-- Group 14's columns of the gated rows. -/
abbrev rT14 : Rect S128x2048 := Rect.unit (s := S128x2048) ![0, 1792] S128x128.size inb_S128x2048_S128x128_0_1792
/-- Group 15 of the gate's rows of chunk `k`. -/
abbrev rV15 (k : Fin k0_t1_loop.trips) : Rect S512x4096 := Rect.unit (s := S512x4096) (k0_off33 k) S128x128.size (k0_off33_inb k)
/-- Group 15 of the gated rows of chunk `k`. -/
abbrev rU15 (k : Fin k0_t1_loop.trips) : Rect S512x4096 := Rect.unit (s := S512x4096) (k0_off34 k) S128x128.size (k0_off34_inb k)
/-- Group 15 of a row of gains. -/
abbrev rG15 : Rect S1x2048 := Rect.unit (s := S1x2048) ![0, 1920] S1x128.size inb_S1x2048_S1x128_0_1920
/-- Group 15's matrix (or its offsets). -/
abbrev rW15 : Rect S16x128x128 := Rect.unit (s := S16x128x128) ![15, 0, 0] S1x128x128.size inb_S16x128x128_S1x128x128_15_0_0
/-- Group 15's columns of the gated rows. -/
abbrev rT15 : Rect S128x2048 := Rect.unit (s := S128x2048) ![0, 1920] S128x128.size inb_S128x2048_S128x128_0_1920

/-! ## One group -/

/-- A group's mix: the lower triangle of the group's matrix times the group's normed gate, plus the group's offsets. -/
def mix (v : Vec F S128x128 .f32) (gain : Vec F S1x128 .f32) (w b : Vec F S1x128x128 .f32) : FVec F S128x128 .f32 :=
  k0_pay68 k0_pay1 v gain w b
/-- A group of the gated rows: the rows times the group's mix. -/
def tile (v : Vec F S128x128 .f32) (gain : Vec F S1x128 .f32) (w b : Vec F S1x128x128 .f32) (u : Vec F S128x128 .f32) : FVec F S128x128 .f32 :=
  k0_pay2 (mix v gain w b) u
/-- A group as it is stored. -/
def stored (t : FVec F S128x128 .f32) : FVec F S128x128 .f32 := shapeCast S128x128 t shapeCasts_S128x128_S128x128
/-- A running sum of squares with a group's squares added. -/
def sq (p : FVec F S128x1 .f32) (t : FVec F S128x128 .f32) : FVec F S128x1 .f32 :=
  addf p (shapeCast S128x1 (multiReduction .add [1] S128 (mulf t t) 0x00000000#32 reduces_S128x128_S128 (.inl rfl) rfl) shapeCasts_S128_S128x1)

/-! ## One chunk -/

section Chunk

variable (x1 : Vec F S512x2048 .f32) (x2 : Vec F S512x4096 .f32) (x3 x4 : Vec F S16x128x128 .f32) (x5 x6 x7 : Vec F S1x2048 .f32)
  (k : Fin k0_t1_loop.trips)

/-- What chunk `k` stores of the attention branch. -/
def leftPart : FVec F S128x2048 .bf16 := k0_pay5 (View.ld x1 (rL k)) (View.ld x6 rRow)

/-- Group 0 of the gated rows of chunk `k`. -/
def tile0 : FVec F S128x128 .f32 := tile (View.ld x2 (rV0 k)) (View.ld x5 rG0) (View.ld x3 rW0) (View.ld x4 rW0) (View.ld x2 (rU0 k))
/-- Group 1 of the gated rows of chunk `k`. -/
def tile1 : FVec F S128x128 .f32 := tile (View.ld x2 (rV1 k)) (View.ld x5 rG1) (View.ld x3 rW1) (View.ld x4 rW1) (View.ld x2 (rU1 k))
/-- Group 2 of the gated rows of chunk `k`. -/
def tile2 : FVec F S128x128 .f32 := tile (View.ld x2 (rV2 k)) (View.ld x5 rG2) (View.ld x3 rW2) (View.ld x4 rW2) (View.ld x2 (rU2 k))
/-- Group 3 of the gated rows of chunk `k`. -/
def tile3 : FVec F S128x128 .f32 := tile (View.ld x2 (rV3 k)) (View.ld x5 rG3) (View.ld x3 rW3) (View.ld x4 rW3) (View.ld x2 (rU3 k))
/-- Group 4 of the gated rows of chunk `k`. -/
def tile4 : FVec F S128x128 .f32 := tile (View.ld x2 (rV4 k)) (View.ld x5 rG4) (View.ld x3 rW4) (View.ld x4 rW4) (View.ld x2 (rU4 k))
/-- Group 5 of the gated rows of chunk `k`. -/
def tile5 : FVec F S128x128 .f32 := tile (View.ld x2 (rV5 k)) (View.ld x5 rG5) (View.ld x3 rW5) (View.ld x4 rW5) (View.ld x2 (rU5 k))
/-- Group 6 of the gated rows of chunk `k`. -/
def tile6 : FVec F S128x128 .f32 := tile (View.ld x2 (rV6 k)) (View.ld x5 rG6) (View.ld x3 rW6) (View.ld x4 rW6) (View.ld x2 (rU6 k))
/-- Group 7 of the gated rows of chunk `k`. -/
def tile7 : FVec F S128x128 .f32 := tile (View.ld x2 (rV7 k)) (View.ld x5 rG7) (View.ld x3 rW7) (View.ld x4 rW7) (View.ld x2 (rU7 k))
/-- Group 8 of the gated rows of chunk `k`. -/
def tile8 : FVec F S128x128 .f32 := tile (View.ld x2 (rV8 k)) (View.ld x5 rG8) (View.ld x3 rW8) (View.ld x4 rW8) (View.ld x2 (rU8 k))
/-- Group 9 of the gated rows of chunk `k`. -/
def tile9 : FVec F S128x128 .f32 := tile (View.ld x2 (rV9 k)) (View.ld x5 rG9) (View.ld x3 rW9) (View.ld x4 rW9) (View.ld x2 (rU9 k))
/-- Group 10 of the gated rows of chunk `k`. -/
def tile10 : FVec F S128x128 .f32 := tile (View.ld x2 (rV10 k)) (View.ld x5 rG10) (View.ld x3 rW10) (View.ld x4 rW10) (View.ld x2 (rU10 k))
/-- Group 11 of the gated rows of chunk `k`. -/
def tile11 : FVec F S128x128 .f32 := tile (View.ld x2 (rV11 k)) (View.ld x5 rG11) (View.ld x3 rW11) (View.ld x4 rW11) (View.ld x2 (rU11 k))
/-- Group 12 of the gated rows of chunk `k`. -/
def tile12 : FVec F S128x128 .f32 := tile (View.ld x2 (rV12 k)) (View.ld x5 rG12) (View.ld x3 rW12) (View.ld x4 rW12) (View.ld x2 (rU12 k))
/-- Group 13 of the gated rows of chunk `k`. -/
def tile13 : FVec F S128x128 .f32 := tile (View.ld x2 (rV13 k)) (View.ld x5 rG13) (View.ld x3 rW13) (View.ld x4 rW13) (View.ld x2 (rU13 k))
/-- Group 14 of the gated rows of chunk `k`. -/
def tile14 : FVec F S128x128 .f32 := tile (View.ld x2 (rV14 k)) (View.ld x5 rG14) (View.ld x3 rW14) (View.ld x4 rW14) (View.ld x2 (rU14 k))
/-- Group 15 of the gated rows of chunk `k`. -/
def tile15 : FVec F S128x128 .f32 := tile (View.ld x2 (rV15 k)) (View.ld x5 rG15) (View.ld x3 rW15) (View.ld x4 rW15) (View.ld x2 (rU15 k))
/-- The sum of squares over group 0. -/
def ssq0 : FVec F S128x1 .f32 := sq k0_pay6 (tile0 x2 x3 x4 x5 k)
/-- The sum of squares up to group 1. -/
def ssq1 : FVec F S128x1 .f32 := sq (ssq0 x2 x3 x4 x5 k) (tile1 x2 x3 x4 x5 k)
/-- The sum of squares up to group 2. -/
def ssq2 : FVec F S128x1 .f32 := sq (ssq1 x2 x3 x4 x5 k) (tile2 x2 x3 x4 x5 k)
/-- The sum of squares up to group 3. -/
def ssq3 : FVec F S128x1 .f32 := sq (ssq2 x2 x3 x4 x5 k) (tile3 x2 x3 x4 x5 k)
/-- The sum of squares up to group 4. -/
def ssq4 : FVec F S128x1 .f32 := sq (ssq3 x2 x3 x4 x5 k) (tile4 x2 x3 x4 x5 k)
/-- The sum of squares up to group 5. -/
def ssq5 : FVec F S128x1 .f32 := sq (ssq4 x2 x3 x4 x5 k) (tile5 x2 x3 x4 x5 k)
/-- The sum of squares up to group 6. -/
def ssq6 : FVec F S128x1 .f32 := sq (ssq5 x2 x3 x4 x5 k) (tile6 x2 x3 x4 x5 k)
/-- The sum of squares up to group 7. -/
def ssq7 : FVec F S128x1 .f32 := sq (ssq6 x2 x3 x4 x5 k) (tile7 x2 x3 x4 x5 k)
/-- The sum of squares up to group 8. -/
def ssq8 : FVec F S128x1 .f32 := sq (ssq7 x2 x3 x4 x5 k) (tile8 x2 x3 x4 x5 k)
/-- The sum of squares up to group 9. -/
def ssq9 : FVec F S128x1 .f32 := sq (ssq8 x2 x3 x4 x5 k) (tile9 x2 x3 x4 x5 k)
/-- The sum of squares up to group 10. -/
def ssq10 : FVec F S128x1 .f32 := sq (ssq9 x2 x3 x4 x5 k) (tile10 x2 x3 x4 x5 k)
/-- The sum of squares up to group 11. -/
def ssq11 : FVec F S128x1 .f32 := sq (ssq10 x2 x3 x4 x5 k) (tile11 x2 x3 x4 x5 k)
/-- The sum of squares up to group 12. -/
def ssq12 : FVec F S128x1 .f32 := sq (ssq11 x2 x3 x4 x5 k) (tile12 x2 x3 x4 x5 k)
/-- The sum of squares up to group 13. -/
def ssq13 : FVec F S128x1 .f32 := sq (ssq12 x2 x3 x4 x5 k) (tile13 x2 x3 x4 x5 k)
/-- The sum of squares up to group 14. -/
def ssq14 : FVec F S128x1 .f32 := sq (ssq13 x2 x3 x4 x5 k) (tile14 x2 x3 x4 x5 k)
/-- The sixteen groups as they are stored, last first. -/
def rowPieces : List (View.Piece (Elt F) S128x2048 .f32) :=
  [⟨rT15, stored (tile15 x2 x3 x4 x5 k)⟩, ⟨rT14, stored (tile14 x2 x3 x4 x5 k)⟩, ⟨rT13, stored (tile13 x2 x3 x4 x5 k)⟩, ⟨rT12, stored (tile12 x2 x3 x4 x5 k)⟩, ⟨rT11, stored (tile11 x2 x3 x4 x5 k)⟩, ⟨rT10, stored (tile10 x2 x3 x4 x5 k)⟩, ⟨rT9, stored (tile9 x2 x3 x4 x5 k)⟩, ⟨rT8, stored (tile8 x2 x3 x4 x5 k)⟩, ⟨rT7, stored (tile7 x2 x3 x4 x5 k)⟩, ⟨rT6, stored (tile6 x2 x3 x4 x5 k)⟩, ⟨rT5, stored (tile5 x2 x3 x4 x5 k)⟩, ⟨rT4, stored (tile4 x2 x3 x4 x5 k)⟩, ⟨rT3, stored (tile3 x2 x3 x4 x5 k)⟩, ⟨rT2, stored (tile2 x2 x3 x4 x5 k)⟩, ⟨rT1, stored (tile1 x2 x3 x4 x5 k)⟩, ⟨rT0, stored (tile0 x2 x3 x4 x5 k)⟩]
/-- The gated rows of chunk `k`. -/
def rows : Vec F S128x2048 .f32 := View.canon (rowPieces x2 x3 x4 x5 k)
/-- What chunk `k` stores of the gated branch, given the gated rows. -/
def rightOf (r : Vec F S128x2048 .f32) : FVec F S128x2048 .bf16 :=
  k0_pay4 (ssq14 x2 x3 x4 x5 k) (mix (View.ld x2 (rV15 k)) (View.ld x5 rG15) (View.ld x3 rW15) (View.ld x4 rW15)) (View.ld x2 (rU15 k)) (View.ld r rRows) (View.ld x7 rRow)
/-- What chunk `k` stores of the gated branch. -/
def rightPart : FVec F S128x2048 .bf16 := rightOf x2 x3 x4 x5 x7 k (rows x2 x3 x4 x5 k)

/-- What the chunks before `n` store, last first. -/
def parts : ℕ → List (View.Piece (Elt F) S512x4096 .bf16)
  | 0 => []
  | n + 1 => if h : n < k0_t1_loop.trips then
      ⟨rOR ⟨n, h⟩, rightPart x2 x3 x4 x5 x7 ⟨n, h⟩⟩ :: ⟨rOL ⟨n, h⟩, leftPart x1 x6 ⟨n, h⟩⟩ :: parts n
    else parts n

/-- What the body leaves in the result's block. -/
def out7 : Vec F S512x4096 .bf16 := View.canon (parts x1 x2 x3 x4 x5 x6 x7 k0_t1_loop.trips)

end Chunk

/-- The sixteen groups cover the gated rows. -/
theorem coverT (p0 p1 p2 p3 p4 p5 p6 p7 p8 p9 p10 p11 p12 p13 p14 p15 : Vec F S128x128 .f32) (y : S128x2048.Idx) :
    ∃ pc ∈ ([⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] : List (View.Piece (Elt F) S128x2048 .f32)), y ∈ pc.1.set :=
  View.cover_of_tiled [⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] S128x128.size (by rfl) y

/-- The loop makes four trips. -/
theorem trips_eq : k0_t1_loop.trips = 4 := by decide

/-- The first chunk, -/
abbrev c0 : Fin k0_t1_loop.trips := ⟨0, by decide⟩
/-- the second, -/
abbrev c1 : Fin k0_t1_loop.trips := ⟨1, by decide⟩
/-- the third -/
abbrev c2 : Fin k0_t1_loop.trips := ⟨2, by decide⟩
/-- and the last. -/
abbrev c3 : Fin k0_t1_loop.trips := ⟨3, by decide⟩

set_option maxHeartbeats 1000000 in
/-- The four chunks' halves cover the result's block. -/
theorem coverO (l0 r0 l1 r1 l2 r2 l3 r3 : Vec F S128x2048 .bf16) (y : S512x4096.Idx) :
    ∃ pc ∈ ([⟨rOR c3, r3⟩, ⟨rOL c3, l3⟩, ⟨rOR c2, r2⟩, ⟨rOL c2, l2⟩, ⟨rOR c1, r1⟩, ⟨rOL c1, l1⟩, ⟨rOR c0, r0⟩, ⟨rOL c0, l0⟩] : List (View.Piece (Elt F) S512x4096 .bf16)), y ∈ pc.1.set :=
  View.cover_of_tiledL (s := S512x4096) (Val := Elt F) (e := .bf16) _ S128x2048.size (by sl_kernel_rfl) y

/-- All the parts: the four chunks' halves, last first. -/
theorem parts_all (x1 : Vec F S512x2048 .f32) (x2 : Vec F S512x4096 .f32) (x3 x4 : Vec F S16x128x128 .f32) (x5 x6 x7 : Vec F S1x2048 .f32) :
    parts x1 x2 x3 x4 x5 x6 x7 k0_t1_loop.trips
      = [⟨rOR c3, rightPart x2 x3 x4 x5 x7 c3⟩, ⟨rOL c3, leftPart x1 x6 c3⟩, ⟨rOR c2, rightPart x2 x3 x4 x5 x7 c2⟩, ⟨rOL c2, leftPart x1 x6 c2⟩,
        ⟨rOR c1, rightPart x2 x3 x4 x5 x7 c1⟩, ⟨rOL c1, leftPart x1 x6 c1⟩, ⟨rOR c0, rightPart x2 x3 x4 x5 x7 c0⟩, ⟨rOL c0, leftPart x1 x6 c0⟩] := by
  rw [show parts x1 x2 x3 x4 x5 x6 x7 k0_t1_loop.trips = parts x1 x2 x3 x4 x5 x6 x7 4 from congrArg _ trips_eq]
  rw [parts, dif_pos c3.isLt, parts, dif_pos c2.isLt, parts, dif_pos c1.isLt, parts, dif_pos c0.isLt, parts]

end Cert.Proof.Mix

end
-- ==== Proof.Mix.Blocks.lean ====
/- The kernel's vector operations at the extended reals, read at an index: a group's mix, a running sum of squares, and the two
   halves a chunk stores. -/
module

public import proofs.«01_k».proof.Proof.Mix.Math
public import proofs.«01_k».proof.Proof.Mix.Chunk
public import Idealize.ShloMosaic.Lib.Pointwise
public import Idealize.ShloMosaic.Lib.WordCmp
public import Idealize.ShloMosaic.Lib.Pipeline.ValueKit
public import Idealize.ShloMosaic.Lib.Pipeline.ValueKit.Tiles

@[expose] public section

noncomputable section

namespace Cert.Proof.Mix

open Cert.Kernel4Ideal Cert.Kernel4Ideal.Gen Cert.Proof.Layer
open Idealize.ShloMosaic
open scoped BigOperators

/-- The mask of the lower triangle. -/
theorem mask_apply (t s : Fin 128) : k0_pay1 (ix2 t s) = BitVec.ofBool (decide (s.val ≤ t.val)) := by
  unfold k0_pay1
  pointwise
  rw [WordCmp.cmpi_sle_ofNat (by omega) (by omega)]

/-- A group's mix, entry by entry. -/
theorem mix_apply (v : FVec Ideal S128x128 .f32) (g : FVec Ideal S1x128 .f32) (w b : FVec Ideal S1x128x128 .f32) (t l : Fin 128) :
    mix (F := Ideal) v g w b (ix2 t l)
      = (∑ s : Fin 128, lower (fun t s => w (ix3 0 t s)) t s * (unit headWidth (fun i => v (ix2 s i)) l * g (ix2 0 l))) + b (ix3 0 t l) := by
  unfold mix k0_pay68
  pointwise
  simp only [mask_apply]
  refine congrArg (· + _) (sum_of_terms fun s => ?_)
  unfold lower
  by_cases h : s.val ≤ t.val
  · rw [decide_eq_true h, if_pos h]; rfl
  · rw [decide_eq_false h, if_neg h, zero_mul]; rfl

/-- A group of the gated rows, entry by entry. -/
theorem tile_apply (v : FVec Ideal S128x128 .f32) (g : FVec Ideal S1x128 .f32) (w b : FVec Ideal S1x128x128 .f32) (u : FVec Ideal S128x128 .f32) (t l : Fin 128) :
    tile (F := Ideal) v g w b u (ix2 t l) = u (ix2 t l) * mix (F := Ideal) v g w b (ix2 t l) := by
  unfold tile k0_pay2
  pointwise

/-- A group as it is stored. -/
theorem stored_apply (x : FVec Ideal S128x128 .f32) (t l : Fin 128) : stored (F := Ideal) x (ix2 t l) = x (ix2 t l) := by
  unfold stored
  pointwise

/-- A running sum of squares, entry by entry. -/
theorem sq_apply (p : FVec Ideal S128x1 .f32) (x : FVec Ideal S128x128 .f32) (t : Fin 128) :
    sq (F := Ideal) p x (ix2 t (0 : Fin 1)) = p (ix2 t (0 : Fin 1)) + ∑ i : Fin 128, x (ix2 t i) * x (ix2 t i) := by
  unfold sq
  pointwise

/-- Where it begins. -/
theorem sq_zero (t : Fin 128) : k0_pay6 (F := Ideal) (ix2 t (0 : Fin 1)) = 0 := by
  unfold k0_pay6
  pointwise

/-- A row of the attention branch over its root mean square. -/
theorem left_apply (x : FVec Ideal S128x2048 .f32) (g : FVec Ideal S1x2048 .f32) (t : Fin 128) (j : Fin 2048) :
    k0_pay5 (F := Ideal) x g (ix2 t j) = unit half (fun d => x (ix2 t d)) j * g (ix2 (0 : Fin 1) j) := by
  unfold k0_pay5
  pointwise
  rfl

/-- A gated row over the root of the mean of a sum of squares. -/
theorem right_apply (p : FVec Ideal S128x1 .f32) (y u : FVec Ideal S128x128 .f32) (r : FVec Ideal S128x2048 .f32) (g : FVec Ideal S1x2048 .f32) (t : Fin 128) (j : Fin 2048) :
    k0_pay4 (F := Ideal) p y u r g (ix2 t j)
      = r (ix2 t j) * FloatOps.rsqrt (F := Ideal) (φ := .f32) (FloatOps.divf (F := Ideal) (φ := .f32)
          (p (ix2 t (0 : Fin 1)) + ∑ i : Fin 128, k0_pay2 (F := Ideal) y u (ix2 t i) * k0_pay2 (F := Ideal) y u (ix2 t i)) half + eps) * g (ix2 (0 : Fin 1) j) := by
  unfold k0_pay4
  generalize k0_pay2 (F := Ideal) y u = z
  pointwise

/-! ## Loads -/

/-- A load of 128 rows and 128 columns. -/
theorem ld_square {n m : ℕ} (x : FVec Ideal ⟨2, ![n, m]⟩ .f32) (off : Fin 2 → ℕ) (inb : ∀ a, off a + S128x128.size a ≤ (⟨2, ![n, m]⟩ : Shape).size a) (r l : Fin 128)
    (R : Fin n) (J : Fin m) (h0 : R.val = off 0 + r.val) (h1 : J.val = off 1 + l.val) :
    View.ld (Val := Elt Ideal) (e' := .f32) x (Rect.unit (s := ⟨2, ![n, m]⟩) off S128x128.size inb) (ix2 r l) = x (ix2 R J) :=
  View.ld_unit_apply_of _ _ _ _ _ _ fun a => by
    match a with
    | ⟨0, _⟩ => exact h0
    | ⟨1, _⟩ => exact h1

/-- A load of a group of gains. -/
theorem ld_gains (x : FVec Ideal S1x2048 .f32) (off : Fin 2 → ℕ) (inb : ∀ a, off a + S1x128.size a ≤ S1x2048.size a) (g : Fin 16) (l : Fin 128)
    (h : off = ![0, g.val * 128]) : View.ld (Val := Elt Ideal) (e' := .f32) x (Rect.unit (s := S1x2048) off S1x128.size inb) (ix2 (0 : Fin 1) l) = x (ix2 (0 : Fin 1) (col g l)) :=
  View.ld_unit_apply_of _ _ _ _ _ _ fun a => by
    subst h
    match a with
    | ⟨0, _⟩ => rfl
    | ⟨1, _⟩ => rfl

/-- A load of a group's matrix. -/
theorem ld_matrix (x : FVec Ideal S16x128x128 .f32) (off : Fin 3 → ℕ) (inb : ∀ a, off a + S1x128x128.size a ≤ S16x128x128.size a) (g : Fin 16) (t s : Fin 128)
    (h : off = ![g.val, 0, 0]) : View.ld (Val := Elt Ideal) (e' := .f32) x (Rect.unit (s := S16x128x128) off S1x128x128.size inb) (ix3 (0 : Fin 1) t s) = x (ix3 g t s) :=
  View.ld_unit_apply_of _ _ _ _ _ _ fun a => by
    subst h
    match a with
    | ⟨0, _⟩ => rfl
    | ⟨1, _⟩ => show t.val = 0 + t.val; omega
    | ⟨2, _⟩ => show s.val = 0 + s.val; omega

/-- A row of 128 positions of a chunk. -/
def rowAt (k : Fin k0_t1_loop.trips) (t : Fin 128) : Fin 512 := ⟨k.val * 128 + t.val, by have := k.isLt; have := trips_eq; omega⟩

section Chunk

variable (x1 : FVec Ideal S512x2048 .f32) (x2 : FVec Ideal S512x4096 .f32) (x3 x4 : FVec Ideal S16x128x128 .f32) (x5 x6 x7 : FVec Ideal S1x2048 .f32)

/-- The gated rows of a block. -/
abbrev gatedBlock : Fin 512 → Fin 2048 → EReal :=
  gated (n := 512) (by norm_num) x2 (fun j => x5 (ix2 (0 : Fin 1) j)) (fun g t s => x3 (ix3 g t s)) (fun g t l => x4 (ix3 g t l))

/-- A group of a chunk's gated rows, from the loads of the group's operands. -/
theorem gate_of (k : Fin k0_t1_loop.trips) (g : Fin 16) (offv offu : Fin 2 → ℕ) (inbv : ∀ a, offv a + S128x128.size a ≤ S512x4096.size a) (inbu : ∀ a, offu a + S128x128.size a ≤ S512x4096.size a)
    (offg : Fin 2 → ℕ) (inbg : ∀ a, offg a + S1x128.size a ≤ S1x2048.size a) (offw : Fin 3 → ℕ) (inbw : ∀ a, offw a + S1x128x128.size a ≤ S16x128x128.size a)
    (hv : offv = ![k.val * 128, 2048 + g.val * 128]) (hu : offu = ![k.val * 128, g.val * 128]) (hg : offg = ![0, g.val * 128]) (hw : offw = ![g.val, 0, 0]) (t l : Fin 128) :
    tile (F := Ideal) (View.ld (Val := Elt Ideal) (e' := .f32) x2 (Rect.unit (s := S512x4096) offv S128x128.size inbv)) (View.ld (Val := Elt Ideal) (e' := .f32) x5 (Rect.unit (s := S1x2048) offg S1x128.size inbg))
      (View.ld (Val := Elt Ideal) (e' := .f32) x3 (Rect.unit (s := S16x128x128) offw S1x128x128.size inbw)) (View.ld (Val := Elt Ideal) (e' := .f32) x4 (Rect.unit (s := S16x128x128) offw S1x128x128.size inbw))
      (View.ld (Val := Elt Ideal) (e' := .f32) x2 (Rect.unit (s := S512x4096) offu S128x128.size inbu)) (ix2 t l)
      = gatedBlock x2 x3 x4 x5 (rowAt k t) (col g l) := by
  have hp : pos (rowAt k t) = t := Fin.ext (by
    show (k.val * 128 + t.val) % 128 = t.val
    omega)
  rw [tile_apply, mix_apply]
  unfold gatedBlock gated
  rw [grp_col, lane_col, hp]
  refine congrArg₂ (fun a b : EReal => a * b) ?_ (congrArg₂ (fun a b : EReal => a + b) (sum_of_terms fun s => congrArg₂ (fun a b : EReal => a * b) ?_ (congrArg₂ (fun a b : EReal => a * b) ?_ ?_)) ?_)
  · refine ld_square x2 offu inbu t l (rowAt k t) (lo (col g l)) ?_ ?_ <;> subst hu <;> rfl
  · exact congrArg (fun w => lower w t s) (funext fun t => funext fun s => ld_matrix x3 offw inbw g t s hw)
  · refine congrArg (fun f => unit headWidth f l) (funext fun i => ?_)
    refine ld_square x2 offv inbv s i (sameChunk (by norm_num) (rowAt k t) s) (hi (col g i)) ?_ ?_
    · subst hv
      show (k.val * 128 + t.val) / 128 * 128 + s.val = k.val * 128 + s.val
      omega
    · subst hv
      show 2048 + (g.val * 128 + i.val) = 2048 + g.val * 128 + i.val
      omega
  · exact ld_gains x5 offg inbg g l hg
  · exact ld_matrix x4 offw inbw g t l hw

/-- Group 0 of a chunk's gated rows. -/
theorem tile0_apply (k : Fin k0_t1_loop.trips) (t l : Fin 128) : tile0 (F := Ideal) x2 x3 x4 x5 k (ix2 t l) = gatedBlock x2 x3 x4 x5 (rowAt k t) (col 0 l) :=
  gate_of x2 x3 x4 x5 k 0 _ _ _ _ _ _ _ _ ((by decide +kernel : ∀ k, k0_off3 k = ![k.val * 128, 2048]) k) ((by decide +kernel : ∀ k, k0_off4 k = ![k.val * 128, 0]) k) rfl rfl t l

/-- Group 1 of a chunk's gated rows. -/
theorem tile1_apply (k : Fin k0_t1_loop.trips) (t l : Fin 128) : tile1 (F := Ideal) x2 x3 x4 x5 k (ix2 t l) = gatedBlock x2 x3 x4 x5 (rowAt k t) (col 1 l) :=
  gate_of x2 x3 x4 x5 k 1 _ _ _ _ _ _ _ _ ((by decide +kernel : ∀ k, k0_off5 k = ![k.val * 128, 2176]) k) ((by decide +kernel : ∀ k, k0_off6 k = ![k.val * 128, 128]) k) rfl rfl t l

/-- Group 2 of a chunk's gated rows. -/
theorem tile2_apply (k : Fin k0_t1_loop.trips) (t l : Fin 128) : tile2 (F := Ideal) x2 x3 x4 x5 k (ix2 t l) = gatedBlock x2 x3 x4 x5 (rowAt k t) (col 2 l) :=
  gate_of x2 x3 x4 x5 k 2 _ _ _ _ _ _ _ _ ((by decide +kernel : ∀ k, k0_off7 k = ![k.val * 128, 2304]) k) ((by decide +kernel : ∀ k, k0_off8 k = ![k.val * 128, 256]) k) rfl rfl t l

/-- Group 3 of a chunk's gated rows. -/
theorem tile3_apply (k : Fin k0_t1_loop.trips) (t l : Fin 128) : tile3 (F := Ideal) x2 x3 x4 x5 k (ix2 t l) = gatedBlock x2 x3 x4 x5 (rowAt k t) (col 3 l) :=
  gate_of x2 x3 x4 x5 k 3 _ _ _ _ _ _ _ _ ((by decide +kernel : ∀ k, k0_off9 k = ![k.val * 128, 2432]) k) ((by decide +kernel : ∀ k, k0_off10 k = ![k.val * 128, 384]) k) rfl rfl t l

/-- Group 4 of a chunk's gated rows. -/
theorem tile4_apply (k : Fin k0_t1_loop.trips) (t l : Fin 128) : tile4 (F := Ideal) x2 x3 x4 x5 k (ix2 t l) = gatedBlock x2 x3 x4 x5 (rowAt k t) (col 4 l) :=
  gate_of x2 x3 x4 x5 k 4 _ _ _ _ _ _ _ _ ((by decide +kernel : ∀ k, k0_off11 k = ![k.val * 128, 2560]) k) ((by decide +kernel : ∀ k, k0_off12 k = ![k.val * 128, 512]) k) rfl rfl t l

/-- Group 5 of a chunk's gated rows. -/
theorem tile5_apply (k : Fin k0_t1_loop.trips) (t l : Fin 128) : tile5 (F := Ideal) x2 x3 x4 x5 k (ix2 t l) = gatedBlock x2 x3 x4 x5 (rowAt k t) (col 5 l) :=
  gate_of x2 x3 x4 x5 k 5 _ _ _ _ _ _ _ _ ((by decide +kernel : ∀ k, k0_off13 k = ![k.val * 128, 2688]) k) ((by decide +kernel : ∀ k, k0_off14 k = ![k.val * 128, 640]) k) rfl rfl t l

/-- Group 6 of a chunk's gated rows. -/
theorem tile6_apply (k : Fin k0_t1_loop.trips) (t l : Fin 128) : tile6 (F := Ideal) x2 x3 x4 x5 k (ix2 t l) = gatedBlock x2 x3 x4 x5 (rowAt k t) (col 6 l) :=
  gate_of x2 x3 x4 x5 k 6 _ _ _ _ _ _ _ _ ((by decide +kernel : ∀ k, k0_off15 k = ![k.val * 128, 2816]) k) ((by decide +kernel : ∀ k, k0_off16 k = ![k.val * 128, 768]) k) rfl rfl t l

/-- Group 7 of a chunk's gated rows. -/
theorem tile7_apply (k : Fin k0_t1_loop.trips) (t l : Fin 128) : tile7 (F := Ideal) x2 x3 x4 x5 k (ix2 t l) = gatedBlock x2 x3 x4 x5 (rowAt k t) (col 7 l) :=
  gate_of x2 x3 x4 x5 k 7 _ _ _ _ _ _ _ _ ((by decide +kernel : ∀ k, k0_off17 k = ![k.val * 128, 2944]) k) ((by decide +kernel : ∀ k, k0_off18 k = ![k.val * 128, 896]) k) rfl rfl t l

/-- Group 8 of a chunk's gated rows. -/
theorem tile8_apply (k : Fin k0_t1_loop.trips) (t l : Fin 128) : tile8 (F := Ideal) x2 x3 x4 x5 k (ix2 t l) = gatedBlock x2 x3 x4 x5 (rowAt k t) (col 8 l) :=
  gate_of x2 x3 x4 x5 k 8 _ _ _ _ _ _ _ _ ((by decide +kernel : ∀ k, k0_off19 k = ![k.val * 128, 3072]) k) ((by decide +kernel : ∀ k, k0_off20 k = ![k.val * 128, 1024]) k) rfl rfl t l

/-- Group 9 of a chunk's gated rows. -/
theorem tile9_apply (k : Fin k0_t1_loop.trips) (t l : Fin 128) : tile9 (F := Ideal) x2 x3 x4 x5 k (ix2 t l) = gatedBlock x2 x3 x4 x5 (rowAt k t) (col 9 l) :=
  gate_of x2 x3 x4 x5 k 9 _ _ _ _ _ _ _ _ ((by decide +kernel : ∀ k, k0_off21 k = ![k.val * 128, 3200]) k) ((by decide +kernel : ∀ k, k0_off22 k = ![k.val * 128, 1152]) k) rfl rfl t l

/-- Group 10 of a chunk's gated rows. -/
theorem tile10_apply (k : Fin k0_t1_loop.trips) (t l : Fin 128) : tile10 (F := Ideal) x2 x3 x4 x5 k (ix2 t l) = gatedBlock x2 x3 x4 x5 (rowAt k t) (col 10 l) :=
  gate_of x2 x3 x4 x5 k 10 _ _ _ _ _ _ _ _ ((by decide +kernel : ∀ k, k0_off23 k = ![k.val * 128, 3328]) k) ((by decide +kernel : ∀ k, k0_off24 k = ![k.val * 128, 1280]) k) rfl rfl t l

/-- Group 11 of a chunk's gated rows. -/
theorem tile11_apply (k : Fin k0_t1_loop.trips) (t l : Fin 128) : tile11 (F := Ideal) x2 x3 x4 x5 k (ix2 t l) = gatedBlock x2 x3 x4 x5 (rowAt k t) (col 11 l) :=
  gate_of x2 x3 x4 x5 k 11 _ _ _ _ _ _ _ _ ((by decide +kernel : ∀ k, k0_off25 k = ![k.val * 128, 3456]) k) ((by decide +kernel : ∀ k, k0_off26 k = ![k.val * 128, 1408]) k) rfl rfl t l

/-- Group 12 of a chunk's gated rows. -/
theorem tile12_apply (k : Fin k0_t1_loop.trips) (t l : Fin 128) : tile12 (F := Ideal) x2 x3 x4 x5 k (ix2 t l) = gatedBlock x2 x3 x4 x5 (rowAt k t) (col 12 l) :=
  gate_of x2 x3 x4 x5 k 12 _ _ _ _ _ _ _ _ ((by decide +kernel : ∀ k, k0_off27 k = ![k.val * 128, 3584]) k) ((by decide +kernel : ∀ k, k0_off28 k = ![k.val * 128, 1536]) k) rfl rfl t l

/-- Group 13 of a chunk's gated rows. -/
theorem tile13_apply (k : Fin k0_t1_loop.trips) (t l : Fin 128) : tile13 (F := Ideal) x2 x3 x4 x5 k (ix2 t l) = gatedBlock x2 x3 x4 x5 (rowAt k t) (col 13 l) :=
  gate_of x2 x3 x4 x5 k 13 _ _ _ _ _ _ _ _ ((by decide +kernel : ∀ k, k0_off29 k = ![k.val * 128, 3712]) k) ((by decide +kernel : ∀ k, k0_off30 k = ![k.val * 128, 1664]) k) rfl rfl t l

/-- Group 14 of a chunk's gated rows. -/
theorem tile14_apply (k : Fin k0_t1_loop.trips) (t l : Fin 128) : tile14 (F := Ideal) x2 x3 x4 x5 k (ix2 t l) = gatedBlock x2 x3 x4 x5 (rowAt k t) (col 14 l) :=
  gate_of x2 x3 x4 x5 k 14 _ _ _ _ _ _ _ _ ((by decide +kernel : ∀ k, k0_off31 k = ![k.val * 128, 3840]) k) ((by decide +kernel : ∀ k, k0_off32 k = ![k.val * 128, 1792]) k) rfl rfl t l

/-- Group 15 of a chunk's gated rows. -/
theorem tile15_apply (k : Fin k0_t1_loop.trips) (t l : Fin 128) : tile15 (F := Ideal) x2 x3 x4 x5 k (ix2 t l) = gatedBlock x2 x3 x4 x5 (rowAt k t) (col 15 l) :=
  gate_of x2 x3 x4 x5 k 15 _ _ _ _ _ _ _ _ ((by decide +kernel : ∀ k, k0_off33 k = ![k.val * 128, 3968]) k) ((by decide +kernel : ∀ k, k0_off34 k = ![k.val * 128, 1920]) k) rfl rfl t l

end Chunk

end Cert.Proof.Mix

end
-- ==== Proof.Mix.Block.lean ====
/- What the body leaves in the result's block, entry by entry, from the inputs' blocks: the sixteen groups of a chunk side by
   side, their sum of squares, the two halves of a chunk, and the four chunks one below another. -/
module

public import proofs.«01_k».proof.Proof.Mix.Blocks

@[expose] public section

noncomputable section

namespace Cert.Proof.Mix

open Cert.Kernel4Ideal Cert.Kernel4Ideal.Gen Cert.Proof.Layer
open Idealize.ShloMosaic
open scoped BigOperators

variable (x1 : FVec Ideal S512x2048 .f32) (x2 : FVec Ideal S512x4096 .f32) (x3 x4 : FVec Ideal S16x128x128 .f32) (x5 x6 x7 : FVec Ideal S1x2048 .f32)

/-- The squares of a chunk's gated rows, summed over all the groups. -/
theorem ssq_apply (k : Fin k0_t1_loop.trips) (t : Fin 128) :
    sq (F := Ideal) (ssq14 (F := Ideal) x2 x3 x4 x5 k) (tile15 (F := Ideal) x2 x3 x4 x5 k) (ix2 t (0 : Fin 1))
      = ∑ j, gatedBlock x2 x3 x4 x5 (rowAt k t) j * gatedBlock x2 x3 x4 x5 (rowAt k t) j := by
  unfold ssq14 ssq13 ssq12 ssq11 ssq10 ssq9 ssq8 ssq7 ssq6 ssq5 ssq4 ssq3 ssq2 ssq1 ssq0
  simp only [sq_apply, sq_zero, tile0_apply, tile1_apply, tile2_apply, tile3_apply, tile4_apply, tile5_apply, tile6_apply, tile7_apply, tile8_apply, tile9_apply, tile10_apply, tile11_apply, tile12_apply, tile13_apply, tile14_apply, tile15_apply]
  rw [sum_groups]
  exact sum_sixteen fun g => ∑ l : Fin 128, gatedBlock x2 x3 x4 x5 (rowAt k t) (col g l) * gatedBlock x2 x3 x4 x5 (rowAt k t) (col g l)

/-- The sixteen groups side by side, read back. -/
theorem rows_apply (k : Fin k0_t1_loop.trips) (t : Fin 128) (j : Fin 2048) :
    rows (F := Ideal) x2 x3 x4 x5 k (ix2 t j) = gatedBlock x2 x3 x4 x5 (rowAt k t) j := by
  have part : ∀ (g : Fin 16) (p : S128x128.Idx → EReal), (∀ t l, p (ix2 t l) = gatedBlock x2 x3 x4 x5 (rowAt k t) (col g l)) →
      View.TileAt (Val := Elt Ideal) (e := .f32) (S := S128x2048) (ix2 t j) ![0, g.val * 128] S128x128.size (stored (F := Ideal) p) (gatedBlock x2 x3 x4 x5 (rowAt k t) j) := by
    intro g p hp x hx
    have e0 : t.val = 0 + (x 0).val := hx 0
    have e1 : j.val = g.val * 128 + (x 1).val := hx 1
    have l1 : (x 1).val < 128 := (x 1).isLt
    have hx' : x = ix2 t (⟨(x 1).val, l1⟩ : Fin 128) := Shape.idx_ext₂ (by show (x 0).val = t.val; omega) rfl
    have hj : col g (⟨(x 1).val, l1⟩ : Fin 128) = j := Fin.ext e1.symm
    rw [hx']
    exact (stored_apply p t _).trans ((hp t _).trans (congrArg _ hj))
  unfold rows rowPieces
  refine View.canon_eq_of_allAt _ _ _ (coverT _ _ _ _ _ _ _ _ _ _ _ _ _ _ _ _ _) ?_
  exact View.allAt_cons_unit _ _ _ _ _ (part 15 _ (tile15_apply x2 x3 x4 x5 k)) (View.allAt_cons_unit _ _ _ _ _ (part 14 _ (tile14_apply x2 x3 x4 x5 k)) (View.allAt_cons_unit _ _ _ _ _ (part 13 _ (tile13_apply x2 x3 x4 x5 k)) (View.allAt_cons_unit _ _ _ _ _ (part 12 _ (tile12_apply x2 x3 x4 x5 k)) (View.allAt_cons_unit _ _ _ _ _ (part 11 _ (tile11_apply x2 x3 x4 x5 k)) (View.allAt_cons_unit _ _ _ _ _ (part 10 _ (tile10_apply x2 x3 x4 x5 k)) (View.allAt_cons_unit _ _ _ _ _ (part 9 _ (tile9_apply x2 x3 x4 x5 k)) (View.allAt_cons_unit _ _ _ _ _ (part 8 _ (tile8_apply x2 x3 x4 x5 k)) (View.allAt_cons_unit _ _ _ _ _ (part 7 _ (tile7_apply x2 x3 x4 x5 k)) (View.allAt_cons_unit _ _ _ _ _ (part 6 _ (tile6_apply x2 x3 x4 x5 k)) (View.allAt_cons_unit _ _ _ _ _ (part 5 _ (tile5_apply x2 x3 x4 x5 k)) (View.allAt_cons_unit _ _ _ _ _ (part 4 _ (tile4_apply x2 x3 x4 x5 k)) (View.allAt_cons_unit _ _ _ _ _ (part 3 _ (tile3_apply x2 x3 x4 x5 k)) (View.allAt_cons_unit _ _ _ _ _ (part 2 _ (tile2_apply x2 x3 x4 x5 k)) (View.allAt_cons_unit _ _ _ _ _ (part 1 _ (tile1_apply x2 x3 x4 x5 k)) (View.allAt_cons_unit _ _ _ _ _ (part 0 _ (tile0_apply x2 x3 x4 x5 k)) (View.allAt_nil _ _))))))))))))))))

/-- What a chunk stores of the gated branch. -/
theorem rightPart_apply (k : Fin k0_t1_loop.trips) (t : Fin 128) (j : Fin 2048) :
    rightPart (F := Ideal) x2 x3 x4 x5 x7 k (ix2 t j) = unit half (gatedBlock x2 x3 x4 x5 (rowAt k t)) j * x7 (ix2 (0 : Fin 1) j) := by
  unfold rightPart rightOf
  have eg : View.ld (Val := Elt Ideal) (e' := .f32) x7 rRow = x7 := View.ld_unit_zero (Val := Elt Ideal) (e := .f32) (S := S1x2048) (by funext a; fin_cases a <;> rfl) _ x7
  have er : View.ld (Val := Elt Ideal) (e' := .f32) (rows (F := Ideal) x2 x3 x4 x5 k) rRows = rows (F := Ideal) x2 x3 x4 x5 k :=
    View.ld_unit_zero (Val := Elt Ideal) (e := .f32) (S := S128x2048) (by funext a; fin_cases a <;> rfl) _ _
  refine (right_apply _ _ _ _ _ t j).trans ?_
  rw [eg, er, rows_apply]
  refine congrArg (fun s : EReal => gatedBlock x2 x3 x4 x5 (rowAt k t) j * FloatOps.rsqrt (F := Ideal) (φ := .f32) (FloatOps.divf (F := Ideal) (φ := .f32) s half + eps) * x7 (ix2 (0 : Fin 1) j)) ?_
  exact (sq_apply _ (tile15 (F := Ideal) x2 x3 x4 x5 k) t).symm.trans (ssq_apply x2 x3 x4 x5 k t)

/-- What a chunk stores of the attention branch. -/
theorem leftPart_apply (k : Fin k0_t1_loop.trips) (t : Fin 128) (j : Fin 2048) :
    leftPart (F := Ideal) x1 x6 k (ix2 t j) = unit half (fun d => x1 (ix2 (rowAt k t) d)) j * x6 (ix2 (0 : Fin 1) j) := by
  unfold leftPart
  have eg : View.ld (Val := Elt Ideal) (e' := .f32) x6 rRow = x6 := View.ld_unit_zero (Val := Elt Ideal) (e := .f32) (S := S1x2048) (by funext a; fin_cases a <;> rfl) _ x6
  have hk : k0_off1 k = ![k.val * 128, 0] := (by decide +kernel : ∀ k, k0_off1 k = ![k.val * 128, 0]) k
  have ex : ∀ d : Fin 2048, View.ld (Val := Elt Ideal) (e' := .f32) x1 (rL k) (ix2 t d) = x1 (ix2 (rowAt k t) d) := fun d =>
    View.ld_unit_apply_of _ _ _ _ _ _ fun a => by
      match a with
      | ⟨0, _⟩ => exact (congrArg (· + t.val) (congrFun hk 0)).symm
      | ⟨1, _⟩ => exact ((congrArg (· + d.val) (congrFun hk 1)).trans (Nat.zero_add _)).symm
  refine (left_apply _ _ t j).trans ?_
  rw [eg, funext ex]

/-- What the body leaves in the result's block. -/
abbrev closingBlock : Fin 512 → Fin 4096 → EReal :=
  closing (n := 512) (by norm_num) x1 x2 (fun j => x5 (ix2 (0 : Fin 1) j)) (fun g t s => x3 (ix3 g t s)) (fun g t l => x4 (ix3 g t l)) (fun j => x6 (ix2 (0 : Fin 1) j)) (fun j => x7 (ix2 (0 : Fin 1) j))

/-- The four chunks one below another, read back. -/
theorem out7_apply (R : Fin 512) (J : Fin 4096) : out7 (F := Ideal) x1 x2 x3 x4 x5 x6 x7 (ix2 R J) = closingBlock x1 x2 x3 x4 x5 x6 x7 R J := by
  have left : ∀ k : Fin k0_t1_loop.trips,
      View.TileAt (Val := Elt Ideal) (e := .bf16) (S := S512x4096) (ix2 R J) (k0_off2 k) S128x2048.size (leftPart (F := Ideal) x1 x6 k) (closingBlock x1 x2 x3 x4 x5 x6 x7 R J) := by
    intro k
    rw [(by decide +kernel : ∀ k, k0_off2 k = ![k.val * 128, 0]) k]
    intro x hx
    have e0 : R.val = k.val * 128 + (x 0).val := hx 0
    have e1 : J.val = 0 + (x 1).val := hx 1
    have l0 : (x 0).val < 128 := (x 0).isLt
    have l1 : (x 1).val < 2048 := (x 1).isLt
    have hx' : x = ix2 (⟨(x 0).val, l0⟩ : Fin 128) (⟨(x 1).val, l1⟩ : Fin 2048) := Shape.idx_ext₂ rfl rfl
    have hR : rowAt k (⟨(x 0).val, l0⟩ : Fin 128) = R := Fin.ext e0.symm
    have hJ : J.val < 2048 := by omega
    have hj : (⟨(x 1).val, l1⟩ : Fin 2048) = ⟨J.val, hJ⟩ := Fin.ext (by show (x 1).val = J.val; omega)
    rw [hx']
    refine (leftPart_apply x1 x6 k _ _).trans ?_
    unfold closingBlock closing
    rw [dif_pos hJ, hR, hj]
  have right : ∀ k : Fin k0_t1_loop.trips,
      View.TileAt (Val := Elt Ideal) (e := .bf16) (S := S512x4096) (ix2 R J) (k0_off35 k) S128x2048.size (rightPart (F := Ideal) x2 x3 x4 x5 x7 k) (closingBlock x1 x2 x3 x4 x5 x6 x7 R J) := by
    intro k
    rw [(by decide +kernel : ∀ k, k0_off35 k = ![k.val * 128, 2048]) k]
    intro x hx
    have e0 : R.val = k.val * 128 + (x 0).val := hx 0
    have e1 : J.val = 2048 + (x 1).val := hx 1
    have l0 : (x 0).val < 128 := (x 0).isLt
    have l1 : (x 1).val < 2048 := (x 1).isLt
    have hx' : x = ix2 (⟨(x 0).val, l0⟩ : Fin 128) (⟨(x 1).val, l1⟩ : Fin 2048) := Shape.idx_ext₂ rfl rfl
    have hR : rowAt k (⟨(x 0).val, l0⟩ : Fin 128) = R := Fin.ext e0.symm
    have hJ : ¬J.val < 2048 := by omega
    have hj : (⟨(x 1).val, l1⟩ : Fin 2048) = ⟨J.val - 2048, by omega⟩ := Fin.ext (by show (x 1).val = J.val - 2048; omega)
    rw [hx']
    refine (rightPart_apply x2 x3 x4 x5 x7 k _ _).trans ?_
    unfold closingBlock closing
    rw [dif_neg hJ, hR, hj]
  unfold out7
  rw [parts_all]
  refine View.canon_eq_of_allAt _ _ _ (coverO _ _ _ _ _ _ _ _ _) ?_
  exact View.allAt_cons_unit _ _ _ _ _ (right c3) (View.allAt_cons_unit _ _ _ _ _ (left c3) (View.allAt_cons_unit _ _ _ _ _ (right c2) (View.allAt_cons_unit _ _ _ _ _ (left c2) (View.allAt_cons_unit _ _ _ _ _ (right c1) (View.allAt_cons_unit _ _ _ _ _ (left c1) (View.allAt_cons_unit _ _ _ _ _ (right c0) (View.allAt_cons_unit _ _ _ _ _ (left c0) (View.allAt_nil _ _))))))))

end Cert.Proof.Mix

end
-- ==== Proof.Mix.Body.lean ====
/- The kernel's body at one grid point: one trip of its loop (`trip`), the loop (`loopInv`), and the body's triple
   (`sound_kernel`), which leaves the result's block at `out7` of the inputs' blocks. -/
module

public import proofs.«01_k».proof.Proof.Mix.Chunk

@[expose] public section

set_option maxRecDepth 16384

noncomputable section

namespace Cert.Proof.Mix

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body calls nothing: no descent is needed. -/
abbrev 𝒱₀ : Variants := Variants.none

section Loop

variable (c : Dev nD) (i : grid0.Coords)
    (arg1 : Memref sig .tc .vmem S512x2048 .f32) (harg1 : arg1.IsWhole)
    (arg2 : Memref sig .tc .vmem S512x4096 .f32) (harg2 : arg2.IsWhole)
    (arg3 : Memref sig .tc .vmem S16x128x128 .f32) (harg3 : arg3.IsWhole)
    (arg4 : Memref sig .tc .vmem S16x128x128 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x4096 .bf16) (harg8 : arg8.IsWhole)
    (arg9 : Memref sig .tc .vmem S128x2048 .f32) (harg9 : arg9.IsWhole)

/-- The buffers a trip reads, at contents `X1` … `X7`, and the two it writes. -/
abbrev held (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} f8) ∗ (∃ f9, arg9.view.loc (c : Thread nD τ) ↦[arg9.view.set]{fullShare} f9))

set_option maxHeartbeats 1000000 in
/-- One trip: it stores the chunk's two halves. -/
theorem trip (bd : Option 𝒱₀.V) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (k : Fin k0_t1_loop.trips) :
    held c arg1 arg2 arg3 arg4 arg5 arg6 arg7 arg8 arg9 X1 X2 X3 X4 X5 X6 X7 f8
      ⊢ wp frame (wpE (defs₀ (F := F)) 𝒱₀ (c : Thread nD τ) bd) E (k0_t1_body (F := F) i arg1 harg1 arg2 harg2 arg3 harg3 arg4 harg4 arg5 harg5 arg6 harg6 arg7 harg7 arg8 harg8 arg9 harg9 k PUnit.unit)
        (fun _ => held c arg1 arg2 arg3 arg4 arg5 arg6 arg7 arg8 arg9 X1 X2 X3 X4 X5 X6 X7
          (arg8.view.writes (Elt F) f8 [⟨rOR k, rightPart (arg2.view.read (Elt F) X2) (arg3.view.read (Elt F) X3) (arg4.view.read (Elt F) X4) (arg5.view.read (Elt F) X5) (arg7.view.read (Elt F) X7) k⟩, ⟨rOL k, leftPart (arg1.view.read (Elt F) X1) (arg6.view.read (Elt F) X6) k⟩])) := by
  have hk : k.val < 4 := Nat.lt_of_lt_of_le k.isLt k0_t1_abs.2.1
  unfold k0_t1_body
  iintro ⟨H1, H2, H3, H4, H5, H6, H7, H8, ⟨%f9, H9⟩⟩
  sl_exec
  sl_step
  have s0 : trip.sl.r_2 arg2 arg3 arg4 arg5 X2 X3 X4 X5 k = ssq0 (arg2.view.read (Elt F) X2) (arg3.view.read (Elt F) X3) (arg4.view.read (Elt F) X4) (arg5.view.read (Elt F) X5) k := by
    delta trip.sl.r_2 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq0, tile0, sq, tile, mix, View.readAt_eq_ld]
    try rfl
  have s1 : trip.sl.r_5 arg2 arg3 arg4 arg5 X2 X3 X4 X5 k = ssq1 (arg2.view.read (Elt F) X2) (arg3.view.read (Elt F) X3) (arg4.view.read (Elt F) X4) (arg5.view.read (Elt F) X5) k := by
    delta trip.sl.r_5 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s0, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq1, tile1, sq, tile, mix, View.readAt_eq_ld]
    try rfl
  have s2 : trip.sl.r_7 arg2 arg3 arg4 arg5 X2 X3 X4 X5 k = ssq2 (arg2.view.read (Elt F) X2) (arg3.view.read (Elt F) X3) (arg4.view.read (Elt F) X4) (arg5.view.read (Elt F) X5) k := by
    delta trip.sl.r_7 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq2, tile2, sq, tile, mix, View.readAt_eq_ld]
    try rfl
  have s3 : trip.sl.r_9 arg2 arg3 arg4 arg5 X2 X3 X4 X5 k = ssq3 (arg2.view.read (Elt F) X2) (arg3.view.read (Elt F) X3) (arg4.view.read (Elt F) X4) (arg5.view.read (Elt F) X5) k := by
    delta trip.sl.r_9 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s2, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq3, tile3, sq, tile, mix, View.readAt_eq_ld]
    try rfl
  have s4 : trip.sl.r_11 arg2 arg3 arg4 arg5 X2 X3 X4 X5 k = ssq4 (arg2.view.read (Elt F) X2) (arg3.view.read (Elt F) X3) (arg4.view.read (Elt F) X4) (arg5.view.read (Elt F) X5) k := by
    delta trip.sl.r_11 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s3, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq4, tile4, sq, tile, mix, View.readAt_eq_ld]
    try rfl
  have s6 : trip.sl.r_13 arg2 arg3 arg4 arg5 X2 X3 X4 X5 k = ssq6 (arg2.view.read (Elt F) X2) (arg3.view.read (Elt F) X3) (arg4.view.read (Elt F) X4) (arg5.view.read (Elt F) X5) k := by
    delta trip.sl.r_13 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s4, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq6, ssq5, tile6, tile5, sq, tile, mix, View.readAt_eq_ld]
    try rfl
  have s7 : trip.sl.r_14 arg2 arg3 arg4 arg5 X2 X3 X4 X5 k = ssq7 (arg2.view.read (Elt F) X2) (arg3.view.read (Elt F) X3) (arg4.view.read (Elt F) X4) (arg5.view.read (Elt F) X5) k := by
    delta trip.sl.r_14 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s6, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq7, tile7, sq, tile, mix, View.readAt_eq_ld]
    try rfl
  have s8 : trip.sl.r_17 arg2 arg3 arg4 arg5 X2 X3 X4 X5 k = ssq8 (arg2.view.read (Elt F) X2) (arg3.view.read (Elt F) X3) (arg4.view.read (Elt F) X4) (arg5.view.read (Elt F) X5) k := by
    delta trip.sl.r_17 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s7, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq8, tile8, sq, tile, mix, View.readAt_eq_ld]
    try rfl
  have s9 : trip.sl.r_20 arg2 arg3 arg4 arg5 X2 X3 X4 X5 k = ssq9 (arg2.view.read (Elt F) X2) (arg3.view.read (Elt F) X3) (arg4.view.read (Elt F) X4) (arg5.view.read (Elt F) X5) k := by
    delta trip.sl.r_20 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s8, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq9, tile9, sq, tile, mix, View.readAt_eq_ld]
    try rfl
  have s10 : trip.sl.r_22 arg2 arg3 arg4 arg5 X2 X3 X4 X5 k = ssq10 (arg2.view.read (Elt F) X2) (arg3.view.read (Elt F) X3) (arg4.view.read (Elt F) X4) (arg5.view.read (Elt F) X5) k := by
    delta trip.sl.r_22 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s9, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq10, tile10, sq, tile, mix, View.readAt_eq_ld]
    try rfl
  have s11 : trip.sl.r_24 arg2 arg3 arg4 arg5 X2 X3 X4 X5 k = ssq11 (arg2.view.read (Elt F) X2) (arg3.view.read (Elt F) X3) (arg4.view.read (Elt F) X4) (arg5.view.read (Elt F) X5) k := by
    delta trip.sl.r_24 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s10, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq11, tile11, sq, tile, mix, View.readAt_eq_ld]
    try rfl
  have s12 : trip.sl.r_27 arg2 arg3 arg4 arg5 X2 X3 X4 X5 k = ssq12 (arg2.view.read (Elt F) X2) (arg3.view.read (Elt F) X3) (arg4.view.read (Elt F) X4) (arg5.view.read (Elt F) X5) k := by
    delta trip.sl.r_27 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s11, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq12, tile12, sq, tile, mix, View.readAt_eq_ld]
    try rfl
  have s13 : trip.sl.r_30 arg2 arg3 arg4 arg5 X2 X3 X4 X5 k = ssq13 (arg2.view.read (Elt F) X2) (arg3.view.read (Elt F) X3) (arg4.view.read (Elt F) X4) (arg5.view.read (Elt F) X5) k := by
    delta trip.sl.r_30 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s12, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq13, tile13, sq, tile, mix, View.readAt_eq_ld]
    try rfl
  have s14 : trip.sl.r_32 arg2 arg3 arg4 arg5 X2 X3 X4 X5 k = ssq14 (arg2.view.read (Elt F) X2) (arg3.view.read (Elt F) X3) (arg4.view.read (Elt F) X4) (arg5.view.read (Elt F) X5) k := by
    delta trip.sl.r_32 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [s13, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, ssq14, tile14, sq, tile, mix, View.readAt_eq_ld]
    try rfl
  have hr : trip.sl.H9_16 arg2 arg3 arg4 arg5 X2 X3 X4 X5 k = rowPieces (arg2.view.read (Elt F) X2) (arg3.view.read (Elt F) X3) (arg4.view.read (Elt F) X4) (arg5.view.read (Elt F) X5) k := by
    delta trip.sl.H9_16 trip.sl.r trip.sl.r_1 trip.sl.r_3 trip.sl.r_4 trip.sl.r_6 trip.sl.r_8 trip.sl.r_10 trip.sl.r_12 trip.sl.r_15 trip.sl.r_16 trip.sl.r_18 trip.sl.r_19 trip.sl.r_21 trip.sl.r_23 trip.sl.r_25 trip.sl.r_26 trip.sl.r_28 trip.sl.r_29 trip.sl.r_31 trip.sl.r_33
    simp only [k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, rowPieces, tile0, tile1, tile2, tile3, tile4, tile5, tile6, tile7, tile8, tile9, tile10, tile11, tile12, tile13, tile14, tile15, tile, mix, stored, View.readAt_eq_ld]
    try rfl
  have hv : trip.sl.v607 arg2 arg3 arg4 arg5 arg9 X2 X3 X4 X5 k = View.ld (rows (arg2.view.read (Elt F) X2) (arg3.view.read (Elt F) X3) (arg4.view.read (Elt F) X4) (arg5.view.read (Elt F) X5) k) rRows := by
    delta trip.sl.v607
    rw [View.readCov_eq_canon', hr]
    rfl
  have hm : trip.sl.r_33 arg2 arg3 arg4 arg5 X2 X3 X4 X5 k = mix (View.ld (arg2.view.read (Elt F) X2) (rV15 k)) (View.ld (arg5.view.read (Elt F) X5) rG15) (View.ld (arg3.view.read (Elt F) X3) rW15) (View.ld (arg4.view.read (Elt F) X4) rW15) := by
    delta trip.sl.r_33
    simp only [mix, View.readAt_eq_ld]
  rw [s14, hv, hm, View.readAt_eq_ld, View.readAt_eq_ld, View.readAt_eq_ld, View.readAt_eq_ld]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The loop's invariant: the buffers it reads are as they were, and the result's buffer holds the parts of the chunks
    before `n`. -/
abbrev loopAt (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G8 : BufTy.Contents (Elt F) arg8.view.ty) (n : ℕ) (_u : PUnit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (parts (arg1.view.read (Elt F) X1) (arg2.view.read (Elt F) X2) (arg3.view.read (Elt F) X3) (arg4.view.read (Elt F) X4) (arg5.view.read (Elt F) X5) (arg6.view.read (Elt F) X6) (arg7.view.read (Elt F) X7) n)⌝) ∗ (∃ f9, arg9.view.loc (c : Thread nD τ) ↦[arg9.view.set]{fullShare} f9))

/-- A chunk's two halves in front of the parts before it. -/
theorem parts_succ (x1 : Vec F S512x2048 .f32) (x2 : Vec F S512x4096 .f32) (x3 x4 : Vec F S16x128x128 .f32) (x5 x6 x7 : Vec F S1x2048 .f32) (k : Fin k0_t1_loop.trips) :
    parts x1 x2 x3 x4 x5 x6 x7 (k.val + 1) = [⟨rOR k, rightPart x2 x3 x4 x5 x7 k⟩, ⟨rOL k, leftPart x1 x6 k⟩] ++ parts x1 x2 x3 x4 x5 x6 x7 k.val := by
  rw [parts, dif_pos k.isLt]; rfl

set_option warn.classDefReducibility false in
/-- The loop by its invariant. -/
@[sl_loop] def loopInv (bd : Option 𝒱₀.V) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G8 : BufTy.Contents (Elt F) arg8.view.ty) :
    Idealize.ShloMosaic.LoopInv (M := 𝕄) Idealize.ShloMosaic.frame (wpE (defs₀ (F := F)) 𝒱₀ (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9) where
  inv := loopAt c arg1 arg2 arg3 arg4 arg5 arg6 arg7 arg8 arg9 X1 X2 X3 X4 X5 X6 X7 G8
  step k acc := by
    iintro ⟨H1, H2, H3, H4, H5, H6, H7, ⟨%f8, H8, %h8⟩, H9⟩
    iapply (wp_wand_r Idealize.ShloMosaic.frame (wpE (defs₀ (F := F)) 𝒱₀ (c : Thread nD τ) bd) E)
    isplitl [H1 H2 H3 H4 H5 H6 H7 H8 H9]
    · iapply (trip c i arg1 harg1 arg2 harg2 arg3 harg3 arg4 harg4 arg5 harg5 arg6 harg6 arg7 harg7 arg8 harg8 arg9 harg9 bd E X1 X2 X3 X4 X5 X6 X7 f8 k)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %_ ⟨H1, H2, H3, H4, H5, H6, H7, H8, H9⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro; rw [parts_succ, h8, ← View.writes_append]
      iexact H9

end Loop

/-! ## The body's triple -/

set_option maxHeartbeats 1000000 in
/-- The kernel's body, holding the windows' buffers and the scratch buffer, leaves the inputs as they were and the
    result at `out7` of the inputs' blocks. -/
theorem sound_kernel (c : Dev nD) (i : grid0.Coords)
    (arg1 : Memref sig .tc .vmem S512x2048 .f32) (harg1 : arg1.IsWhole)
    (arg2 : Memref sig .tc .vmem S512x4096 .f32) (harg2 : arg2.IsWhole)
    (arg3 : Memref sig .tc .vmem S16x128x128 .f32) (harg3 : arg3.IsWhole)
    (arg4 : Memref sig .tc .vmem S16x128x128 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S512x4096 .bf16) (harg8 : arg8.IsWhole)
    (arg9 : Memref sig .tc .vmem S128x2048 .f32) (harg9 : arg9.IsWhole)
    (x1 : Vec F S512x2048 .f32) (x2 : Vec F S512x4096 .f32) (x3 x4 : Vec F S16x128x128 .f32) (x5 x6 x7 : Vec F S1x2048 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
          ∗ owns (c : Thread nD τ) arg8 fullShare (out7 x1 x2 x3 x4 x5 x6 x7) ∗ (∃ d, owns (c : Thread nD τ) arg9 fullShare d)) -∗ K ⟨⟩))
      ⊢ wp frame (wpE (defs₀ (F := F)) 𝒱₀ c none) Set.univ (cc0_mix_norm i arg1 harg1 arg2 harg2 arg3 harg3 arg4 harg4 arg5 harg5 arg6 harg6 arg7 harg7 arg8 harg8 arg9 harg9) K := by
  simp only [cc0_mix_norm_eq_skeleton]; unfold cc0_mix_norm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine View.read_writes_eq_canon _ _ _ ?_
    rw [parts_all]
    exact coverO _ _ _ _ _ _ _ _
  iexists _; iexists _; isplitr
  swap; · iexact H9
  ipureintro; rfl

end Cert.Proof.Mix

end
-- ==== Proof.Mix.Launch.lean ====
/- From the body's triple to the run of the whole program: the pipeline's proof data (`dats`), the obligation at every grid
   point (`body_obligation`), the run (`run_main`), and what the result holds block by block (`block7`). -/
module

public import proofs.«01_k».proof.Proof.Mix.Body
public import proofs.«01_k».proof.Proof.Gen.Kernel4Ideal.Frame
public import Idealize.ShloMosaic.Lib.Pipeline.Value

@[expose] public section

set_option maxRecDepth 16384

noncomputable section

namespace Cert.Proof.Mix

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data: an input's buffer is left at its block, the result's at what the body computes of the
    inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- Window 0's buffer is left at its block. -/
theorem after_0 (c : Dev nD) (t : Fin cfg0.N) : (dats m 0 c).after 0 t = iblk m c 0 t := by dsimp only [dats]
/-- Window 0's buffer is found at its block. -/
theorem before_0 (c : Dev nD) (t : Fin cfg0.N) (d) : (dats m 0 c).before 0 t d = iblk m c 0 t :=
  before0_0_of m (dats m 0 c) (A_eq m c 0) (after_0 m c) t d
/-- Window 1's buffer is left at its block. -/
theorem after_1 (c : Dev nD) (t : Fin cfg0.N) : (dats m 0 c).after 1 t = iblk m c 1 t := by dsimp only [dats]
/-- Window 1's buffer is found at its block. -/
theorem before_1 (c : Dev nD) (t : Fin cfg0.N) (d) : (dats m 0 c).before 1 t d = iblk m c 1 t :=
  before0_1_of m (dats m 0 c) (A_eq m c 1) (after_1 m c) t d
/-- Window 2's buffer is left at its block. -/
theorem after_2 (c : Dev nD) (t : Fin cfg0.N) : (dats m 0 c).after 2 t = iblk m c 2 t := by dsimp only [dats]
/-- Window 2's buffer is found at its block. -/
theorem before_2 (c : Dev nD) (t : Fin cfg0.N) (d) : (dats m 0 c).before 2 t d = iblk m c 2 t :=
  before0_2_of m (dats m 0 c) (A_eq m c 2) (after_2 m c) t d
/-- Window 3's buffer is left at its block. -/
theorem after_3 (c : Dev nD) (t : Fin cfg0.N) : (dats m 0 c).after 3 t = iblk m c 3 t := by dsimp only [dats]
/-- Window 3's buffer is found at its block. -/
theorem before_3 (c : Dev nD) (t : Fin cfg0.N) (d) : (dats m 0 c).before 3 t d = iblk m c 3 t :=
  before0_3_of m (dats m 0 c) (A_eq m c 3) (after_3 m c) t d
/-- Window 4's buffer is left at its block. -/
theorem after_4 (c : Dev nD) (t : Fin cfg0.N) : (dats m 0 c).after 4 t = iblk m c 4 t := by dsimp only [dats]
/-- Window 4's buffer is found at its block. -/
theorem before_4 (c : Dev nD) (t : Fin cfg0.N) (d) : (dats m 0 c).before 4 t d = iblk m c 4 t :=
  before0_4_of m (dats m 0 c) (A_eq m c 4) (after_4 m c) t d
/-- Window 5's buffer is left at its block. -/
theorem after_5 (c : Dev nD) (t : Fin cfg0.N) : (dats m 0 c).after 5 t = iblk m c 5 t := by dsimp only [dats]
/-- Window 5's buffer is found at its block. -/
theorem before_5 (c : Dev nD) (t : Fin cfg0.N) (d) : (dats m 0 c).before 5 t d = iblk m c 5 t :=
  before0_5_of m (dats m 0 c) (A_eq m c 5) (after_5 m c) t d
/-- Window 6's buffer is left at its block. -/
theorem after_6 (c : Dev nD) (t : Fin cfg0.N) : (dats m 0 c).after 6 t = iblk m c 6 t := by dsimp only [dats]
/-- Window 6's buffer is found at its block. -/
theorem before_6 (c : Dev nD) (t : Fin cfg0.N) (d) : (dats m 0 c).before 6 t d = iblk m c 6 t :=
  before0_6_of m (dats m 0 c) (A_eq m c 6) (after_6 m c) t d
/-- Window 7's buffer is left at the body's result. -/
theorem after_7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

/-! ## The obligation at a grid point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The region's invariant is the scratch buffer, at any contents, and the generator register. -/
theorem inv_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

set_option maxHeartbeats 1000000 in
/-- The body at any point: the scratch buffer comes out of the region's invariant and returns to it. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq,
    after_0, after_1, after_2, after_3, after_4, after_5, after_6, after_7]
  iintro ⟨⟨H8, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [H8 Hp]
  · isplitl [H8]; · iexact H8
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: every execution ends, with the arrays at what the proof data says and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The run, read at the result and the arguments. -/
theorem run_main : θ_run defs (onTc (τ := τ) (main (F := F))) ⟨m, fun _ => 0, ρ⟩ fun r => (∀ c : Dev nD,
      r.2.mem ((c.tc : Thread nD τ).loc main_v5) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => ⟨(h.1 c).1 7,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_all m ρ)

/-! ## The result, block by block -/

/-- Distinct points write distinct blocks. -/
theorem index_inj7 : ∀ t t' : Fin cfg0.N, win0_7.index t = win0_7.index t' → t = t' :=
  (by decide +kernel : ∀ t t' : Fin grid0.N, win0_7.index t = win0_7.index t' → t = t')

/-- Block `t` of the result at the end of the run is what the body left at point `t`. -/
theorem block7 (c : Dev nD) (t : Fin cfg0.N) :
    ((cfg0.win 7).blk t).view.read (Elt F) ((dats m 0 c).arrAt 7 cfg0.N) = (cfg0.win 7).cut (grid0.coords t) (out7 (iblk m c 0 t) (iblk m c 1 t) (iblk m c 2 t) (iblk m c 3 t) (iblk m c 4 t) (iblk m c 5 t) (iblk m c 6 t)) := by
  refine ((dats m 0 c).read_blk_arrAt_eq_flushed 7 (fun t t' _ _ hne => (cfg0.win 7).disjoint_blk fun h => hne (index_inj7 t t' h)) cfg0.N t t.isLt (flush0_7 t)).trans ?_
  show (cfg0.win 7).cut (grid0.coords t) ((dats m 0 c).after 7 t) = _
  rw [after_7]

end Cert.Proof.Mix

end
-- ==== Proof.Mix.Array.lean ====
/- What the gating's result array holds, of its arguments. -/
module

public import proofs.«01_k».proof.Proof.Mix.Block
public import proofs.«01_k».proof.Proof.Mix.Launch
public import Idealize.ShloMosaic.Lib.StableHlo.ReadAt

@[expose] public section

noncomputable section

namespace Cert.Proof.Mix

open Cert.Kernel4Ideal Cert.Kernel4Ideal.Gen Cert.Proof.Layer
open Idealize.ShloMosaic Idealize.ShloMosaic.TcCoe Idealize.ShloMosaic.Tactic
open Idealize.ShloMosaic.Pipeline (Dat Cfg Window)
open scoped BigOperators

/-- Where block 0 lies. -/
theorem at0 : ∀ t : Fin cfg0.N, win0_0.index t = ![t.val, 0] := (by decide +kernel : ∀ t : Fin grid0.N, win0_0.index t = ![t.val, 0])
/-- Where block 1 lies. -/
theorem at1 : ∀ t : Fin cfg0.N, win0_1.index t = ![t.val, 0] := (by decide +kernel : ∀ t : Fin grid0.N, win0_1.index t = ![t.val, 0])
/-- Where block 2 lies. -/
theorem at2 : ∀ t : Fin cfg0.N, win0_2.index t = ![0, 0, 0] := (by decide +kernel : ∀ t : Fin grid0.N, win0_2.index t = ![0, 0, 0])
/-- Where block 3 lies. -/
theorem at3 : ∀ t : Fin cfg0.N, win0_3.index t = ![0, 0, 0] := (by decide +kernel : ∀ t : Fin grid0.N, win0_3.index t = ![0, 0, 0])
/-- Where block 4 lies. -/
theorem at4 : ∀ t : Fin cfg0.N, win0_4.index t = ![0, 0] := (by decide +kernel : ∀ t : Fin grid0.N, win0_4.index t = ![0, 0])
/-- Where block 5 lies. -/
theorem at5 : ∀ t : Fin cfg0.N, win0_5.index t = ![0, 0] := (by decide +kernel : ∀ t : Fin grid0.N, win0_5.index t = ![0, 0])
/-- Where block 6 lies. -/
theorem at6 : ∀ t : Fin cfg0.N, win0_6.index t = ![0, 0] := (by decide +kernel : ∀ t : Fin grid0.N, win0_6.index t = ![0, 0])
/-- Where block 7 lies. -/
theorem at7 : ∀ t : Fin cfg0.N, win0_7.index t = ![t.val, 0] := (by decide +kernel : ∀ t : Fin grid0.N, win0_7.index t = ![t.val, 0])

variable (m : (ℓ : Loc nD τ sig) → Buf (Elt Ideal) ℓ) (c : Dev nD)

/-- The result, of what the call is entered with. -/
theorem arr_entry : (dats (F := Ideal) m 0 c).arrAt 7 cfg0.N
    = fun y : S8192x4096.Idx => closing (n := 8192) (by norm_num) (V m c main_arg0) (V m c main_arg1) (fun j => V m c main_v2 (ix2 (0 : Fin 1) j))
        (fun g t s => V m c main_arg2 (ix3 g t s)) (fun g t l => V m c main_v1 (ix3 g t l)) (fun j => V m c main_v3 (ix2 (0 : Fin 1) j))
        (fun j => V m c main_v4 (ix2 (0 : Fin 1) j)) (y 0) (y 1) := by
  refine (dats m 0 c).arrAt_eq_of_covers 7 _ (by decide +kernel) fun t hf y => ?_
  blk_simp
  rw [after_7]
  have l0 : (y 0).val < 512 := (y 0).isLt
  have l1 : (y 1).val < 4096 := (y 1).isLt
  have hy : y = ix2 (⟨(y 0).val, l0⟩ : Fin 512) (⟨(y 1).val, l1⟩ : Fin 4096) := Shape.idx_ext₂ rfl rfl
  have e0 : (((win0_7.blk t).view.emb y) 0 : ℕ) = t.val * 512 + (y 0).val := by blk_simp [at7]
  have e1 : ((win0_7.blk t).view.emb y) 1 = (⟨(y 1).val, l1⟩ : Fin 4096) := Fin.ext (by blk_simp [at7])
  refine (congrArg _ hy).trans ((out7_apply _ _ _ _ _ _ _ _ _).trans ?_)
  show _ = closing (n := 8192) _ (V m c main_arg0) (V m c main_arg1) _ _ _ _ _ (((win0_7.blk t).view.emb y) 0) (((win0_7.blk t).view.emb y) 1)
  rw [e1]
  refine closing_congr _ _ _ ?_ (fun d => ?_) (fun d => ?_) (fun s d => ?_) (fun j => ?_) (fun g u s => ?_) (fun g u l => ?_) (fun j => ?_) fun j => ?_
  · show (y 0).val % 128 = (((win0_7.blk t).view.emb y) 0 : ℕ) % 128
    rw [e0]; omega
  · unfold iblk
    blk_simp
    refine congrArg (V m c main_arg0) (Shape.idx_ext₂ ?_ ?_)
    · show _ = (((win0_7.blk t).view.emb y) 0 : ℕ)
      rw [e0]; blk_simp [at0]
    · blk_simp [at0]
  · unfold iblk
    blk_simp
    refine congrArg (V m c main_arg1) (Shape.idx_ext₂ ?_ ?_)
    · show _ = (((win0_7.blk t).view.emb y) 0 : ℕ)
      rw [e0]; blk_simp [at1]
    · blk_simp [at1]
  · unfold iblk
    blk_simp
    refine congrArg (V m c main_arg1) (Shape.idx_ext₂ ?_ ?_)
    · show _ = (((win0_7.blk t).view.emb y) 0 : ℕ) / 128 * 128 + s.val
      rw [e0]; blk_simp [at1]
      show t.val * 512 + ((y 0).val / 128 * 128 + s.val) = _
      omega
    · blk_simp [at1]
  · unfold iblk
    blk_simp
    refine congrArg (V m c main_v2) (Shape.idx_ext₂ ?_ ?_) <;> blk_simp [at4]
  · unfold iblk
    blk_simp
    refine congrArg (V m c main_arg2) (funext fun a => Fin.ext ?_)
    fin_cases a <;> blk_simp [at2]
  · unfold iblk
    blk_simp
    refine congrArg (V m c main_v1) (funext fun a => Fin.ext ?_)
    fin_cases a <;> blk_simp [at3]
  · unfold iblk
    blk_simp
    refine congrArg (V m c main_v3) (Shape.idx_ext₂ ?_ ?_) <;> blk_simp [at5]
  · unfold iblk
    blk_simp
    refine congrArg (V m c main_v4) (Shape.idx_ext₂ ?_ ?_) <;> blk_simp [at6]

/-- The host repeats the offsets along a group's channels. -/
theorem offset_1 (g : Fin 16) (t l : Fin 128) : V m c main_v1 (ix3 g t l) = (m ((c : Thread nD τ).loc main_arg3)) (ix2 g t) := by
  show StableHlo.after hostOps0 (fun b => m (c, b)) main_v1 (ix3 g t l) = _
  after_reads_at

/-- The host lays the gains of the gating out as a row. -/
theorem row_2 (j : Fin 2048) : V m c main_v2 (ix2 (0 : Fin 1) j) = (m ((c : Thread nD τ).loc main_arg4)) (ix1 j) := by
  show StableHlo.after hostOps0 (fun b => m (c, b)) main_v2 (ix2 (0 : Fin 1) j) = _
  after_reads_at

/-- The host lays the gains of the attention branch out as a row. -/
theorem row_3 (j : Fin 2048) : V m c main_v3 (ix2 (0 : Fin 1) j) = (m ((c : Thread nD τ).loc main_arg5)) (ix1 j) := by
  show StableHlo.after hostOps0 (fun b => m (c, b)) main_v3 (ix2 (0 : Fin 1) j) = _
  after_reads_at

/-- The host lays the gains of the gated branch out as a row. -/
theorem row_4 (j : Fin 2048) : V m c main_v4 (ix2 (0 : Fin 1) j) = (m ((c : Thread nD τ).loc main_arg6)) (ix1 j) := by
  show StableHlo.after hostOps0 (fun b => m (c, b)) main_v4 (ix2 (0 : Fin 1) j) = _
  after_reads_at

/-- The result, of the arguments. -/
theorem arr_result : (dats (F := Ideal) m 0 c).arrAt 7 cfg0.N
    = fun y : S8192x4096.Idx => closing (n := 8192) (by norm_num) (m ((c : Thread nD τ).loc main_arg0)) (m ((c : Thread nD τ).loc main_arg1))
        (fun j => (m ((c : Thread nD τ).loc main_arg4)) (ix1 j)) (fun g t s => (m ((c : Thread nD τ).loc main_arg2)) (ix3 g t s))
        (fun g t _ => (m ((c : Thread nD τ).loc main_arg3)) (ix2 g t)) (fun j => (m ((c : Thread nD τ).loc main_arg5)) (ix1 j))
        (fun j => (m ((c : Thread nD τ).loc main_arg6)) (ix1 j)) (y 0) (y 1) := by
  refine (arr_entry m c).trans (funext fun y => ?_)
  rw [V_main_arg0, V_main_arg1, V_main_arg2]
  refine closing_congr _ _ _ rfl (fun _ => rfl) (fun _ => rfl) (fun _ _ => rfl) (row_2 m c) (fun _ _ _ => rfl) (offset_1 m c) (row_3 m c) (row_4 m c)

end Cert.Proof.Mix

end
-- ==== Proof.Mix.Reference.lean ====
/- What the reference of the spatial gating and of the norms that end it computes, entry by entry. -/
module

public import proofs.«01_k».proof.Proof.Mix.Math
public import proofs.«01_k».proof.Proof.Gen.Reference4Ideal.Run
public import Idealize.ShloMosaic.Lib.WordCmp

@[expose] public section

noncomputable section

namespace Cert.Proof.Mix.Ref

open Cert.Reference4Ideal Cert.Reference4Ideal.Gen Cert.Proof.Layer
open Idealize.ShloMosaic Idealize.ShloMosaic.TcCoe
open scoped BigOperators

/-- The norm of a branch. -/
def refNorm (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- Half of the columns by chunk, place in the chunk, group and place in the group: the left half, -/
def leftHalf (A : FVec Ideal S8192x4096 .f32) : FVec Ideal S64x128x16x128 .f32 :=
  shapeCast S64x128x16x128 (extractStridedSlice S8192x2048 ![0, 0] A slices_S8192x4096_S8192x2048_0_0 : FVec Ideal S8192x2048 .f32) shapeCasts_S8192x2048_S64x128x16x128

/-- and the right half. -/
def rightHalf (A : FVec Ideal S8192x4096 .f32) : FVec Ideal S64x128x16x128 .f32 :=
  shapeCast S64x128x16x128 (extractStridedSlice S8192x2048 ![0, 2048] A slices_S8192x4096_S8192x2048_0_2048 : FVec Ideal S8192x2048 .f32) shapeCasts_S8192x2048_S64x128x16x128

/-- Each group's row over its root mean square, times the gains. -/
def normGroups (V : FVec Ideal S64x128x16x128 .f32) (g : FVec Ideal S2048 .f32) : FVec Ideal S64x128x16x128 .f32 :=
  mulf (mulf V (broadcastInDim S64x128x16x128 ![0, 1, 2, 3] bcast_S64x128x16x1_S64x128x16x128_0_1_2_3 (Host.rsqrt (addf (Host.divf (broadcastInDim S64x128x16x1 ![0, 1, 2] bcast_S64x128x16_S64x128x16x1_0_1_2 (Host.reduceAdd (mulf V V) (constant S_ .f32 0x00000000#32) reducesTo_S64x128x16x128_S64x128x16_d3 h_S_)) (broadcastInDim S64x128x16x1 ![] bcast_S_S64x128x16x1 (constant S_ .f32 0x43000000#32))) (broadcastInDim S64x128x16x1 ![] bcast_S_S64x128x16x1 (constant S_ .f32 0x358637BD#32)))))) (broadcastInDim S64x128x16x128 ![0, 1, 2, 3] bcast_S1x1x16x128_S64x128x16x128_0_1_2_3 (broadcastInDim S1x1x16x128 ![2, 3] bcast_S16x128_S1x1x16x128_2_3 (shapeCast S16x128 g shapeCasts_S2048_S16x128)))

/-- The lower triangles. -/
def triangles (W : FVec Ideal S16x128x128 .f32) : FVec Ideal S16x128x128 .f32 :=
  select (broadcastInDim S16x128x128 ![1, 2] bcast_S128x128_S16x128x128_1_2 (cmpi .sge (addi (iotaInDim S128x128 32 0) (broadcastInDim S128x128 ![] bcast_S_S128x128 (constantI S_ 32 0#32))) (iotaInDim S128x128 32 1))) W (broadcastInDim S16x128x128 ![] bcast_S_S16x128x128 (constant S_ .f32 0x00000000#32))

/-- The mix of a chunk's rows. -/
def mixed (V : FVec Ideal S64x128x16x128 .f32) (T : FVec Ideal S16x128x128 .f32) : FVec Ideal S64x128x16x128 .f32 :=
  transpose S64x128x16x128 [1, 3, 0, 2] (Host.dotGeneral dot_S64x128x16x128_S16x128x128_S16x64x128x128_1_2_03_1_2_0 none V T) transposes_S16x64x128x128_S64x128x16x128_1_3_0_2

/-- The offsets, one for each group and place in the chunk. -/
def offsets (B : FVec Ideal S16x128 .f32) : FVec Ideal S64x128x16x128 .f32 :=
  broadcastInDim S64x128x16x128 ![0, 1, 2, 3] bcast_S1x128x16x1_S64x128x16x128_0_1_2_3 (broadcastInDim S1x128x16x1 ![1, 2, 3] bcast_S128x16x1_S1x128x16x1_1_2_3 (broadcastInDim S128x16x1 ![0, 1] bcast_S128x16_S128x16x1_0_1 (transpose S128x16 [1, 0] B transposes_S16x128_S128x16_1_0)))

/-- The gated rows. -/
def refGate (U M O : FVec Ideal S64x128x16x128 .f32) : FVec Ideal S8192x2048 .f32 :=
  shapeCast S8192x2048 (mulf U (addf M O)) shapeCasts_S64x128x16x128_S8192x2048

/-- The two branches side by side. -/
def refPair (a b : FVec Ideal S8192x2048 .f32) : FVec Ideal S8192x4096 .bf16 :=
  truncf .bf16 (concatenate S8192x4096 1 [⟨S8192x2048, a⟩, ⟨S8192x2048, b⟩] concatenates_S8192x2048_S8192x2048_S8192x4096_d1 : FVec Ideal S8192x4096 .f32) bitsLt_bf16_f32

/-- The norm, entry by entry. -/
theorem refNorm_apply (X : FVec Ideal S8192x2048 .f32) (g : FVec Ideal S2048 .f32) (t : Fin 8192) (j : Fin 2048) :
    refNorm X g (ix2 t j) = unit half (fun d => X (ix2 t d)) j * g (ix1 j) := by
  unfold refNorm
  pointwise
  rfl

/-- Position `s` of chunk `c`. -/
def posOf (c : Fin 64) (s : Fin 128) : Fin 8192 := ⟨c.val * 128 + s.val, by omega⟩

/-- The left half, entry by entry. -/
theorem leftHalf_apply (A : FVec Ideal S8192x4096 .f32) (c : Fin 64) (s : Fin 128) (g : Fin 16) (l : Fin 128) :
    leftHalf A (ix4 c s g l) = A (ix2 (posOf c s) (lo (col g l))) := by
  unfold leftHalf
  pointwise
  rfl

/-- The right half, entry by entry. -/
theorem rightHalf_apply (A : FVec Ideal S8192x4096 .f32) (c : Fin 64) (s : Fin 128) (g : Fin 16) (l : Fin 128) :
    rightHalf A (ix4 c s g l) = A (ix2 (posOf c s) (hi (col g l))) := by
  unfold rightHalf
  pointwise
  rfl

/-- The normalised groups, entry by entry. -/
theorem normGroups_apply (V : FVec Ideal S64x128x16x128 .f32) (G : FVec Ideal S2048 .f32) (c : Fin 64) (s : Fin 128) (g : Fin 16) (l : Fin 128) :
    normGroups V G (ix4 c s g l) = unit headWidth (fun i => V (ix4 c s g i)) l * G (ix1 (col g l)) := by
  unfold normGroups
  pointwise
  rfl

/-- The lower triangles, entry by entry. -/
theorem triangles_apply (W : FVec Ideal S16x128x128 .f32) (g : Fin 16) (t s : Fin 128) :
    triangles W (ix3 g t s) = lower (fun t s => W (ix3 g t s)) t s := by
  unfold triangles
  pointwise
  rw [show IntOp.addi (BitVec.ofNat 32 t.val) 0#32 = BitVec.ofNat 32 t.val from BitVec.add_zero _, WordCmp.cmpi_sge_ofNat (by omega) (by omega)]
  unfold lower
  by_cases h : s.val ≤ t.val
  · rw [if_pos h, decide_eq_true h]
    rfl
  · rw [if_neg h, decide_eq_false h]
    rfl

/-- The mix, entry by entry. -/
theorem mixed_apply (V : FVec Ideal S64x128x16x128 .f32) (T : FVec Ideal S16x128x128 .f32) (c : Fin 64) (t : Fin 128) (g : Fin 16) (l : Fin 128) :
    mixed V T (ix4 c t g l) = ∑ s : Fin 128, V (ix4 c s g l) * T (ix3 g t s) := by
  unfold mixed
  pointwise

/-- The offsets, entry by entry. -/
theorem offsets_apply (B : FVec Ideal S16x128 .f32) (c : Fin 64) (t : Fin 128) (g : Fin 16) (l : Fin 128) :
    offsets B (ix4 c t g l) = B (ix2 g t) := by
  unfold offsets
  pointwise

/-- The gated rows, entry by entry. -/
theorem refGate_apply (U M O : FVec Ideal S64x128x16x128 .f32) (c : Fin 64) (t : Fin 128) (g : Fin 16) (l : Fin 128) :
    refGate U M O (ix2 (posOf c t) (col g l)) = U (ix4 c t g l) * (M (ix4 c t g l) + O (ix4 c t g l)) := by
  unfold refGate
  pointwise
  rw [show (⟨(posOf c t).val / 128, by have h := (posOf c t).isLt; omega⟩ : Fin 64) = c from Fin.ext (by show (c.val * 128 + t.val) / 128 = c.val; omega),
    show (⟨(posOf c t).val % 128, Nat.mod_lt _ (by norm_num)⟩ : Fin 128) = t from Fin.ext (by show (c.val * 128 + t.val) % 128 = t.val; omega),
    show (⟨(col g l).val / 128, by have h := (col g l).isLt; omega⟩ : Fin 16) = g from grp_col g l,
    show (⟨(col g l).val % 128, Nat.mod_lt _ (by norm_num)⟩ : Fin 128) = l from lane_col g l]

/-- The two branches: the left one, -/
theorem refPair_left (a b : FVec Ideal S8192x2048 .f32) (t : Fin 8192) (j : Fin 2048) : refPair a b (ix2 t (lo j)) = a (ix2 t j) := by
  unfold refPair
  pointwise
  exact dif_pos j.isLt

/-- and the right one. -/
theorem refPair_right (a b : FVec Ideal S8192x2048 .f32) (t : Fin 8192) (j : Fin 2048) : refPair a b (ix2 t (hi j)) = b (ix2 t j) := by
  unfold refPair
  pointwise
  refine (dif_neg (by show ¬2048 + j.val < 2048; omega)).trans (congrArg (fun j => b (ix2 t j)) (Fin.ext ?_))
  show 2048 + j.val - 2048 = j.val
  omega

/-- The reference's result, of its arguments. -/
def refClosing (X : FVec Ideal S8192x2048 .f32) (A : FVec Ideal S8192x4096 .f32) (W : FVec Ideal S16x128x128 .f32) (B : FVec Ideal S16x128 .f32)
    (G gx gs : FVec Ideal S2048 .f32) : FVec Ideal S8192x4096 .bf16 :=
  refPair (refNorm X gx) (refNorm (refGate (leftHalf A) (mixed (normGroups (rightHalf A) G) (triangles W)) (offsets B)) gs)

theorem result (m : (l : Loc nD τ sig) → Buf (Elt Ideal) l) (c : Dev nD) :
    Value.res_main_v55 m c = refClosing (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- The gated rows of the reference are the gated rows. -/
theorem gate_apply (A : FVec Ideal S8192x4096 .f32) (W : FVec Ideal S16x128x128 .f32) (B : FVec Ideal S16x128 .f32) (G : FVec Ideal S2048 .f32) (R : Fin 8192) (j : Fin 2048) :
    refGate (leftHalf A) (mixed (normGroups (rightHalf A) G) (triangles W)) (offsets B) (ix2 R j)
      = gated (n := 8192) (by norm_num) A (fun j => G (ix1 j)) (fun g t s => W (ix3 g t s)) (fun g t _ => B (ix2 g t)) R j := by
  have hR : posOf (⟨R.val / 128, by omega⟩ : Fin 64) (pos R) = R := Fin.ext (by
    show R.val / 128 * 128 + R.val % 128 = R.val
    omega)
  have e : refGate (leftHalf A) (mixed (normGroups (rightHalf A) G) (triangles W)) (offsets B) (ix2 R j)
      = refGate (leftHalf A) (mixed (normGroups (rightHalf A) G) (triangles W)) (offsets B) (ix2 (posOf (⟨R.val / 128, by omega⟩ : Fin 64) (pos R)) (col (grp j) (lane j))) := by
    rw [hR, col_grp]
  refine e.trans ((refGate_apply _ _ _ _ _ _ _).trans ?_)
  rw [leftHalf_apply, mixed_apply, offsets_apply, hR, col_grp]
  unfold gated
  refine congrArg (fun s : EReal => A (ix2 R (lo j)) * (s + B (ix2 (grp j) (pos R)))) (sum_of_terms fun s => ?_)
  rw [normGroups_apply, triangles_apply, mul_comm, col_grp]
  refine congrArg (fun f : Fin 128 → EReal => lower (fun t s => W (ix3 (grp j) t s)) (pos R) s * (unit headWidth f (lane j) * G (ix1 j))) (funext fun i => ?_)
  exact rightHalf_apply A _ s (grp j) i

/-- The reference's result at an entry. -/
theorem refClosing_apply (X : FVec Ideal S8192x2048 .f32) (A : FVec Ideal S8192x4096 .f32) (W : FVec Ideal S16x128x128 .f32) (B : FVec Ideal S16x128 .f32)
    (G gx gs : FVec Ideal S2048 .f32) (R : Fin 8192) (J : Fin 4096) : refClosing X A W B G gx gs (ix2 R J)
      = closing (n := 8192) (by norm_num) X A (fun j => G (ix1 j)) (fun g t s => W (ix3 g t s)) (fun g t _ => B (ix2 g t)) (fun j => gx (ix1 j)) (fun j => gs (ix1 j)) R J := by
  unfold closing refClosing
  by_cases h : J.val < 2048
  · rw [dif_pos h]
    exact (refPair_left _ _ R ⟨J.val, h⟩).trans (refNorm_apply _ _ _ _)
  · have hJ : J = hi ⟨J.val - 2048, by omega⟩ := Fin.ext (by show J.val = 2048 + (J.val - 2048); omega)
    rw [dif_neg h]
    refine (congrArg (fun J => refPair _ _ (ix2 R J)) hJ).trans ((refPair_right _ _ _ _).trans ((refNorm_apply _ _ _ _).trans ?_))
    rw [funext (gate_apply A W B G R)]

/-- The reference's result. -/
theorem refClosing_eq (X : FVec Ideal S8192x2048 .f32) (A : FVec Ideal S8192x4096 .f32) (W : FVec Ideal S16x128x128 .f32) (B : FVec Ideal S16x128 .f32)
    (G gx gs : FVec Ideal S2048 .f32) : refClosing X A W B G gx gs = fun y : S8192x4096.Idx =>
      closing (n := 8192) (by norm_num) X A (fun j => G (ix1 j)) (fun g t s => W (ix3 g t s)) (fun g t _ => B (ix2 g t)) (fun j => gx (ix1 j)) (fun j => gs (ix1 j)) (y 0) (y 1) := by
  funext y
  have hy : y = ix2 (y 0 : Fin 8192) (y 1 : Fin 4096) := Shape.idx_ext₂ rfl rfl
  exact (congrArg _ hy).trans (refClosing_apply X A W B G gx gs (y 0) (y 1))

end Cert.Proof.Mix.Ref

end
-- ==== Proof.Mix.Equation.lean ====
/- The claims of the spatial gating and of the norms that end it: the frames, and that at the extended reals it and its
   reference end with the same result. -/
module

public import proofs.«01_k».proof.Defs
public import proofs.«01_k».proof.Proof.Mix.Array
public import proofs.«01_k».proof.Proof.Mix.Reference
public import proofs.«01_k».proof.Proof.MixK.Launch
public import Idealize.ShloMosaic.Adequacy
public import Idealize.ShloMosaic.Init

@[expose] public section

noncomputable section

namespace Cert.Proof.Mix

open Idealize.ShloMosaic Idealize.SL.Sem Cert.Proof.Layer

attribute [local instance] Cert.Kernel4.Gen.facts Cert.Kernel4Ideal.Gen.facts Cert.Reference4Ideal.Gen.facts

/-- The call runs to the end, its arguments unchanged and every semaphore counter at zero. -/
theorem frame_kernel : Cert.quiescent_Kernel4 := fun m ρ _ =>
  (θ_run (Cert.Kernel4.defs (F := Bits)) _ _).mono (fun _ h => ⟨fun c => (h.1 c).2, h.2⟩) (MixK.run_main (F := Bits) m ρ)

/-- So does the call at the extended reals. -/
theorem frame_ideal : Cert.quiescent_Kernel4Ideal := fun m ρ _ =>
  (θ_run (Cert.Kernel4Ideal.defs (F := Ideal)) _ _).mono (fun _ h => ⟨fun c => (h.1 c).2, h.2⟩) (run_main (F := Ideal) m ρ)

/-- So does its reference, which has no semaphore. -/
theorem frame_reference : Cert.quiescent_Reference4Ideal := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

/-- From memories that agree on the arguments, the call and its reference both run to the end, with the same result, and change
    no argument. -/
theorem algebraic : Cert.algebraic_Kernel4Ideal_Reference4Ideal := by
  intro m g m' g' _ hm
  refine ⟨fun c => (dats (F := Ideal) m 0 c).arrAt 7 Cert.Kernel4Ideal.cfg0.N, ?_, ?_⟩
  · exact (θ_run (Cert.Kernel4Ideal.defs (F := Ideal)) _ _).mono (fun r h c => h.1 c) (run_main (F := Ideal) m g)
  · refine (θ_run (Cert.Reference4Ideal.defs (F := Ideal)) _ _).mono (fun r h c => ?_) (Cert.Reference4Ideal.Value.run (F := Ideal) m' g')
    obtain ⟨h0, ha⟩ := h c
    obtain ⟨a0, a1, a2, a3, a4, a5, a6⟩ := hm c
    refine ⟨h0.trans ?_, ha⟩
    rw [Ref.result, a0, a1, a2, a3, a4, a5, a6]
    exact (Ref.refClosing_eq _ _ _ _ _ _ _).trans (arr_result m c).symm

end Cert.Proof.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Equation
public import proofs.«01_k».proof.Proof.Project.Equation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Close.Equation
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Mix.Equation
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Loops
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Loops
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_ideal, frame_reference, Project.frame_kernel, Project.frame_ideal, Project.frame_reference,
  Close.frame_kernel, Close.frame_ideal, Close.frame_reference, Mix.frame_kernel, Mix.frame_ideal, Mix.frame_reference,
  names, algebraic, Project.names, Project.algebraic, trivial, Close.algebraic,
  trivial, Mix.algebraic⟩

end Cert.Proof

end
